-- ==== Defs.lean ====
def Pre_Kernel [hPre_in_grid : Cert.Pre_in_grid.Facts] (m : (ℓ : Loc Cert.Kernel.nD Cert.Kernel.τ Cert.Kernel.sig) → Buf (Elt Bits) ℓ) : Prop :=
  ∀ c : Dev Cert.Kernel.nD,
    (Cert.Pre_in_grid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_grid : Cert.Pre_in_grid.Facts] (m : (ℓ : Loc Cert.KernelIdeal.nD Cert.KernelIdeal.τ Cert.KernelIdeal.sig) → Buf (Elt Ideal) ℓ) : Prop :=
  ∀ c : Dev Cert.KernelIdeal.nD,
    (Cert.Pre_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_in_grid_bn [hPre_in_grid_bn : Cert.Pre_in_grid_bn.Facts] (m : (ℓ : Loc Cert.KernelIdeal.nD Cert.KernelIdeal.τ Cert.KernelIdeal.sig) → Buf (Elt Ideal) ℓ) : Prop :=
  ∀ c : Dev Cert.KernelIdeal.nD,
    (Cert.Pre_in_grid_bn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_grid_bn [hPre_in_grid_bn : Cert.Pre_in_grid_bn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_grid_bn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_grid : Cert.Pre_in_grid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_grid : Cert.Pre_in_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_grid_bn [hKernelIdeal : Cert.KernelIdeal.Facts] [hPre_in_grid_bn : Cert.Pre_in_grid_bn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_grid_bn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_grid_bn [hReferenceIdeal : Cert.ReferenceIdeal.Facts] [hPre_in_grid_bn : Cert.Pre_in_grid_bn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_grid_bn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_grid_bn [hKernelIdeal : Cert.KernelIdeal.Facts] [hReferenceIdeal : Cert.ReferenceIdeal.Facts] [hPre_in_grid_bn : Cert.Pre_in_grid_bn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_grid_bn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_grid : Cert.Pre_in_grid.Facts) (hPre_in_grid_bn : Cert.Pre_in_grid_bn.Facts),
    quiescent_Kernel (hKernel := hKernel) (hPre_in_grid := hPre_in_grid)
    ∧ quiescent_KernelIdeal (hKernelIdeal := hKernelIdeal) (hPre_in_grid := hPre_in_grid)
    ∧ quiescent_KernelIdeal_pre_in_grid_bn (hKernelIdeal := hKernelIdeal) (hPre_in_grid_bn := hPre_in_grid_bn)
    ∧ quiescent_ReferenceIdeal (hReferenceIdeal := hReferenceIdeal)
    ∧ quiescent_ReferenceIdeal_pre_in_grid_bn (hReferenceIdeal := hReferenceIdeal) (hPre_in_grid_bn := hPre_in_grid_bn)
    ∧ preserves_Kernel_KernelIdeal
    ∧ algebraic_KernelIdeal_ReferenceIdeal_pre_in_grid_bn (hKernelIdeal := hKernelIdeal) (hReferenceIdeal := hReferenceIdeal) (hPre_in_grid_bn := hPre_in_grid_bn)
-- ==== Pre_in_grid.lean ====
abbrev S2x4x12000x100 : Shape := ⟨4, ![2, 4, 12000, 100]⟩
abbrev S2x12000x2 : Shape := ⟨3, ![2, 12000, 2]⟩
abbrev S64x4 : Shape := ⟨2, ![64, 4]⟩
abbrev S64 : Shape := ⟨1, ![64]⟩
abbrev S_ : Shape := ⟨0, ![]⟩

class Facts : Prop where
  bcast_S_S2x12000x2 : S_.BroadcastsInDim S2x12000x2 (![] : Fin 0 → Fin S2x12000x2.rank)
  reducesTo_S2x12000x2_S_d0_1_2 : S2x12000x2.ReducesTo [0, 1, 2] S_
  h_S_ : 0 < S_.numel

variable [Facts]

def fn {F : FTy → Type} [FloatOps F] (main_arg0 : FVec F S2x4x12000x100 .f32) (main_arg1 : IVec S2x12000x2 32) (main_arg2 : FVec F S64x4 .f32) (main_arg3 : FVec F S64 .f32) (main_arg4 : FVec F S64 .f32) : IVec S_ 1 :=
  let main_c : IVec S_ 32 := constantI S_ 32 0#32
  let main_v0 : IVec S2x12000x2 32 := broadcastInDim S2x12000x2 ![] bcast_S_S2x12000x2 main_c
  let main_v1 : IVec S2x12000x2 1 := cmpi .sge main_arg1 main_v0
  let main_c_0 : IVec S_ 32 := constantI S_ 32 432#32
  let main_v2 : IVec S2x12000x2 32 := broadcastInDim S2x12000x2 ![] bcast_S_S2x12000x2 main_c_0
  let main_v3 : IVec S2x12000x2 1 := cmpi .slt main_arg1 main_v2
  let main_v4 : IVec S2x12000x2 1 := andi main_v1 main_v3
  let main_c_1 : IVec S_ 1 := constantI S_ 1 1#1
  let main_v5 : IVec S_ 1 := (fun x v => Host.reduce IntOp.andi x v reducesTo_S2x12000x2_S_d0_1_2 h_S_) main_v4 main_c_1
  main_v5
-- ==== Pre_in_grid_bn.lean ====
abbrev S2x4x12000x100 : Shape := ⟨4, ![2, 4, 12000, 100]⟩
abbrev S2x12000x2 : Shape := ⟨3, ![2, 12000, 2]⟩
abbrev S64x4 : Shape := ⟨2, ![64, 4]⟩
abbrev S64 : Shape := ⟨1, ![64]⟩
abbrev S_ : Shape := ⟨0, ![]⟩

class Facts : Prop where
  bcast_S_S2x12000x2 : S_.BroadcastsInDim S2x12000x2 (![] : Fin 0 → Fin S2x12000x2.rank)
  reducesTo_S2x12000x2_S_d0_1_2 : S2x12000x2.ReducesTo [0, 1, 2] S_
  h_S_ : 0 < S_.numel
  bcast_S_S2x4x12000x100 : S_.BroadcastsInDim S2x4x12000x100 (![] : Fin 0 → Fin S2x4x12000x100.rank)
  reducesTo_S2x4x12000x100_S_d0_1_2_3 : S2x4x12000x100.ReducesTo [0, 1, 2, 3] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg3 : FVec F S64 .f32) (main_v15 : IVec S_ 1) (main_v16 : FVec F S64 .f32) : IVec S_ 1 :=
  let main_cst_5 : FVec F S_ .f32 := constant S_ .f32 0x7F800000#32
  let main_v17 : FVec F S64 .f32 := broadcastInDim S64 ![] bcast_S_S64 main_cst_5
  let main_v18 : IVec S64 1 := cmpf .olt main_v16 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v15 main_v19
  let main_cst_7 : FVec F S_ .f32 := constant S_ .f32 0x00000000#32
  let main_v21 : FVec F S64 .f32 := broadcastInDim S64 ![] bcast_S_S64 main_cst_7
  let main_v22 : IVec S64 1 := cmpf .oge main_arg3 main_v21
  let main_c_8 : IVec S_ 1 := constantI S_ 1 1#1
  let main_v23 : IVec S_ 1 := (fun x v => Host.reduce IntOp.andi x v reducesTo_S64_S_d0 h_S_) main_v22 main_c_8
  let main_v24 : IVec S_ 1 := andi main_v20 main_v23
  main_v24

def fn {F : FTy → Type} [FloatOps F] (main_arg0 : FVec F S2x4x12000x100 .f32) (main_arg1 : IVec S2x12000x2 32) (main_arg2 : FVec F S64x4 .f32) (main_arg3 : FVec F S64 .f32) (main_arg4 : FVec F S64 .f32) : IVec S_ 1 :=
  let main_c : IVec S_ 32 := constantI S_ 32 0#32
  let main_v0 : IVec S2x12000x2 32 := broadcastInDim S2x12000x2 ![] bcast_S_S2x12000x2 main_c
  let main_v1 : IVec S2x12000x2 1 := cmpi .sge main_arg1 main_v0
  let main_c_0 : IVec S_ 32 := constantI S_ 32 432#32
  let main_v2 : IVec S2x12000x2 32 := broadcastInDim S2x12000x2 ![] bcast_S_S2x12000x2 main_c_0
  let main_v3 : IVec S2x12000x2 1 := cmpi .slt main_arg1 main_v2
  let main_v4 : IVec S2x12000x2 1 := andi main_v1 main_v3
  let main_c_1 : IVec S_ 1 := constantI S_ 1 1#1
  let main_v5 : IVec S_ 1 := (fun x v => Host.reduce IntOp.andi x v reducesTo_S2x12000x2_S_d0_1_2 h_S_) main_v4 main_c_1
  let main_v6 : FVec F S2x4x12000x100 .f32 := Host.absf main_arg0
  let main_cst : FVec F S_ .f32 := constant S_ .f32 0x7F800000#32
  let main_v7 : FVec F S2x4x12000x100 .f32 := broadcastInDim S2x4x12000x100 ![] bcast_S_S2x4x12000x100 main_cst
  let main_v8 : IVec S2x4x12000x100 1 := cmpf .olt main_v6 main_v7
  let main_c_2 : IVec S_ 1 := constantI S_ 1 1#1
  let main_v9 : IVec S_ 1 := (fun x v => Host.reduce IntOp.andi x v reducesTo_S2x4x12000x100_S_d0_1_2_3 h_S_) main_v8 main_c_2
  let main_v10 : IVec S_ 1 := andi main_v5 main_v9
  let main_v11 : FVec F S64x4 .f32 := Host.absf main_arg2
  let main_cst_3 : FVec F S_ .f32 := constant S_ .f32 0x7F800000#32
  let main_v12 : FVec F S64x4 .f32 := broadcastInDim S64x4 ![] bcast_S_S64x4 main_cst_3
  let main_v13 : IVec S64x4 1 := cmpf .olt main_v11 main_v12
  let main_c_4 : IVec S_ 1 := constantI S_ 1 1#1
  let main_v14 : IVec S_ 1 := (fun x v => Host.reduce IntOp.andi x v reducesTo_S64x4_S_d0_1 h_S_) main_v13 main_c_4
  let main_v15 : IVec S_ 1 := andi main_v10 main_v14
  let main_v16 : FVec F S64 .f32 := Host.absf main_arg3
  fn_part1 (F := F) main_arg3 main_v15 main_v16
-- ==== Kernel.lean ====
abbrev S2x4x12000x100 : Shape := ⟨4, ![2, 4, 12000, 100]⟩
abbrev S2x12000x2 : Shape := ⟨3, ![2, 12000, 2]⟩
abbrev S64x4 : Shape := ⟨2, ![64, 4]⟩
abbrev S64 : Shape := ⟨1, ![64]⟩
abbrev S2x64x96x128 : Shape := ⟨4, ![2, 64, 96, 128]⟩
abbrev S8x128 : Shape := ⟨2, ![8, 128]⟩
abbrev S1x4x1024x100 : Shape := ⟨4, ![1, 4, 1024, 100]⟩
abbrev S1x64x8x128 : Shape := ⟨4, ![1, 64, 8, 128]⟩
abbrev S1x4x256x100 : Shape := ⟨4, ![1, 4, 256, 100]⟩
abbrev S4x256x100 : Shape := ⟨3, ![4, 256, 100]⟩
abbrev S4x256x28 : Shape := ⟨3, ![4, 256, 28]⟩
abbrev S4x256x128 : Shape := ⟨3, ![4, 256, 128]⟩
abbrev S4x32768 : Shape := ⟨2, ![4, 32768]⟩
abbrev S32768x64 : Shape := ⟨2, ![32768, 64]⟩
abbrev S256x128x64 : Shape := ⟨3, ![256, 128, 64]⟩
abbrev S256x64x64 : Shape := ⟨3, ![256, 64, 64]⟩
abbrev S256x32x64 : Shape := ⟨3, ![256, 32, 64]⟩
abbrev S256x16x64 : Shape := ⟨3, ![256, 16, 64]⟩
abbrev S256x8x64 : Shape := ⟨3, ![256, 8, 64]⟩
abbrev S256x4x64 : Shape := ⟨3, ![256, 4, 64]⟩
abbrev S256x2x64 : Shape := ⟨3, ![256, 2, 64]⟩
abbrev S256x1x64 : Shape := ⟨3, ![256, 1, 64]⟩
abbrev S256x64 : Shape := ⟨2, ![256, 64]⟩
abbrev S1x32768 : Shape := ⟨2, ![1, 32768]⟩
abbrev S5x32768 : Shape := ⟨2, ![5, 32768]⟩
abbrev S5x5 : Shape := ⟨2, ![5, 5]⟩
abbrev S1024x64 : Shape := ⟨2, ![1024, 64]⟩
abbrev S64x1024 : Shape := ⟨2, ![64, 1024]⟩
abbrev S64x8x128 : Shape := ⟨3, ![64, 8, 128]⟩
abbrev S3x5 : Shape := ⟨2, ![3, 5]⟩
abbrev S8x5 : Shape := ⟨2, ![8, 5]⟩
abbrev S8x123 : Shape := ⟨2, ![8, 123]⟩
abbrev S4x4 : Shape := ⟨2, ![4, 4]⟩
abbrev S_ : Shape := ⟨0, ![]⟩
abbrev S1x4 : Shape := ⟨2, ![1, 4]⟩
abbrev S4 : Shape := ⟨1, ![4]⟩
abbrev S128 : Shape := ⟨1, ![128]⟩
abbrev S2x2x12000 : Shape := ⟨3, ![2, 2, 12000]⟩
abbrev S2x2x12288 : Shape := ⟨3, ![2, 2, 12288]⟩
abbrev S2x2x96x128 : Shape := ⟨4, ![2, 2, 96, 128]⟩
abbrev S2x64x496x432 : Shape := ⟨4, ![2, 64, 496, 432]⟩
abbrev S96x128 : Shape := ⟨2, ![96, 128]⟩
abbrev S144x432 : Shape := ⟨2, ![144, 432]⟩
abbrev S96 : Shape := ⟨1, ![96]⟩
abbrev S1x1x96x128 : Shape := ⟨4, ![1, 1, 96, 128]⟩
abbrev S16 : Shape := ⟨1, ![16]⟩
abbrev S1x16 : Shape := ⟨2, ![1, 16]⟩
abbrev S1 : Shape := ⟨1, ![1]⟩
abbrev S1x1x144x432 : Shape := ⟨4, ![1, 1, 144, 432]⟩
abbrev S64x432 : Shape := ⟨2, ![64, 432]⟩
abbrev S1x1x64x432 : Shape := ⟨4, ![1, 1, 64, 432]⟩

abbrev nBuf : Table → Nat
  | .hbm => 37
  | .local .tc .vmem => 6
  | .local .scVector .smem => 1
  | .local .scVector .vmem => 5
  | _ => 0

abbrev bufTy : (tb : Table) → Fin (nBuf tb) → BufTy
  | .hbm, ⟨0, _⟩ => ⟨S2x4x12000x100, .f32⟩
  | .hbm, ⟨1, _⟩ => ⟨S2x12000x2, .i32⟩
  | .hbm, ⟨2, _⟩ => ⟨S64x4, .f32⟩
  | .hbm, ⟨3, _⟩ => ⟨S64, .f32⟩
  | .hbm, ⟨4, _⟩ => ⟨S64, .f32⟩
  | .hbm, ⟨5, _⟩ => ⟨S2x64x96x128, .f32⟩
  | .hbm, ⟨6, _⟩ => ⟨S8x128, .f32⟩
  | .hbm, ⟨7, _⟩ => ⟨S4x4, .f32⟩
  | .hbm, ⟨8, _⟩ => ⟨S_, .f32⟩
  | .hbm, ⟨9, _⟩ => ⟨S4x4, .f32⟩
  | .hbm, ⟨10, _⟩ => ⟨S4x4, .f32⟩
  | .hbm, ⟨11, _⟩ => ⟨S1x4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S64, .f32⟩
  | .hbm, ⟨17, _⟩ => ⟨S64x4, .f32⟩
  | .hbm, ⟨18, _⟩ => ⟨S64x4, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S128, .f32⟩
  | .hbm, ⟨31, _⟩ => ⟨S2x2x12000, .i32⟩
  | .hbm, ⟨32, _⟩ => ⟨S_, .i32⟩
  | .hbm, ⟨33, _⟩ => ⟨S_, .i32⟩
  | .hbm, ⟨34, _⟩ => ⟨S2x2x12288, .i32⟩
  | .hbm, ⟨35, _⟩ => ⟨S2x2x96x128, .i32⟩
  | .hbm, ⟨36, _⟩ => ⟨S2x64x496x432, .f32⟩
  | .local .tc .vmem, ⟨0, _⟩ => ⟨S1x4x1024x100, .f32⟩
  | .local .tc .vmem, ⟨1, _⟩ => ⟨S1x4x1024x100, .f32⟩
  | .local .tc .vmem, ⟨2, _⟩ => ⟨S64x4, .f32⟩
  | .local .tc .vmem, ⟨3, _⟩ => ⟨S1x64x8x128, .f32⟩
  | .local .tc .vmem, ⟨4, _⟩ => ⟨S1x64x8x128, .f32⟩
  | .local .tc .vmem, ⟨5, _⟩ => ⟨S8x128, .f32⟩
  | .local .scVector .smem, ⟨0, _⟩ => ⟨S96, .i32⟩
  | .local .scVector .vmem, ⟨0, _⟩ => ⟨S96x128, .i32⟩
  | .local .scVector .vmem, ⟨1, _⟩ => ⟨S96x128, .i32⟩
  | .local .scVector .vmem, ⟨2, _⟩ => ⟨S144x432, .f32⟩
  | .local .scVector .vmem, ⟨3, _⟩ => ⟨S96x128, .f32⟩
  | .local .scVector .vmem, ⟨4, _⟩ => ⟨S128, .f32⟩
  | _, _ => ⟨S2x4x12000x100, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v0_0_scv : Ref sig .scVector := ⟨.hbm, 5, rfl⟩
abbrev main_v23_scv : Ref sig .scVector := ⟨.hbm, 35, rfl⟩
abbrev main_v20_scv : Ref sig .scVector := ⟨.hbm, 30, rfl⟩
abbrev main_v24_scv : Ref sig .scVector := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_scratch5 : Ref sig .scVector := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x1024x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![2, 16], ![false, false]⟩

def k1_off1 (i : grid1.Coords) : Fin 4 → Nat :=
  let arg0 : BitVec 32 := BitVec.ofNat 32 (i 0).val
  let c0_i32 : BitVec 32 := 0#32
  let c0_i32_12_r0 : BitVec 32 := 0#32
  let c0_i32_13_r0 : BitVec 32 := 0#32
  ![arg0.toNat, 0, 0, 0]
def k1_off2 (i : grid1.Coords) : Fin 4 → Nat :=
  let arg0 : BitVec 32 := BitVec.ofNat 32 (i 0).val
  let c1_i32 : BitVec 32 := 1#32
  let c0_i32_12_r1 : BitVec 32 := 0#32
  let c0_i32_13_r1 : BitVec 32 := 0#32
  ![arg0.toNat, 1, 0, 0]
@[reducible] def k1_t1_loop : Scf.Loop 32 :=
  let c0_i32_1 : BitVec 32 := 0#32
  let c144_i32 : BitVec 32 := 144#32
  let v0 : BitVec 32 := Scalar.addi c0_i32_1 c144_i32
  let c1_i32_2 : BitVec 32 := 1#32
  ⟨c0_i32_1, v0, c1_i32_2⟩
def k1_off3 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v5 : Index := Scalar.indexCast arg12
  let c0 : Index := 0#32
  ![v5.toNat, 0]
def k1_off4 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v8 : Index := Scalar.indexCast arg12
  let c16 : Index := 16#32
  ![v8.toNat, 16]
def k1_off5 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v11 : Index := Scalar.indexCast arg12
  let c32 : Index := 32#32
  ![v11.toNat, 32]
def k1_off6 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v14 : Index := Scalar.indexCast arg12
  let c48 : Index := 48#32
  ![v14.toNat, 48]
def k1_off7 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v17 : Index := Scalar.indexCast arg12
  let c64 : Index := 64#32
  ![v17.toNat, 64]
def k1_off8 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v20 : Index := Scalar.indexCast arg12
  let c80 : Index := 80#32
  ![v20.toNat, 80]
def k1_off9 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v23 : Index := Scalar.indexCast arg12
  let c96 : Index := 96#32
  ![v23.toNat, 96]
def k1_off10 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v26 : Index := Scalar.indexCast arg12
  let c112 : Index := 112#32
  ![v26.toNat, 112]
def k1_off11 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v29 : Index := Scalar.indexCast arg12
  let c128 : Index := 128#32
  ![v29.toNat, 128]
def k1_off12 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v32 : Index := Scalar.indexCast arg12
  let c144 : Index := 144#32
  ![v32.toNat, 144]
def k1_off13 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v35 : Index := Scalar.indexCast arg12
  let c160 : Index := 160#32
  ![v35.toNat, 160]
def k1_off14 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v38 : Index := Scalar.indexCast arg12
  let c176 : Index := 176#32
  ![v38.toNat, 176]
def k1_off15 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v41 : Index := Scalar.indexCast arg12
  let c192 : Index := 192#32
  ![v41.toNat, 192]
def k1_off16 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v44 : Index := Scalar.indexCast arg12
  let c208 : Index := 208#32
  ![v44.toNat, 208]
def k1_off17 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v47 : Index := Scalar.indexCast arg12
  let c224 : Index := 224#32
  ![v47.toNat, 224]
def k1_off18 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v50 : Index := Scalar.indexCast arg12
  let c240 : Index := 240#32
  ![v50.toNat, 240]
def k1_off19 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v53 : Index := Scalar.indexCast arg12
  let c256 : Index := 256#32
  ![v53.toNat, 256]
def k1_off20 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v56 : Index := Scalar.indexCast arg12
  let c272 : Index := 272#32
  ![v56.toNat, 272]
def k1_off21 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v59 : Index := Scalar.indexCast arg12
  let c288 : Index := 288#32
  ![v59.toNat, 288]
def k1_off22 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v62 : Index := Scalar.indexCast arg12
  let c304 : Index := 304#32
  ![v62.toNat, 304]
def k1_off23 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v65 : Index := Scalar.indexCast arg12
  let c320 : Index := 320#32
  ![v65.toNat, 320]
def k1_off24 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v68 : Index := Scalar.indexCast arg12
  let c336 : Index := 336#32
  ![v68.toNat, 336]
def k1_off25 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v71 : Index := Scalar.indexCast arg12
  let c352 : Index := 352#32
  ![v71.toNat, 352]
def k1_off26 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v74 : Index := Scalar.indexCast arg12
  let c368 : Index := 368#32
  ![v74.toNat, 368]
def k1_off27 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v77 : Index := Scalar.indexCast arg12
  let c384 : Index := 384#32
  ![v77.toNat, 384]
def k1_off28 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v80 : Index := Scalar.indexCast arg12
  let c400 : Index := 400#32
  ![v80.toNat, 400]
def k1_off29 (k1_t1 : Fin k1_t1_loop.trips) : Fin 2 → Nat :=
  let c0_i32_1 : BitVec 32 := 0#32
  let c1_i32_2 : BitVec 32 := 1#32
  let arg12 : BitVec 32 := Scf.iv c0_i32_1 c1_i32_2 k1_t1
  let v83 : Index := Scalar.indexCast arg12
  let c416 : Index := 416#32
  ![v83.toNat, 416]
@[reducible] def k1_t2_loop : Scf.Loop 32 :=
  let c0_i32_5 : BitVec 32 := 0#32
  let c93_i32 : BitVec 32 := 93#32
  let v1 : BitVec 32 := Scalar.addi c0_i32_5 c93_i32
  let c1_i32_6 : BitVec 32 := 1#32
  ⟨c0_i32_5, v1, c1_i32_6⟩
def k1_off30 (k1_t2 : Fin k1_t2_loop.trips) : Fin 2 → Nat :=
  let c0_i32_5 : BitVec 32 := 0#32
  let c1_i32_6 : BitVec 32 := 1#32
  let arg12 : BitVec 32 := Scf.iv c0_i32_5 c1_i32_6 k1_t2
  let v5 : Index := Scalar.indexCast arg12
  let c0 : Index := 0#32
  ![v5.toNat, 0]
def k1_off31 (k1_t2 : Fin k1_t2_loop.trips) : Fin 2 → Nat :=
  let c0_i32_5 : BitVec 32 := 0#32
  let c1_i32_6 : BitVec 32 := 1#32
  let arg12 : BitVec 32 := Scf.iv c0_i32_5 c1_i32_6 k1_t2
  let v16 : Index := Scalar.indexCast arg12
  let c16 : Index := 16#32
  ![v16.toNat, 16]
def k1_off32 (k1_t2 : Fin k1_t2_loop.trips) : Fin 2 → Nat :=
  let c0_i32_5 : BitVec 32 := 0#32
  let c1_i32_6 : BitVec 32 := 1#32
  let arg12 : BitVec 32 := Scf.iv c0_i32_5 c1_i32_6 k1_t2
  let v27 : Index := Scalar.indexCast arg12
  let c32 : Index := 32#32
  ![v27.toNat, 32]
def k1_off33 (k1_t2 : Fin k1_t2_loop.trips) : Fin 2 → Nat :=
  let c0_i32_5 : BitVec 32 := 0#32
  let c1_i32_6 : BitVec 32 := 1#32
  let arg12 : BitVec 32 := Scf.iv c0_i32_5 c1_i32_6 k1_t2
  let v38 : Index := Scalar.indexCast arg12
  let c48 : Index := 48#32
  ![v38.toNat, 48]
def k1_off34 (k1_t2 : Fin k1_t2_loop.trips) : Fin 2 → Nat :=
  let c0_i32_5 : BitVec 32 := 0#32
  let c1_i32_6 : BitVec 32 := 1#32
  let arg12 : BitVec 32 := Scf.iv c0_i32_5 c1_i32_6 k1_t2
  let v49 : Index := Scalar.indexCast arg12
  let c64 : Index := 64#32
  ![v49.toNat, 64]
def k1_off35 (k1_t2 : Fin k1_t2_loop.trips) : Fin 2 → Nat :=
  let c0_i32_5 : BitVec 32 := 0#32
  let c1_i32_6 : BitVec 32 := 1#32
  let arg12 : BitVec 32 := Scf.iv c0_i32_5 c1_i32_6 k1_t2
  let v60 : Index := Scalar.indexCast arg12
  let c80 : Index := 80#32
  ![v60.toNat, 80]
def k1_off36 (k1_t2 : Fin k1_t2_loop.trips) : Fin 2 → Nat :=
  let c0_i32_5 : BitVec 32 := 0#32
  let c1_i32_6 : BitVec 32 := 1#32
  let arg12 : BitVec 32 := Scf.iv c0_i32_5 c1_i32_6 k1_t2
  let v71 : Index := Scalar.indexCast arg12
  let c96 : Index := 96#32
  ![v71.toNat, 96]
def k1_off37 (k1_t2 : Fin k1_t2_loop.trips) : Fin 2 → Nat :=
  let c0_i32_5 : BitVec 32 := 0#32
  let c1_i32_6 : BitVec 32 := 1#32
  let arg12 : BitVec 32 := Scf.iv c0_i32_5 c1_i32_6 k1_t2
  let v82 : Index := Scalar.indexCast arg12
  let c112 : Index := 112#32
  ![v82.toNat, 112]
def k1_off38 (k1_t2 : Fin k1_t2_loop.trips) : Fin 1 → Nat :=
  let c0_i32_5 : BitVec 32 := 0#32
  let c1_i32_6 : BitVec 32 := 1#32
  let arg12 : BitVec 32 := Scf.iv c0_i32_5 c1_i32_6 k1_t2
  let v104 : Index := Scalar.indexCast arg12
  ![v104.toNat]
@[reducible] def k1_t3_loop : Scf.Loop 32 :=
  let c0_i32_9 : BitVec 32 := 0#32
  let c4_i32 : BitVec 32 := 4#32
  let v3 : BitVec 32 := Scalar.addi c0_i32_9 c4_i32
  let c1_i32_10 : BitVec 32 := 1#32
  ⟨c0_i32_9, v3, c1_i32_10⟩
def k1_off39 (i : grid1.Coords) (k1_t3 : Fin k1_t3_loop.trips) : Fin 4 → Nat :=
  let arg0 : BitVec 32 := BitVec.ofNat 32 (i 0).val
  let arg1 : BitVec 32 := BitVec.ofNat 32 (i 1).val
  let c4_i32_12 : BitVec 32 := 4#32
  let v4 : BitVec 32 := Scalar.muli arg1 c4_i32_12
  let c0_i32_9 : BitVec 32 := 0#32
  let c1_i32_10 : BitVec 32 := 1#32
  let arg12 : BitVec 32 := Scf.iv c0_i32_9 c1_i32_10 k1_t3
  let v5 : BitVec 32 := Scalar.addi v4 arg12
  let c0_i32_21_r3 : BitVec 32 := 0#32
  let c0_i32_22_r3 : BitVec 32 := 0#32
  ![arg0.toNat, v5.toNat, 0, 0]

def k1_chk1 (v6 : IVec S16 32) : Prop :=
  (∀ a x, ((![v6] : Fin 1 → IVec S16 32) a x).toNat < S128.size a)
theorem k1_idx1_inb : ∀ (v6 : IVec S16 32) (k1_hw1 : k1_chk1 v6), ∀ a x, ((![v6] : Fin 1 → IVec S16 32) a x).toNat < S128.size a := fun v6 k1_hw1 => k1_hw1

def k1_chk2 (v9 : IVec S16 32) : Prop :=
  (∀ a x, ((![v9] : Fin 1 → IVec S16 32) a x).toNat < S128.size a)
theorem k1_idx2_inb : ∀ (v9 : IVec S16 32) (k1_hw2 : k1_chk2 v9), ∀ a x, ((![v9] : Fin 1 → IVec S16 32) a x).toNat < S128.size a := fun v9 k1_hw2 => k1_hw2
@[reducible] def k1_t4_loop : Scf.Loop 32 :=
  let c0_i32_14 : BitVec 32 := 0#32
  let c94_i32 : BitVec 32 := 94#32
  let v11 : BitVec 32 := Scalar.addi c0_i32_14 c94_i32
  let c1_i32_15 : BitVec 32 := 1#32
  ⟨c0_i32_14, v11, c1_i32_15⟩
def k1_off40 (k1_t4 : Fin k1_t4_loop.trips) : Fin 2 → Nat :=
  let c0_i32_14 : BitVec 32 := 0#32
  let c1_i32_15 : BitVec 32 := 1#32
  let arg13 : BitVec 32 := Scf.iv c0_i32_14 c1_i32_15 k1_t4
  let v13 : Index := Scalar.indexCast arg13
  let c0 : Index := 0#32
  ![v13.toNat, 0]
def k1_off41 (k1_t4 : Fin k1_t4_loop.trips) : Fin 2 → Nat :=
  let c0_i32_14 : BitVec 32 := 0#32
  let c1_i32_15 : BitVec 32 := 1#32
  let arg13 : BitVec 32 := Scf.iv c0_i32_14 c1_i32_15 k1_t4
  let v21 : Index := Scalar.indexCast arg13
  let c16 : Index := 16#32
  ![v21.toNat, 16]
def k1_off42 (k1_t4 : Fin k1_t4_loop.trips) : Fin 2 → Nat :=
  let c0_i32_14 : BitVec 32 := 0#32
  let c1_i32_15 : BitVec 32 := 1#32
  let arg13 : BitVec 32 := Scf.iv c0_i32_14 c1_i32_15 k1_t4
  let v29 : Index := Scalar.indexCast arg13
  let c32 : Index := 32#32
  ![v29.toNat, 32]
def k1_off43 (k1_t4 : Fin k1_t4_loop.trips) : Fin 2 → Nat :=
  let c0_i32_14 : BitVec 32 := 0#32
  let c1_i32_15 : BitVec 32 := 1#32
  let arg13 : BitVec 32 := Scf.iv c0_i32_14 c1_i32_15 k1_t4
  let v37 : Index := Scalar.indexCast arg13
  let c48 : Index := 48#32
  ![v37.toNat, 48]
def k1_off44 (k1_t4 : Fin k1_t4_loop.trips) : Fin 2 → Nat :=
  let c0_i32_14 : BitVec 32 := 0#32
  let c1_i32_15 : BitVec 32 := 1#32
  let arg13 : BitVec 32 := Scf.iv c0_i32_14 c1_i32_15 k1_t4
  let v45 : Index := Scalar.indexCast arg13
  let c64 : Index := 64#32
  ![v45.toNat, 64]
def k1_off45 (k1_t4 : Fin k1_t4_loop.trips) : Fin 2 → Nat :=
  let c0_i32_14 : BitVec 32 := 0#32
  let c1_i32_15 : BitVec 32 := 1#32
  let arg13 : BitVec 32 := Scf.iv c0_i32_14 c1_i32_15 k1_t4
  let v53 : Index := Scalar.indexCast arg13
  let c80 : Index := 80#32
  ![v53.toNat, 80]
def k1_off46 (k1_t4 : Fin k1_t4_loop.trips) : Fin 2 → Nat :=
  let c0_i32_14 : BitVec 32 := 0#32
  let c1_i32_15 : BitVec 32 := 1#32
  let arg13 : BitVec 32 := Scf.iv c0_i32_14 c1_i32_15 k1_t4
  let v61 : Index := Scalar.indexCast arg13
  let c96 : Index := 96#32
  ![v61.toNat, 96]
def k1_off47 (k1_t4 : Fin k1_t4_loop.trips) : Fin 2 → Nat :=
  let c0_i32_14 : BitVec 32 := 0#32
  let c1_i32_15 : BitVec 32 := 1#32
  let arg13 : BitVec 32 := Scf.iv c0_i32_14 c1_i32_15 k1_t4
  let v69 : Index := Scalar.indexCast arg13
  let c112 : Index := 112#32
  ![v69.toNat, 112]
@[reducible] def k1_t5_loop : Scf.Loop 32 :=
  let c0_i32_18 : BitVec 32 := 0#32
  let c3_i32 : BitVec 32 := 3#32
  let v12 : BitVec 32 := Scalar.addi c0_i32_18 c3_i32
  let c1_i32_19 : BitVec 32 := 1#32
  ⟨c0_i32_18, v12, c1_i32_19⟩
def k1_mult1 (k1_t5 : Fin k1_t5_loop.trips) : BitVec 32 :=
  let c0_i32_18 : BitVec 32 := 0#32
  let c1_i32_19 : BitVec 32 := 1#32
  let arg13 : BitVec 32 := Scf.iv c0_i32_18 c1_i32_19 k1_t5
  let c144_i32_21 : BitVec 32 := 144#32
  let v13 : BitVec 32 := Scalar.muli arg13 c144_i32_21
  v13
@[reducible] def k1_t6_loop : Scf.Loop 32 :=
  let c0_i32_23 : BitVec 32 := 0#32
  let c93_i32_24 : BitVec 32 := 93#32
  let v15 : BitVec 32 := Scalar.addi c0_i32_23 c93_i32_24
  let c1_i32_25 : BitVec 32 := 1#32
  ⟨c0_i32_23, v15, c1_i32_25⟩
def k1_off48 (k1_t6 : Fin k1_t6_loop.trips) : Fin 1 → Nat :=
  let c0_i32_23 : BitVec 32 := 0#32
  let c1_i32_25 : BitVec 32 := 1#32
  let arg14 : BitVec 32 := Scf.iv c0_i32_23 c1_i32_25 k1_t6
  let v19 : Index := Scalar.indexCast arg14
  ![v19.toNat]
def k1_off49 (k1_t6 : Fin k1_t6_loop.trips) : Fin 2 → Nat :=
  let c0_i32_23 : BitVec 32 := 0#32
  let c1_i32_25 : BitVec 32 := 1#32
  let arg14 : BitVec 32 := Scf.iv c0_i32_23 c1_i32_25 k1_t6
  let v25 : Index := Scalar.indexCast arg14
  let c0 : Index := 0#32
  ![v25.toNat, 0]
def k1_cond1 (v20 : BitVec 32) : BitVec 1 :=
  let c0_i32_41 : BitVec 32 := 0#32
  let v21 : BitVec 1 := Scalar.cmpi .eq v20 c0_i32_41
  let v22 : BitVec 32 := Scalar.extui v21
  let c0_i32_43 : BitVec 32 := 0#32
  let v23 : BitVec 1 := Scalar.cmpi .ne v22 c0_i32_43
  v23

def k1_chk3 (v20 : BitVec 32) (v30 : IVec S16 32) (v39 : IVec S16 32) : Prop :=
  (∀ (k1_h1 : k1_cond1 v20 = 1#1), ∀ a x, ((![v39, v30] : Fin 2 → IVec S16 32) a x).toNat < S144x432.size a)
theorem k1_idx3_inb : ∀ (v20 : BitVec 32) (v30 : IVec S16 32) (v39 : IVec S16 32) (k1_hw3 : k1_chk3 v20 v30 v39), ∀ (k1_h1 : k1_cond1 v20 = 1#1), ∀ a x, ((![v39, v30] : Fin 2 → IVec S16 32) a x).toNat < S144x432.size a := fun v20 v30 v39 k1_hw3 k1_h1 => k1_hw3 k1_h1
def k1_off50 (k1_t6 : Fin k1_t6_loop.trips) : Fin 2 → Nat :=
  let c0_i32_23 : BitVec 32 := 0#32
  let c1_i32_25 : BitVec 32 := 1#32
  let arg14 : BitVec 32 := Scf.iv c0_i32_23 c1_i32_25 k1_t6
  let v40 : Index := Scalar.indexCast arg14
  let c16 : Index := 16#32
  ![v40.toNat, 16]

def k1_chk4 (v20 : BitVec 32) (v45 : IVec S16 32) (v54 : IVec S16 32) : Prop :=
  (∀ (k1_h1 : k1_cond1 v20 = 1#1), ∀ a x, ((![v54, v45] : Fin 2 → IVec S16 32) a x).toNat < S144x432.size a)
theorem k1_idx4_inb : ∀ (v20 : BitVec 32) (v45 : IVec S16 32) (v54 : IVec S16 32) (k1_hw4 : k1_chk4 v20 v45 v54), ∀ (k1_h1 : k1_cond1 v20 = 1#1), ∀ a x, ((![v54, v45] : Fin 2 → IVec S16 32) a x).toNat < S144x432.size a := fun v20 v45 v54 k1_hw4 k1_h1 => k1_hw4 k1_h1
def k1_off51 (k1_t6 : Fin k1_t6_loop.trips) : Fin 2 → Nat :=
  let c0_i32_23 : BitVec 32 := 0#32
  let c1_i32_25 : BitVec 32 := 1#32
  let arg14 : BitVec 32 := Scf.iv c0_i32_23 c1_i32_25 k1_t6
  let v55 : Index := Scalar.indexCast arg14
  let c32 : Index := 32#32
  ![v55.toNat, 32]

def k1_chk5 (v20 : BitVec 32) (v60 : IVec S16 32) (v69 : IVec S16 32) : Prop :=
  (∀ (k1_h1 : k1_cond1 v20 = 1#1), ∀ a x, ((![v69, v60] : Fin 2 → IVec S16 32) a x).toNat < S144x432.size a)
theorem k1_idx5_inb : ∀ (v20 : BitVec 32) (v60 : IVec S16 32) (v69 : IVec S16 32) (k1_hw5 : k1_chk5 v20 v60 v69), ∀ (k1_h1 : k1_cond1 v20 = 1#1), ∀ a x, ((![v69, v60] : Fin 2 → IVec S16 32) a x).toNat < S144x432.size a := fun v20 v60 v69 k1_hw5 k1_h1 => k1_hw5 k1_h1
def k1_off52 (k1_t6 : Fin k1_t6_loop.trips) : Fin 2 → Nat :=
  let c0_i32_23 : BitVec 32 := 0#32
  let c1_i32_25 : BitVec 32 := 1#32
  let arg14 : BitVec 32 := Scf.iv c0_i32_23 c1_i32_25 k1_t6
  let v70 : Index := Scalar.indexCast arg14
  let c48 : Index := 48#32
  ![v70.toNat, 48]

def k1_chk6 (v20 : BitVec 32) (v75 : IVec S16 32) (v84 : IVec S16 32) : Prop :=
  (∀ (k1_h1 : k1_cond1 v20 = 1#1), ∀ a x, ((![v84, v75] : Fin 2 → IVec S16 32) a x).toNat < S144x432.size a)
theorem k1_idx6_inb : ∀ (v20 : BitVec 32) (v75 : IVec S16 32) (v84 : IVec S16 32) (k1_hw6 : k1_chk6 v20 v75 v84), ∀ (k1_h1 : k1_cond1 v20 = 1#1), ∀ a x, ((![v84, v75] : Fin 2 → IVec S16 32) a x).toNat < S144x432.size a := fun v20 v75 v84 k1_hw6 k1_h1 => k1_hw6 k1_h1
def k1_off53 (k1_t6 : Fin k1_t6_loop.trips) : Fin 2 → Nat :=
  let c0_i32_23 : BitVec 32 := 0#32
  let c1_i32_25 : BitVec 32 := 1#32
  let arg14 : BitVec 32 := Scf.iv c0_i32_23 c1_i32_25 k1_t6
  let v85 : Index := Scalar.indexCast arg14
  let c64 : Index := 64#32
  ![v85.toNat, 64]

def k1_chk7 (v20 : BitVec 32) (v90 : IVec S16 32) (v99 : IVec S16 32) : Prop :=
  (∀ (k1_h1 : k1_cond1 v20 = 1#1), ∀ a x, ((![v99, v90] : Fin 2 → IVec S16 32) a x).toNat < S144x432.size a)
theorem k1_idx7_inb : ∀ (v20 : BitVec 32) (v90 : IVec S16 32) (v99 : IVec S16 32) (k1_hw7 : k1_chk7 v20 v90 v99), ∀ (k1_h1 : k1_cond1 v20 = 1#1), ∀ a x, ((![v99, v90] : Fin 2 → IVec S16 32) a x).toNat < S144x432.size a := fun v20 v90 v99 k1_hw7 k1_h1 => k1_hw7 k1_h1
def k1_off54 (k1_t6 : Fin k1_t6_loop.trips) : Fin 2 → Nat :=
  let c0_i32_23 : BitVec 32 := 0#32
  let c1_i32_25 : BitVec 32 := 1#32
  let arg14 : BitVec 32 := Scf.iv c0_i32_23 c1_i32_25 k1_t6
  let v100 : Index := Scalar.indexCast arg14
  let c80 : Index := 80#32
  ![v100.toNat, 80]

def k1_chk8 (v20 : BitVec 32) (v105 : IVec S16 32) (v114 : IVec S16 32) : Prop :=
  (∀ (k1_h1 : k1_cond1 v20 = 1#1), ∀ a x, ((![v114, v105] : Fin 2 → IVec S16 32) a x).toNat < S144x432.size a)
theorem k1_idx8_inb : ∀ (v20 : BitVec 32) (v105 : IVec S16 32) (v114 : IVec S16 32) (k1_hw8 : k1_chk8 v20 v105 v114), ∀ (k1_h1 : k1_cond1 v20 = 1#1), ∀ a x, ((![v114, v105] : Fin 2 → IVec S16 32) a x).toNat < S144x432.size a := fun v20 v105 v114 k1_hw8 k1_h1 => k1_hw8 k1_h1
def k1_off55 (k1_t6 : Fin k1_t6_loop.trips) : Fin 2 → Nat :=
  let c0_i32_23 : BitVec 32 := 0#32
  let c1_i32_25 : BitVec 32 := 1#32
  let arg14 : BitVec 32 := Scf.iv c0_i32_23 c1_i32_25 k1_t6
  let v115 : Index := Scalar.indexCast arg14
  let c96 : Index := 96#32
  ![v115.toNat, 96]

def k1_chk9 (v20 : BitVec 32) (v120 : IVec S16 32) (v129 : IVec S16 32) : Prop :=
  (∀ (k1_h1 : k1_cond1 v20 = 1#1), ∀ a x, ((![v129, v120] : Fin 2 → IVec S16 32) a x).toNat < S144x432.size a)
theorem k1_idx9_inb : ∀ (v20 : BitVec 32) (v120 : IVec S16 32) (v129 : IVec S16 32) (k1_hw9 : k1_chk9 v20 v120 v129), ∀ (k1_h1 : k1_cond1 v20 = 1#1), ∀ a x, ((![v129, v120] : Fin 2 → IVec S16 32) a x).toNat < S144x432.size a := fun v20 v120 v129 k1_hw9 k1_h1 => k1_hw9 k1_h1
def k1_off56 (k1_t6 : Fin k1_t6_loop.trips) : Fin 2 → Nat :=
  let c0_i32_23 : BitVec 32 := 0#32
  let c1_i32_25 : BitVec 32 := 1#32
  let arg14 : BitVec 32 := Scf.iv c0_i32_23 c1_i32_25 k1_t6
  let v130 : Index := Scalar.indexCast arg14
  let c112 : Index := 112#32
  ![v130.toNat, 112]

def k1_chk10 (v20 : BitVec 32) (v135 : IVec S16 32) (v144 : IVec S16 32) : Prop :=
  (∀ (k1_h1 : k1_cond1 v20 = 1#1), ∀ a x, ((![v144, v135] : Fin 2 → IVec S16 32) a x).toNat < S144x432.size a)
theorem k1_idx10_inb : ∀ (v20 : BitVec 32) (v135 : IVec S16 32) (v144 : IVec S16 32) (k1_hw10 : k1_chk10 v20 v135 v144), ∀ (k1_h1 : k1_cond1 v20 = 1#1), ∀ a x, ((![v144, v135] : Fin 2 → IVec S16 32) a x).toNat < S144x432.size a := fun v20 v135 v144 k1_hw10 k1_h1 => k1_hw10 k1_h1
@[reducible] def k1_t7_loop : Scf.Loop 32 :=
  let c0_i32_45 : BitVec 32 := 0#32
  let c8_i32 : BitVec 32 := 8#32
  let v25 : BitVec 32 := Scalar.addi c0_i32_45 c8_i32
  let c1_i32_46 : BitVec 32 := 1#32
  ⟨c0_i32_45, v25, c1_i32_46⟩
def k1_off57 (k1_t6 : Fin k1_t6_loop.trips) (k1_t7 : Fin k1_t7_loop.trips) : Fin 2 → Nat :=
  let c0_i32_23 : BitVec 32 := 0#32
  let c1_i32_25 : BitVec 32 := 1#32
  let arg14 : BitVec 32 := Scf.iv c0_i32_23 c1_i32_25 k1_t6
  let v27 : Index := Scalar.indexCast arg14
  let c0_i32_45 : BitVec 32 := 0#32
  let c1_i32_46 : BitVec 32 := 1#32
  let arg15 : BitVec 32 := Scf.iv c0_i32_45 c1_i32_46 k1_t7
  let c16_i32 : BitVec 32 := 16#32
  let v26 : BitVec 32 := Scalar.muli arg15 c16_i32
  let v28 : Index := Scalar.indexCast v26
  ![v27.toNat, v28.toNat]

def k1_chk11 (v20 : BitVec 32) (v34 : IVec S16 32) (v47 : IVec S16 32) : Prop :=
  (∀ (k1_h1 : ¬(k1_cond1 v20 = 1#1)), ∀ a x, ((![v47, v34] : Fin 2 → IVec S16 32) a x).toNat < S144x432.size a)
theorem k1_idx11_inb : ∀ (v20 : BitVec 32) (v34 : IVec S16 32) (v47 : IVec S16 32) (k1_hw11 : k1_chk11 v20 v34 v47), ∀ (k1_h1 : ¬(k1_cond1 v20 = 1#1)), ∀ a x, ((![v47, v34] : Fin 2 → IVec S16 32) a x).toNat < S144x432.size a := fun v20 v34 v47 k1_hw11 k1_h1 => k1_hw11 k1_h1
@[reducible] def k1_t8_loop (v58 : BitVec 32) : Scf.Loop 32 :=
  let c2_i32 : BitVec 32 := 2#32
  let c1_i32_57 : BitVec 32 := 1#32
  let v63 : BitVec 32 := Scalar.addi v58 c1_i32_57
  let v64 : BitVec 32 := Scalar.subi v63 c2_i32
  let c1_i32_59 : BitVec 32 := 1#32
  let v66 : BitVec 32 := Scalar.divsi v64 c1_i32_59
  let v67 : BitVec 32 := Scalar.muli v66 c1_i32_59
  let v68 : BitVec 32 := Scalar.addi c2_i32 v67
  let c1_i32_60 : BitVec 32 := 1#32
  ⟨c2_i32, v68, c1_i32_60⟩
def k1_cond2 (v58 : BitVec 32) : BitVec 1 :=
  let c1_i32_54 : BitVec 32 := 1#32
  let v59 : BitVec 1 := Scalar.cmpi .sgt v58 c1_i32_54
  let v60 : BitVec 32 := Scalar.extui v59
  let c0_i32_56 : BitVec 32 := 0#32
  let v61 : BitVec 1 := Scalar.cmpi .ne v60 c0_i32_56
  v61

@[reducible] def k1_t9_loop (v58 : BitVec 32) : Scf.Loop 32 :=
  let c2_i32 : BitVec 32 := 2#32
  let c1_i32_57 : BitVec 32 := 1#32
  let v63 : BitVec 32 := Scalar.addi v58 c1_i32_57
  let v64 : BitVec 32 := Scalar.subi v63 c2_i32
  let c1_i32_59 : BitVec 32 := 1#32
  let v66 : BitVec 32 := Scalar.divsi v64 c1_i32_59
  let v67 : BitVec 32 := Scalar.muli v66 c1_i32_59
  let v68 : BitVec 32 := Scalar.addi c2_i32 v67
  let v65 : BitVec 32 := Scalar.addi c2_i32 v64
  let c1_i32_61 : BitVec 32 := 1#32
  ⟨v68, v65, c1_i32_61⟩

def k1_chk12 (v20 : BitVec 32) (v34 : IVec S16 32) (v47 : IVec S16 32) (v58 : BitVec 32) : Prop :=
  (∀ (k1_h1 : ¬(k1_cond1 v20 = 1#1)), ∀ (k1_h2 : k1_cond2 v58 = 1#1), (k1_t8_loop v58).OK) ∧
  (∀ k1_t8 : Fin (k1_t8_loop v58).trips, ∀ (k1_h1 : ¬(k1_cond1 v20 = 1#1)), ∀ (k1_h2 : k1_cond2 v58 = 1#1), ∀ a x, ((![v47, v34] : Fin 2 → IVec S16 32) a x).toNat < S144x432.size a) ∧
  (∀ (k1_h1 : ¬(k1_cond1 v20 = 1#1)), ∀ (k1_h2 : k1_cond2 v58 = 1#1), (k1_t9_loop v58).OK) ∧
  (∀ k1_t9 : Fin (k1_t9_loop v58).trips, ∀ (k1_h1 : ¬(k1_cond1 v20 = 1#1)), ∀ (k1_h2 : k1_cond2 v58 = 1#1), ∀ a x, ((![v47, v34] : Fin 2 → IVec S16 32) a x).toNat < S144x432.size a)
theorem k1_t8_ok : ∀ (v20 : BitVec 32) (v34 : IVec S16 32) (v47 : IVec S16 32) (v58 : BitVec 32) (k1_hw12 : k1_chk12 v20 v34 v47 v58), ∀ (k1_h1 : ¬(k1_cond1 v20 = 1#1)), ∀ (k1_h2 : k1_cond2 v58 = 1#1), (k1_t8_loop v58).OK := fun v20 v34 v47 v58 k1_hw12 k1_h1 k1_h2 => k1_hw12.1 k1_h1 k1_h2
theorem k1_idx12_inb : ∀ (v20 : BitVec 32) (v34 : IVec S16 32) (v47 : IVec S16 32) (v58 : BitVec 32) (k1_hw12 : k1_chk12 v20 v34 v47 v58) (k1_t8 : Fin (k1_t8_loop v58).trips), ∀ (k1_h1 : ¬(k1_cond1 v20 = 1#1)), ∀ (k1_h2 : k1_cond2 v58 = 1#1), ∀ a x, ((![v47, v34] : Fin 2 → IVec S16 32) a x).toNat < S144x432.size a := fun v20 v34 v47 v58 k1_hw12 k1_t8 k1_h1 k1_h2 => k1_hw12.2.1 k1_t8 k1_h1 k1_h2
theorem k1_t9_ok : ∀ (v20 : BitVec 32) (v34 : IVec S16 32) (v47 : IVec S16 32) (v58 : BitVec 32) (k1_hw12 : k1_chk12 v20 v34 v47 v58), ∀ (k1_h1 : ¬(k1_cond1 v20 = 1#1)), ∀ (k1_h2 : k1_cond2 v58 = 1#1), (k1_t9_loop v58).OK := fun v20 v34 v47 v58 k1_hw12 k1_h1 k1_h2 => k1_hw12.2.2.1 k1_h1 k1_h2
theorem k1_idx13_inb : ∀ (v20 : BitVec 32) (v34 : IVec S16 32) (v47 : IVec S16 32) (v58 : BitVec 32) (k1_hw12 : k1_chk12 v20 v34 v47 v58) (k1_t9 : Fin (k1_t9_loop v58).trips), ∀ (k1_h1 : ¬(k1_cond1 v20 = 1#1)), ∀ (k1_h2 : k1_cond2 v58 = 1#1), ∀ a x, ((![v47, v34] : Fin 2 → IVec S16 32) a x).toNat < S144x432.size a := fun v20 v34 v47 v58 k1_hw12 k1_t9 k1_h1 k1_h2 => k1_hw12.2.2.2 k1_t9 k1_h1 k1_h2
@[reducible] def k1_t10_loop : Scf.Loop 32 :=
  let c0_i32_28 : BitVec 32 := 0#32
  let c6_i32 : BitVec 32 := 6#32
  let v16 : BitVec 32 := Scalar.addi c0_i32_28 c6_i32
  let c1_i32_29 : BitVec 32 := 1#32
  ⟨c0_i32_28, v16, c1_i32_29⟩
def k1_off58 (k1_t10 : Fin k1_t10_loop.trips) : Fin 2 → Nat :=
  let c93_i32_41 : BitVec 32 := 93#32
  let v20 : Index := Scalar.indexCast c93_i32_41
  let c0_i32_28 : BitVec 32 := 0#32
  let c1_i32_29 : BitVec 32 := 1#32
  let arg14 : BitVec 32 := Scf.iv c0_i32_28 c1_i32_29 k1_t10
  let c16_i32 : BitVec 32 := 16#32
  let v19 : BitVec 32 := Scalar.muli arg14 c16_i32
  let v21 : Index := Scalar.indexCast v19
  ![93, v21.toNat]

def k1_chk13 (v27 : IVec S16 32) (v40 : IVec S16 32) : Prop :=
  (∀ a x, ((![v40, v27] : Fin 2 → IVec S16 32) a x).toNat < S144x432.size a)
theorem k1_idx14_inb : ∀ (v27 : IVec S16 32) (v40 : IVec S16 32) (k1_hw13 : k1_chk13 v27 v40), ∀ a x, ((![v40, v27] : Fin 2 → IVec S16 32) a x).toNat < S144x432.size a := fun v27 v40 k1_hw13 => k1_hw13
@[reducible] def k1_t11_loop (v51 : BitVec 32) : Scf.Loop 32 :=
  let c2_i32 : BitVec 32 := 2#32
  let c1_i32_52 : BitVec 32 := 1#32
  let v56 : BitVec 32 := Scalar.addi v51 c1_i32_52
  let v57 : BitVec 32 := Scalar.subi v56 c2_i32
  let c1_i32_54 : BitVec 32 := 1#32
  let v59 : BitVec 32 := Scalar.divsi v57 c1_i32_54
  let v60 : BitVec 32 := Scalar.muli v59 c1_i32_54
  let v61 : BitVec 32 := Scalar.addi c2_i32 v60
  let c1_i32_55 : BitVec 32 := 1#32
  ⟨c2_i32, v61, c1_i32_55⟩
def k1_cond3 (v51 : BitVec 32) : BitVec 1 :=
  let c1_i32_49 : BitVec 32 := 1#32
  let v52 : BitVec 1 := Scalar.cmpi .sgt v51 c1_i32_49
  let v53 : BitVec 32 := Scalar.extui v52
  let c0_i32_51 : BitVec 32 := 0#32
  let v54 : BitVec 1 := Scalar.cmpi .ne v53 c0_i32_51
  v54

@[reducible] def k1_t12_loop (v51 : BitVec 32) : Scf.Loop 32 :=
  let c2_i32 : BitVec 32 := 2#32
  let c1_i32_52 : BitVec 32 := 1#32
  let v56 : BitVec 32 := Scalar.addi v51 c1_i32_52
  let v57 : BitVec 32 := Scalar.subi v56 c2_i32
  let c1_i32_54 : BitVec 32 := 1#32
  let v59 : BitVec 32 := Scalar.divsi v57 c1_i32_54
  let v60 : BitVec 32 := Scalar.muli v59 c1_i32_54
  let v61 : BitVec 32 := Scalar.addi c2_i32 v60
  let v58 : BitVec 32 := Scalar.addi c2_i32 v57
  let c1_i32_56 : BitVec 32 := 1#32
  ⟨v61, v58, c1_i32_56⟩

def k1_chk14 (v27 : IVec S16 32) (v40 : IVec S16 32) (v51 : BitVec 32) : Prop :=
  (∀ (k1_h3 : k1_cond3 v51 = 1#1), (k1_t11_loop v51).OK) ∧
  (∀ k1_t11 : Fin (k1_t11_loop v51).trips, ∀ (k1_h3 : k1_cond3 v51 = 1#1), ∀ a x, ((![v40, v27] : Fin 2 → IVec S16 32) a x).toNat < S144x432.size a) ∧
  (∀ (k1_h3 : k1_cond3 v51 = 1#1), (k1_t12_loop v51).OK) ∧
  (∀ k1_t12 : Fin (k1_t12_loop v51).trips, ∀ (k1_h3 : k1_cond3 v51 = 1#1), ∀ a x, ((![v40, v27] : Fin 2 → IVec S16 32) a x).toNat < S144x432.size a)
theorem k1_t11_ok : ∀ (v27 : IVec S16 32) (v40 : IVec S16 32) (v51 : BitVec 32) (k1_hw14 : k1_chk14 v27 v40 v51), ∀ (k1_h3 : k1_cond3 v51 = 1#1), (k1_t11_loop v51).OK := fun v27 v40 v51 k1_hw14 k1_h3 => k1_hw14.1 k1_h3
theorem k1_idx15_inb : ∀ (v27 : IVec S16 32) (v40 : IVec S16 32) (v51 : BitVec 32) (k1_hw14 : k1_chk14 v27 v40 v51) (k1_t11 : Fin (k1_t11_loop v51).trips), ∀ (k1_h3 : k1_cond3 v51 = 1#1), ∀ a x, ((![v40, v27] : Fin 2 → IVec S16 32) a x).toNat < S144x432.size a := fun v27 v40 v51 k1_hw14 k1_t11 k1_h3 => k1_hw14.2.1 k1_t11 k1_h3
theorem k1_t12_ok : ∀ (v27 : IVec S16 32) (v40 : IVec S16 32) (v51 : BitVec 32) (k1_hw14 : k1_chk14 v27 v40 v51), ∀ (k1_h3 : k1_cond3 v51 = 1#1), (k1_t12_loop v51).OK := fun v27 v40 v51 k1_hw14 k1_h3 => k1_hw14.2.2.1 k1_h3
theorem k1_idx16_inb : ∀ (v27 : IVec S16 32) (v40 : IVec S16 32) (v51 : BitVec 32) (k1_hw14 : k1_chk14 v27 v40 v51) (k1_t12 : Fin (k1_t12_loop v51).trips), ∀ (k1_h3 : k1_cond3 v51 = 1#1), ∀ a x, ((![v40, v27] : Fin 2 → IVec S16 32) a x).toNat < S144x432.size a := fun v27 v40 v51 k1_hw14 k1_t12 k1_h3 => k1_hw14.2.2.2 k1_t12 k1_h3
def k1_off59 (i : grid1.Coords) (k1_t3 : Fin k1_t3_loop.trips) (k1_t5 : Fin k1_t5_loop.trips) : Fin 4 → Nat :=
  let arg0 : BitVec 32 := BitVec.ofNat 32 (i 0).val
  let arg1 : BitVec 32 := BitVec.ofNat 32 (i 1).val
  let c4_i32_12 : BitVec 32 := 4#32
  let v4 : BitVec 32 := Scalar.muli arg1 c4_i32_12
  let c0_i32_9 : BitVec 32 := 0#32
  let c1_i32_10 : BitVec 32 := 1#32
  let arg12 : BitVec 32 := Scf.iv c0_i32_9 c1_i32_10 k1_t3
  let v5 : BitVec 32 := Scalar.addi v4 arg12
  let c0_i32_18 : BitVec 32 := 0#32
  let c1_i32_19 : BitVec 32 := 1#32
  let arg13 : BitVec 32 := Scf.iv c0_i32_18 c1_i32_19 k1_t5
  let c144_i32_21 : BitVec 32 := 144#32
  let v13 : BitVec 32 := Scalar.muli arg13 c144_i32_21
  let v14 : BitVec 32 := v13
  let c0_i32_43_r4 : BitVec 32 := 0#32
  ![arg0.toNat, v5.toNat, v14.toNat, 0]
@[reducible] def k1_t13_loop : Scf.Loop 32 :=
  let c0_i32_32 : BitVec 32 := 0#32
  let c93_i32_33 : BitVec 32 := 93#32
  let v17 : BitVec 32 := Scalar.addi c0_i32_32 c93_i32_33
  let c1_i32_34 : BitVec 32 := 1#32
  ⟨c0_i32_32, v17, c1_i32_34⟩
def k1_off60 (k1_t13 : Fin k1_t13_loop.trips) : Fin 2 → Nat :=
  let c0_i32_32 : BitVec 32 := 0#32
  let c1_i32_34 : BitVec 32 := 1#32
  let arg14 : BitVec 32 := Scf.iv c0_i32_32 c1_i32_34 k1_t13
  let v19 : Index := Scalar.indexCast arg14
  let c0 : Index := 0#32
  ![v19.toNat, 0]

def k1_chk15 (v24 : IVec S16 32) (v31 : IVec S16 32) : Prop :=
  (∀ a x, ((![v31, v24] : Fin 2 → IVec S16 32) a x).toNat < S144x432.size a)
theorem k1_idx17_inb : ∀ (v24 : IVec S16 32) (v31 : IVec S16 32) (k1_hw15 : k1_chk15 v24 v31), ∀ a x, ((![v31, v24] : Fin 2 → IVec S16 32) a x).toNat < S144x432.size a := fun v24 v31 k1_hw15 => k1_hw15
def k1_off61 (k1_t13 : Fin k1_t13_loop.trips) : Fin 2 → Nat :=
  let c0_i32_32 : BitVec 32 := 0#32
  let c1_i32_34 : BitVec 32 := 1#32
  let arg14 : BitVec 32 := Scf.iv c0_i32_32 c1_i32_34 k1_t13
  let v32 : Index := Scalar.indexCast arg14
  let c16 : Index := 16#32
  ![v32.toNat, 16]

def k1_chk16 (v37 : IVec S16 32) (v44 : IVec S16 32) : Prop :=
  (∀ a x, ((![v44, v37] : Fin 2 → IVec S16 32) a x).toNat < S144x432.size a)
theorem k1_idx18_inb : ∀ (v37 : IVec S16 32) (v44 : IVec S16 32) (k1_hw16 : k1_chk16 v37 v44), ∀ a x, ((![v44, v37] : Fin 2 → IVec S16 32) a x).toNat < S144x432.size a := fun v37 v44 k1_hw16 => k1_hw16
def k1_off62 (k1_t13 : Fin k1_t13_loop.trips) : Fin 2 → Nat :=
  let c0_i32_32 : BitVec 32 := 0#32
  let c1_i32_34 : BitVec 32 := 1#32
  let arg14 : BitVec 32 := Scf.iv c0_i32_32 c1_i32_34 k1_t13
  let v45 : Index := Scalar.indexCast arg14
  let c32 : Index := 32#32
  ![v45.toNat, 32]

def k1_chk17 (v50 : IVec S16 32) (v57 : IVec S16 32) : Prop :=
  (∀ a x, ((![v57, v50] : Fin 2 → IVec S16 32) a x).toNat < S144x432.size a)
theorem k1_idx19_inb : ∀ (v50 : IVec S16 32) (v57 : IVec S16 32) (k1_hw17 : k1_chk17 v50 v57), ∀ a x, ((![v57, v50] : Fin 2 → IVec S16 32) a x).toNat < S144x432.size a := fun v50 v57 k1_hw17 => k1_hw17
def k1_off63 (k1_t13 : Fin k1_t13_loop.trips) : Fin 2 → Nat :=
  let c0_i32_32 : BitVec 32 := 0#32
  let c1_i32_34 : BitVec 32 := 1#32
  let arg14 : BitVec 32 := Scf.iv c0_i32_32 c1_i32_34 k1_t13
  let v58 : Index := Scalar.indexCast arg14
  let c48 : Index := 48#32
  ![v58.toNat, 48]

def k1_chk18 (v63 : IVec S16 32) (v70 : IVec S16 32) : Prop :=
  (∀ a x, ((![v70, v63] : Fin 2 → IVec S16 32) a x).toNat < S144x432.size a)
theorem k1_idx20_inb : ∀ (v63 : IVec S16 32) (v70 : IVec S16 32) (k1_hw18 : k1_chk18 v63 v70), ∀ a x, ((![v70, v63] : Fin 2 → IVec S16 32) a x).toNat < S144x432.size a := fun v63 v70 k1_hw18 => k1_hw18
def k1_off64 (k1_t13 : Fin k1_t13_loop.trips) : Fin 2 → Nat :=
  let c0_i32_32 : BitVec 32 := 0#32
  let c1_i32_34 : BitVec 32 := 1#32
  let arg14 : BitVec 32 := Scf.iv c0_i32_32 c1_i32_34 k1_t13
  let v71 : Index := Scalar.indexCast arg14
  let c64 : Index := 64#32
  ![v71.toNat, 64]

def k1_chk19 (v76 : IVec S16 32) (v83 : IVec S16 32) : Prop :=
  (∀ a x, ((![v83, v76] : Fin 2 → IVec S16 32) a x).toNat < S144x432.size a)
theorem k1_idx21_inb : ∀ (v76 : IVec S16 32) (v83 : IVec S16 32) (k1_hw19 : k1_chk19 v76 v83), ∀ a x, ((![v83, v76] : Fin 2 → IVec S16 32) a x).toNat < S144x432.size a := fun v76 v83 k1_hw19 => k1_hw19
def k1_off65 (k1_t13 : Fin k1_t13_loop.trips) : Fin 2 → Nat :=
  let c0_i32_32 : BitVec 32 := 0#32
  let c1_i32_34 : BitVec 32 := 1#32
  let arg14 : BitVec 32 := Scf.iv c0_i32_32 c1_i32_34 k1_t13
  let v84 : Index := Scalar.indexCast arg14
  let c80 : Index := 80#32
  ![v84.toNat, 80]

def k1_chk20 (v89 : IVec S16 32) (v96 : IVec S16 32) : Prop :=
  (∀ a x, ((![v96, v89] : Fin 2 → IVec S16 32) a x).toNat < S144x432.size a)
theorem k1_idx22_inb : ∀ (v89 : IVec S16 32) (v96 : IVec S16 32) (k1_hw20 : k1_chk20 v89 v96), ∀ a x, ((![v96, v89] : Fin 2 → IVec S16 32) a x).toNat < S144x432.size a := fun v89 v96 k1_hw20 => k1_hw20
def k1_off66 (k1_t13 : Fin k1_t13_loop.trips) : Fin 2 → Nat :=
  let c0_i32_32 : BitVec 32 := 0#32
  let c1_i32_34 : BitVec 32 := 1#32
  let arg14 : BitVec 32 := Scf.iv c0_i32_32 c1_i32_34 k1_t13
  let v97 : Index := Scalar.indexCast arg14
  let c96 : Index := 96#32
  ![v97.toNat, 96]

def k1_chk21 (v102 : IVec S16 32) (v109 : IVec S16 32) : Prop :=
  (∀ a x, ((![v109, v102] : Fin 2 → IVec S16 32) a x).toNat < S144x432.size a)
theorem k1_idx23_inb : ∀ (v102 : IVec S16 32) (v109 : IVec S16 32) (k1_hw21 : k1_chk21 v102 v109), ∀ a x, ((![v109, v102] : Fin 2 → IVec S16 32) a x).toNat < S144x432.size a := fun v102 v109 k1_hw21 => k1_hw21
def k1_off67 (k1_t13 : Fin k1_t13_loop.trips) : Fin 2 → Nat :=
  let c0_i32_32 : BitVec 32 := 0#32
  let c1_i32_34 : BitVec 32 := 1#32
  let arg14 : BitVec 32 := Scf.iv c0_i32_32 c1_i32_34 k1_t13
  let v110 : Index := Scalar.indexCast arg14
  let c112 : Index := 112#32
  ![v110.toNat, 112]

def k1_chk22 (v115 : IVec S16 32) (v122 : IVec S16 32) : Prop :=
  (∀ a x, ((![v122, v115] : Fin 2 → IVec S16 32) a x).toNat < S144x432.size a)
theorem k1_idx24_inb : ∀ (v115 : IVec S16 32) (v122 : IVec S16 32) (k1_hw22 : k1_chk22 v115 v122), ∀ a x, ((![v122, v115] : Fin 2 → IVec S16 32) a x).toNat < S144x432.size a := fun v115 v122 k1_hw22 => k1_hw22
@[reducible] def k1_t14_loop : Scf.Loop 32 :=
  let c0_i32_37 : BitVec 32 := 0#32
  let c6_i32_38 : BitVec 32 := 6#32
  let v18 : BitVec 32 := Scalar.addi c0_i32_37 c6_i32_38
  let c1_i32_39 : BitVec 32 := 1#32
  ⟨c0_i32_37, v18, c1_i32_39⟩
def k1_off68 (k1_t14 : Fin k1_t14_loop.trips) : Fin 2 → Nat :=
  let c93_i32_41 : BitVec 32 := 93#32
  let v20 : Index := Scalar.indexCast c93_i32_41
  let c0_i32_37 : BitVec 32 := 0#32
  let c1_i32_39 : BitVec 32 := 1#32
  let arg14 : BitVec 32 := Scf.iv c0_i32_37 c1_i32_39 k1_t14
  let c16_i32 : BitVec 32 := 16#32
  let v19 : BitVec 32 := Scalar.muli arg14 c16_i32
  let v21 : Index := Scalar.indexCast v19
  ![93, v21.toNat]

def k1_chk23 (v27 : IVec S16 32) (v34 : IVec S16 32) : Prop :=
  (∀ a x, ((![v34, v27] : Fin 2 → IVec S16 32) a x).toNat < S144x432.size a)
theorem k1_idx25_inb : ∀ (v27 : IVec S16 32) (v34 : IVec S16 32) (k1_hw23 : k1_chk23 v27 v34), ∀ a x, ((![v34, v27] : Fin 2 → IVec S16 32) a x).toNat < S144x432.size a := fun v27 v34 k1_hw23 => k1_hw23
def k1_off69 (i : grid1.Coords) (k1_t3 : Fin k1_t3_loop.trips) : Fin 4 → Nat :=
  let arg0 : BitVec 32 := BitVec.ofNat 32 (i 0).val
  let arg1 : BitVec 32 := BitVec.ofNat 32 (i 1).val
  let c4_i32_12 : BitVec 32 := 4#32
  let v4 : BitVec 32 := Scalar.muli arg1 c4_i32_12
  let c0_i32_9 : BitVec 32 := 0#32
  let c1_i32_10 : BitVec 32 := 1#32
  let arg12 : BitVec 32 := Scf.iv c0_i32_9 c1_i32_10 k1_t3
  let v5 : BitVec 32 := Scalar.addi v4 arg12
  let c432_i32_r5 : BitVec 32 := 432#32
  let c0_i32_23_r5 : BitVec 32 := 0#32
  ![arg0.toNat, v5.toNat, 432, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x4x12000x100 : Shape := ⟨4, ![2, 4, 12000, 100]⟩
abbrev S2x12000x2 : Shape := ⟨3, ![2, 12000, 2]⟩
abbrev S64x4 : Shape := ⟨2, ![64, 4]⟩
abbrev S64 : Shape := ⟨1, ![64]⟩
abbrev S64x2x12000x100 : Shape := ⟨4, ![64, 2, 12000, 100]⟩
abbrev S2x64x12000x100 : Shape := ⟨4, ![2, 64, 12000, 100]⟩
abbrev S_ : Shape := ⟨0, ![]⟩
abbrev S1x64x1x1 : Shape := ⟨4, ![1, 64, 1, 1]⟩
abbrev S2x64x12000 : Shape := ⟨3, ![2, 64, 12000]⟩
abbrev S2x12000x64 : Shape := ⟨3, ![2, 12000, 64]⟩
abbrev S2x12000x1 : Shape := ⟨3, ![2, 12000, 1]⟩
abbrev S2x12000 : Shape := ⟨2, ![2, 12000]⟩
abbrev S1x12000x64 : Shape := ⟨3, ![1, 12000, 64]⟩
abbrev S12000x64 : Shape := ⟨2, ![12000, 64]⟩
abbrev S1x12000 : Shape := ⟨2, ![1, 12000]⟩
abbrev S12000 : Shape := ⟨1, ![12000]⟩
abbrev S214272x64 : Shape := ⟨2, ![214272, 64]⟩
abbrev S12000x1 : Shape := ⟨2, ![12000, 1]⟩
abbrev S1x214272x64 : Shape := ⟨3, ![1, 214272, 64]⟩
abbrev S2x214272x64 : Shape := ⟨3, ![2, 214272, 64]⟩
abbrev S2x496x432x64 : Shape := ⟨4, ![2, 496, 432, 64]⟩
abbrev S2x64x496x432 : Shape := ⟨4, ![2, 64, 496, 432]⟩

abbrev nBuf : Space → Nat
  | .hbm => 100
  | .vmem => 0
  | .smem => 0
  | _ => 0

abbrev bufTy : (tb : Table) → Fin (tcTables nBuf tb) → BufTy
  | .hbm, ⟨0, _⟩ => ⟨S2x4x12000x100, .f32⟩
  | .hbm, ⟨1, _⟩ => ⟨S2x12000x2, .i32⟩
  | .hbm, ⟨2, _⟩ => ⟨S64x4, .f32⟩
  | .hbm, ⟨3, _⟩ => ⟨S64, .f32⟩
  | .hbm, ⟨4, _⟩ => ⟨S64, .f32⟩
  | .hbm, ⟨5, _⟩ => ⟨S64x2x12000x100, .f32⟩
  | .hbm, ⟨6, _⟩ => ⟨S2x64x12000x100, .f32⟩
  | .hbm, ⟨7, _⟩ => ⟨S_, .f32⟩
  | .hbm, ⟨8, _⟩ => ⟨S64, .f32⟩
  | .hbm, ⟨9, _⟩ => ⟨S1x64x1x1, .f32⟩
  | .hbm, ⟨10, _⟩ => ⟨S_, .f32⟩
  | .hbm, ⟨11, _⟩ => ⟨S1x64x1x1, .f32⟩
  | .hbm, ⟨12, _⟩ => ⟨S1x64x1x1, .f32⟩
  | .hbm, ⟨13, _⟩ => ⟨S_, .i32⟩
  | .hbm, ⟨14, _⟩ => ⟨S_, .f32⟩
  | .hbm, ⟨15, _⟩ => ⟨S64, .f32⟩
  | .hbm, ⟨16, _⟩ => ⟨S1x64x1x1, .f32⟩
  | .hbm, ⟨17, _⟩ => ⟨S_, .f32⟩
  | .hbm, ⟨18, _⟩ => ⟨S1x64x1x1, .f32⟩
  | .hbm, ⟨19, _⟩ => ⟨S1x64x1x1, .f32⟩
  | .hbm, ⟨20, _⟩ => ⟨S2x64x12000x100, .f32⟩
  | .hbm, ⟨21, _⟩ => ⟨S2x64x12000x100, .f32⟩
  | .hbm, ⟨22, _⟩ => ⟨S2x64x12000x100, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64, .f32⟩
  | .hbm, ⟨28, _⟩ => ⟨S1x64x1x1, .f32⟩
  | .hbm, ⟨29, _⟩ => ⟨S1x64x1x1, .f32⟩
  | .hbm, ⟨30, _⟩ => ⟨S1x64x1x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S1x64x1x1, .f32⟩
  | .hbm, ⟨36, _⟩ => ⟨S1x64x1x1, .f32⟩
  | .hbm, ⟨37, _⟩ => ⟨S2x64x12000x100, .f32⟩
  | .hbm, ⟨38, _⟩ => ⟨S2x64x12000x100, .f32⟩
  | .hbm, ⟨39, _⟩ => ⟨S_, .f32⟩
  | .hbm, ⟨40, _⟩ => ⟨S1x64x1x1, .f32⟩
  | .hbm, ⟨41, _⟩ => ⟨S1x64x1x1, .f32⟩
  | .hbm, ⟨42, _⟩ => ⟨S1x64x1x1, .f32⟩
  | .hbm, ⟨43, _⟩ => ⟨S2x64x12000x100, .f32⟩
  | .hbm, ⟨44, _⟩ => ⟨S2x64x12000x100, .f32⟩
  | .hbm, ⟨45, _⟩ => ⟨S1x64x1x1, .f32⟩
  | .hbm, ⟨46, _⟩ => ⟨S2x64x12000x100, .f32⟩
  | .hbm, ⟨47, _⟩ => ⟨S2x64x12000x100, .f32⟩
  | .hbm, ⟨48, _⟩ => ⟨S1x64x1x1, .f32⟩
  | .hbm, ⟨49, _⟩ => ⟨S2x64x12000x100, .f32⟩
  | .hbm, ⟨50, _⟩ => ⟨S2x64x12000x100, .f32⟩
  | .hbm, ⟨51, _⟩ => ⟨S_, .f32⟩
  | .hbm, ⟨52, _⟩ => ⟨S2x64x12000x100, .f32⟩
  | .hbm, ⟨53, _⟩ => ⟨S2x64x12000x100, .f32⟩
  | .hbm, ⟨54, _⟩ => ⟨S_, .f32⟩
  | .hbm, ⟨55, _⟩ => ⟨S2x64x12000, .f32⟩
  | .hbm, ⟨56, _⟩ => ⟨S2x12000x64, .f32⟩
  | .hbm, ⟨57, _⟩ => ⟨S2x12000x1, .i32⟩
  | .hbm, ⟨58, _⟩ => ⟨S2x12000, .i32⟩
  | .hbm, ⟨59, _⟩ => ⟨S_, .i32⟩
  | .hbm, ⟨60, _⟩ => ⟨S2x12000, .i32⟩
  | .hbm, ⟨61, _⟩ => ⟨S2x12000, .i32⟩
  | .hbm, ⟨62, _⟩ => ⟨S2x12000x1, .i32⟩
  | .hbm, ⟨63, _⟩ => ⟨S2x12000, .i32⟩
  | .hbm, ⟨64, _⟩ => ⟨S2x12000, .i32⟩
  | .hbm, ⟨65, _⟩ => ⟨S1x12000x64, .f32⟩
  | .hbm, ⟨66, _⟩ => ⟨S12000x64, .f32⟩
  | .hbm, ⟨67, _⟩ => ⟨S1x12000, .i32⟩
  | .hbm, ⟨68, _⟩ => ⟨S12000, .i32⟩
  | .hbm, ⟨69, _⟩ => ⟨S_, .f32⟩
  | .hbm, ⟨70, _⟩ => ⟨S214272x64, .f32⟩
  | .hbm, ⟨71, _⟩ => ⟨S_, .i32⟩
  | .hbm, ⟨72, _⟩ => ⟨S12000, .i32⟩
  | .hbm, ⟨73, _⟩ => ⟨S12000, .i1⟩
  | .hbm, ⟨74, _⟩ => ⟨S_, .i32⟩
  | .hbm, ⟨75, _⟩ => ⟨S12000, .i32⟩
  | .hbm, ⟨76, _⟩ => ⟨S12000, .i32⟩
  | .hbm, ⟨77, _⟩ => ⟨S12000, .i32⟩
  | .hbm, ⟨78, _⟩ => ⟨S12000x1, .i32⟩
  | .hbm, ⟨79, _⟩ => ⟨S214272x64, .f32⟩
  | .hbm, ⟨80, _⟩ => ⟨S1x12000x64, .f32⟩
  | .hbm, ⟨81, _⟩ => ⟨S12000x64, .f32⟩
  | .hbm, ⟨82, _⟩ => ⟨S1x12000, .i32⟩
  | .hbm, ⟨83, _⟩ => ⟨S12000, .i32⟩
  | .hbm, ⟨84, _⟩ => ⟨S_, .f32⟩
  | .hbm, ⟨85, _⟩ => ⟨S214272x64, .f32⟩
  | .hbm, ⟨86, _⟩ => ⟨S_, .i32⟩
  | .hbm, ⟨87, _⟩ => ⟨S12000, .i32⟩
  | .hbm, ⟨88, _⟩ => ⟨S12000, .i1⟩
  | .hbm, ⟨89, _⟩ => ⟨S_, .i32⟩
  | .hbm, ⟨90, _⟩ => ⟨S12000, .i32⟩
  | .hbm, ⟨91, _⟩ => ⟨S12000, .i32⟩
  | .hbm, ⟨92, _⟩ => ⟨S12000, .i32⟩
  | .hbm, ⟨93, _⟩ => ⟨S12000x1, .i32⟩
  | .hbm, ⟨94, _⟩ => ⟨S214272x64, .f32⟩
  | .hbm, ⟨95, _⟩ => ⟨S1x214272x64, .f32⟩
  | .hbm, ⟨96, _⟩ => ⟨S1x214272x64, .f32⟩
  | .hbm, ⟨97, _⟩ => ⟨S2x214272x64, .f32⟩
  | .hbm, ⟨98, _⟩ => ⟨S2x496x432x64, .f32⟩
  | .hbm, ⟨99, _⟩ => ⟨S2x64x496x432, .f32⟩
  | _, _ => ⟨S2x4x12000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_call1_cst : Ref sig .tc := ⟨.hbm, 51, rfl⟩
abbrev main_call1_v0 : Ref sig .tc := ⟨.hbm, 52, rfl⟩
abbrev main_v20 : Ref sig .tc := ⟨.hbm, 53, rfl⟩
abbrev main_cst_2 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_3 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_4 : Ref sig .tc := ⟨.hbm, 69, rfl⟩
abbrev main_v34 : Ref sig .tc := ⟨.hbm, 70, rfl⟩
abbrev main_c_5 : Ref sig .tc := ⟨.hbm, 71, rfl⟩
abbrev main_v35 : Ref sig .tc := ⟨.hbm, 72, rfl⟩
abbrev main_v36 : Ref sig .tc := ⟨.hbm, 73, rfl⟩
abbrev main_c_6 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_7 : Ref sig .tc := ⟨.hbm, 84, rfl⟩
abbrev main_v46 : Ref sig .tc := ⟨.hbm, 85, rfl⟩
abbrev main_c_8 : Ref sig .tc := ⟨.hbm, 86, rfl⟩
abbrev main_v47 : Ref sig .tc := ⟨.hbm, 87, rfl⟩
abbrev main_v48 : Ref sig .tc := ⟨.hbm, 88, rfl⟩
abbrev main_c_9 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩

abbrev nD : Nat := 1
abbrev τ : Topo := Topo.v7x

variable {F : FTy → Type} [FloatOps F]
-- ==== Proof.Canvas.lean ====
module

public import Idealize.ShloMosaic.PureOps.ShapeOps
public import Idealize.ShloMosaic.Lib.Tactic
public import Idealize.ShloMosaic.Lib.ValueLayout

@[expose] public section

noncomputable section

/-!
# What the scatter's canvas holds

A canvas is one segment of 144 rows of the grid, as one tile keeps it. Pillar `p` lies at `pos p` of the three tables
(row, column, value); it lands in a cell of the canvas when its row, less the segment's first row, and its column name
the cell. `total n` is the canvas after the first `n` groups of sixteen pillars: each cell holds zero with the values of
its pillars added in ascending order. Here are the pure facts the loops of the kernel are run by: one store of a group
takes `total n` to `total (n + 1)`; so do the rounds of the slow path, one count of duplicates at a time; and the stores
of zeros empty the canvas again.
-/

namespace Cert.Scatter

open Idealize.ShloMosaic Idealize.ShloMosaic.ValueIdx

abbrev Lane : Shape := ⟨1, ![16]⟩
abbrev Row16 : Shape := ⟨2, ![1, 16]⟩
abbrev Tab : Shape := ⟨2, ![96, 128]⟩
abbrev Can : Shape := ⟨2, ![144, 432]⟩

variable {F : FTy → Type} [FloatOps F]

/-- Where pillar `p` lies in the tables. -/
def pos (p : ℕ) : Tab.Idx := fun
  | 0 => ⟨p / 128 % 96, Nat.mod_lt _ (by decide)⟩
  | 1 => ⟨p % 128, Nat.mod_lt _ (by decide)⟩

/-- Group `n` of sixteen pillars, as the lanes of a vector. -/
def grp {α : Type} (b : Tab.Idx → α) (n : ℕ) : Lane.Idx → α := fun x => b (pos (16 * n + (x 0).val))

/-- Pillar `p` lands in cell `j` of the segment that starts at row `r0`. -/
def Hits (r0 : ℕ) (row col : Tab.Idx → BitVec 32) (j : Can.Idx) (p : ℕ) : Prop :=
  (row (pos p)).toNat = r0 + (j 0).val ∧ (col (pos p)).toNat = (j 1).val

instance (r0 : ℕ) (row col : Tab.Idx → BitVec 32) (j : Can.Idx) (p : ℕ) : Decidable (Hits r0 row col j p) :=
  inferInstanceAs (Decidable (_ ∧ _))

/-- Adding a pillar's value onto a cell. -/
abbrev addTo (val : Tab.Idx → F .f32) (a : F .f32) (p : ℕ) : F .f32 := FloatOps.idxAddf a (val (pos p))

/-- The zero the canvas starts from. -/
abbrev zero : F .f32 := Scalar.ofBits .f32 0x00000000#32

/-- The canvas after the first `n` groups. -/
def total (r0 : ℕ) (row col : Tab.Idx → BitVec 32) (val : Tab.Idx → F .f32) (n : ℕ) : Can.Idx → F .f32 := fun j =>
  ((List.range (16 * n)).filter (fun p => decide (Hits r0 row col j p))).foldl (addTo val) zero

theorem total_zero (r0 : ℕ) (row col : Tab.Idx → BitVec 32) (val : Tab.Idx → F .f32) :
    total r0 row col val 0 = fun _ => zero := rfl

theorem range_group (n : ℕ) :
    List.range (16 * (n + 1)) = List.range (16 * n) ++ (List.finRange 16).map (fun k => 16 * n + k.val) := by
  rw [Nat.mul_succ, List.range_add]
  congr 1

/-- The canvas after one more group, from the canvas before it. -/
theorem total_succ (r0 : ℕ) (row col : Tab.Idx → BitVec 32) (val : Tab.Idx → F .f32) (n : ℕ) (j : Can.Idx) :
    total r0 row col val (n + 1) j
      = ((List.finRange 16).filter (fun k => decide (Hits r0 row col j (16 * n + k.val)))).foldl
          (fun a k => addTo val a (16 * n + k.val)) (total r0 row col val n j) := by
  unfold total
  rw [range_group, List.filter_append, List.foldl_append, List.filter_map, List.foldl_map]
  rfl

/-! ## One indexed store, cell by cell -/

/-- Lane `k` of a vector of sixteen. -/
abbrev lane (k : Fin 16) : Lane.Idx := Shape.ofLane (d := ![16]) k

/-- Lane `k` of the vector names cell `j`, and its mask bit is set. -/
def Names (idxs : Fin 2 → IVec Lane 32) (mask : IVec Lane 1) (j : Can.Idx) (k : Fin 16) : Prop :=
  mask (lane k) = 1 ∧ (idxs 0 (lane k)).toNat = (j 0).val ∧ (idxs 1 (lane k)).toNat = (j 1).val

instance (idxs : Fin 2 → IVec Lane 32) (mask : IVec Lane 1) (j : Can.Idx) (k : Fin 16) : Decidable (Names idxs mask j k) :=
  inferInstanceAs (Decidable (_ ∧ _))

/-- One lane's part of an indexed store. -/
def laneStep (idxs : Fin 2 → IVec Lane 32) (v : Lane.Idx → F .f32) (mask : IVec Lane 1) (add : Bool)
    (g : Can.Idx → F .f32) (k : Fin 16) : Can.Idx → F .f32 := fun j =>
  if Names idxs mask j k then (if add then FloatOps.idxAddf (g j) (v (lane k)) else v (lane k)) else g j

theorem foldl_laneStep (idxs : Fin 2 → IVec Lane 32) (v : Lane.Idx → F .f32) (mask : IVec Lane 1) (add : Bool)
    (L : List (Fin 16)) (f : Can.Idx → F .f32) (j : Can.Idx) :
    L.foldl (laneStep idxs v mask add) f j
      = (L.filter (fun k => decide (Names idxs mask j k))).foldl
          (fun a k => if add then FloatOps.idxAddf a (v (lane k)) else v (lane k)) (f j) := by
  induction L generalizing f with
  | nil => rfl
  | cons k L ih =>
    rw [List.foldl_cons, ih, List.filter_cons]
    by_cases hn : Names idxs mask j k
    · rw [if_pos (by simpa using hn), List.foldl_cons, laneStep, if_pos hn]
    · rw [if_neg (by simpa using hn), laneStep, if_neg hn]

/-- An indexed store at one cell: the lanes that name it, in order. -/
theorem storeIdx_apply (f : Can.Idx → F .f32) (idxs : Fin 2 → IVec Lane 32) (v : Lane.Idx → F .f32) (mask : IVec Lane 1)
    (add : Bool) (h : ∀ a x, (idxs a x).toNat < Can.size a) (j : Can.Idx) :
    storeIdx (s := Can) (d := ![16]) (e := .f32) f idxs v mask add h j
      = ((List.finRange 16).filter (fun k => decide (Names idxs mask j k))).foldl
          (fun a k => if add then FloatOps.idxAddf a (v (lane k)) else v (lane k)) (f j) := by
  rw [← foldl_laneStep]
  unfold storeIdx
  refine congrFun (congrArg (fun G => List.foldl G f (List.finRange 16)) (funext fun g => funext fun k => funext fun j => ?_)) j
  by_cases hm : mask (lane k) = 1
  · refine (congrFun (if_pos hm) j).trans ?_
    by_cases hj : ∀ a, (j a).val = (idxAt (s := Can) idxs h (lane k) a).val
    · have hn : Names idxs mask j k := ⟨hm, (hj 0).symm, (hj 1).symm⟩
      have hji : idxAt (s := Can) idxs h (lane k) = j := funext fun a => Fin.ext (hj a).symm
      refine (if_pos hj).trans ?_
      rw [laneStep, if_pos hn, ← hji]
      rfl
    · have hn : ¬ Names idxs mask j k := fun hn => hj fun a => by
        match a with
        | 0 => exact hn.2.1.symm
        | 1 => exact hn.2.2.symm
      refine (if_neg hj).trans ?_
      rw [laneStep, if_neg hn]
  · have hn : ¬ Names idxs mask j k := fun hn => hm hn.1
    refine (congrFun (if_neg hm) j).trans ?_
    rw [laneStep, if_neg hn]

/-! ## The row within the segment -/

/-- The rows of a group less the segment's first row. -/
abbrev rel (r0 : BitVec 32) (v : IVec Lane 32) : IVec Lane 32 := subi v (broadcast Lane r0)
/-- Whether they lie in the segment. -/
abbrev inSeg (r0 : BitVec 32) (v : IVec Lane 32) : IVec Lane 1 :=
  andi (cmpi .sge (rel r0 v) (broadcast Lane 0#32)) (cmpi .slt (rel r0 v) (broadcast Lane 144#32))
/-- The row a lane is stored at: row 0 for a lane outside the segment, which stores nothing. -/
abbrev rowIx (r0 : BitVec 32) (v : IVec Lane 32) : IVec Lane 32 := select (inSeg r0 v) (rel r0 v) (broadcast Lane 0#32)

theorem rel_cases (R : ℕ) (hR : R ≤ 288) (a : BitVec 32) (ha : a.toNat < 432) :
    ((a - BitVec.ofNat 32 R).toInt = (a.toNat : ℤ) - R) := by
  have h2 : (BitVec.ofNat 32 R).toNat = R := by rw [BitVec.toNat_ofNat]; omega
  rw [BitVec.toInt_sub, BitVec.toInt_eq_toNat_of_lt (by omega), BitVec.toInt_eq_toNat_of_lt (by omega), h2]
  exact Int.bmod_eq_of_le (by omega) (by omega)

theorem inSeg_iff (R : ℕ) (hR : R ≤ 288) (v : IVec Lane 32) (x : Lane.Idx) (hv : (v x).toNat < 432) :
    inSeg (BitVec.ofNat 32 R) v x = 1 ↔ R ≤ (v x).toNat ∧ (v x).toNat < R + 144 := by
  have h := rel_cases R hR (v x) hv
  show (BitVec.ofBool ((0#32).sle (v x - BitVec.ofNat 32 R)) &&& BitVec.ofBool ((v x - BitVec.ofNat 32 R).slt 144#32) : BitVec 1) = 1 ↔ _
  rw [show (0#32).sle (v x - BitVec.ofNat 32 R) = decide (R ≤ (v x).toNat) by
        rw [BitVec.sle, h]; exact decide_eq_decide.2 (by rw [show (0#32).toInt = 0 by decide]; omega),
      show (v x - BitVec.ofNat 32 R).slt 144#32 = decide ((v x).toNat < R + 144) by
        rw [BitVec.slt, h]; exact decide_eq_decide.2 (by rw [show (144#32).toInt = 144 by decide]; omega)]
  by_cases h1 : R ≤ (v x).toNat <;> by_cases h2 : (v x).toNat < R + 144 <;> simp [h1, h2]

theorem rowIx_pos (R : ℕ) (hR : R ≤ 288) (v : IVec Lane 32) (x : Lane.Idx) (hv : (v x).toNat < 432)
    (hm : inSeg (BitVec.ofNat 32 R) v x = 1) : (rowIx (BitVec.ofNat 32 R) v x).toNat = (v x).toNat - R := by
  have hc := (inSeg_iff R hR v x hv).1 hm
  have h := rel_cases R hR (v x) hv
  have hs : rowIx (BitVec.ofNat 32 R) v x = v x - BitVec.ofNat 32 R := if_pos hm
  rw [hs]
  have := BitVec.toInt_eq_toNat_cond (v x - BitVec.ofNat 32 R)
  have := (v x - BitVec.ofNat 32 R).isLt
  split at * <;> omega

theorem rowIx_lt (R : ℕ) (hR : R ≤ 288) (v : IVec Lane 32) (x : Lane.Idx) (hv : (v x).toNat < 432) :
    (rowIx (BitVec.ofNat 32 R) v x).toNat < 144 := by
  by_cases hm : inSeg (BitVec.ofNat 32 R) v x = 1
  · rw [rowIx_pos R hR v x hv hm]
    have := (inSeg_iff R hR v x hv).1 hm
    omega
  · have hs : rowIx (BitVec.ofNat 32 R) v x = 0#32 := if_neg hm
    rw [hs]; decide

/-- The check every indexed store passes: the rows stored at and the columns are inside the canvas. -/
theorem inb_of (R : ℕ) (hR : R ≤ 288) (v c : IVec Lane 32) (hv : ∀ x, (v x).toNat < 432) (hc : ∀ x, (c x).toNat < 432) :
    ∀ a x, ((![rowIx (BitVec.ofNat 32 R) v, c] : Fin 2 → IVec Lane 32) a x).toNat < Can.size a := by
  intro a x
  match a with
  | 0 => exact rowIx_lt R hR v x (hv x)
  | 1 => exact hc x

/-! ## The fast path: one store a group -/

section Group

variable (R : ℕ) (hR : R ≤ 288) (row col : Tab.Idx → BitVec 32) (val : Tab.Idx → F .f32)

include hR

/-- A lane of group `n` names the cell its pillar lands in. -/
theorem names_iff (hrow : ∀ p, (row p).toNat < 432) (n : ℕ) (j : Can.Idx) (k : Fin 16) :
    Names ![rowIx (BitVec.ofNat 32 R) (grp row n), grp col n] (inSeg (BitVec.ofNat 32 R) (grp row n)) j k
      ↔ Hits R row col j (16 * n + k.val) := by
  have hj : (j 0).val < 144 := (j 0).isLt
  have hi := inSeg_iff R hR (grp row n) (lane k) (hrow _)
  have hr : grp row n (lane k) = row (pos (16 * n + k.val)) := rfl
  have hc : grp col n (lane k) = col (pos (16 * n + k.val)) := rfl
  constructor
  · rintro ⟨hm, h0, h1⟩
    have h0' : (rowIx (BitVec.ofNat 32 R) (grp row n) (lane k)).toNat = (j 0).val := h0
    have h1' : (grp col n (lane k)).toNat = (j 1).val := h1
    have hp := rowIx_pos R hR (grp row n) (lane k) (hrow _) hm
    have hb := hi.1 hm
    rw [hr] at hp hb
    rw [hc] at h1'
    exact ⟨by omega, h1'⟩
  · rintro ⟨h0, h1⟩
    have hm := hi.2 (by rw [hr]; omega)
    have hp := rowIx_pos R hR (grp row n) (lane k) (hrow _) hm
    rw [hr] at hp
    refine ⟨hm, ?_, ?_⟩
    · show (rowIx (BitVec.ofNat 32 R) (grp row n) (lane k)).toNat = (j 0).val
      omega
    · show (grp col n (lane k)).toNat = (j 1).val
      rw [hc]; exact h1

/-- One adding store of group `n` takes the canvas after `n` groups to that after `n + 1`. -/
theorem store_total (hrow : ∀ p, (row p).toNat < 432) (n : ℕ)
    (h : ∀ a x, ((![rowIx (BitVec.ofNat 32 R) (grp row n), grp col n] : Fin 2 → IVec Lane 32) a x).toNat < Can.size a) :
    storeIdx (s := Can) (d := ![16]) (e := .f32) (total R row col val n)
        ![rowIx (BitVec.ofNat 32 R) (grp row n), grp col n] (grp val n) (inSeg (BitVec.ofNat 32 R) (grp row n)) true h
      = total R row col val (n + 1) := by
  funext j
  rw [storeIdx_apply, total_succ]
  rw [show (fun k => decide (Names ![rowIx (BitVec.ofNat 32 R) (grp row n), grp col n] (inSeg (BitVec.ofNat 32 R) (grp row n)) j k))
    = fun k => decide (Hits R row col j (16 * n + k.val)) from funext fun k => decide_eq_decide.2 (names_iff R hR row col hrow n j k)]
  rfl

/-! ## The slow path: one store a count of duplicates -/

omit hR in
/-- The word by which the duplicates of a group are counted: the cell's place in the canvas. -/
abbrev key (n : ℕ) : IVec Lane 32 := addi (muli (rel (BitVec.ofNat 32 R) (grp row n)) (broadcast Lane 432#32)) (grp col n)
omit hR in
/-- Of each lane in the segment, how many lanes up to it land in its cell. -/
abbrev cnt (n : ℕ) : IVec Lane 32 := (scanCount (inSeg (BitVec.ofNat 32 R) (grp row n)) (key R row col n)).2

omit hR in
theorem ext_lane (x : Lane.Idx) : ∃ k, x = lane k := ⟨x 0, funext fun a => by rw [Fin.eq_zero a]; rfl⟩

omit hR in
theorem card_le (p : Lane.Idx → Prop) [DecidablePred p] : (Finset.univ.filter p).card ≤ 16 := by
  refine (Finset.card_le_univ _).trans ?_
  have h : (Finset.univ : Finset Lane.Idx) ⊆ (Finset.univ : Finset (Fin 16)).image lane := fun x _ => by
    obtain ⟨k, rfl⟩ := ext_lane x
    exact Finset.mem_image_of_mem _ (Finset.mem_univ _)
  exact (Finset.card_le_card h).trans (Finset.card_image_le)

omit hR in
theorem cnt_eq (n : ℕ) (k : Fin 16) (hm : inSeg (BitVec.ofNat 32 R) (grp row n) (lane k) = 1) :
    (cnt R row col n (lane k)).toNat
      = (Finset.univ.filter fun x => (Lane.rowMajor x).val ≤ (Lane.rowMajor (lane k)).val
          ∧ inSeg (BitVec.ofNat 32 R) (grp row n) x = 1 ∧ key R row col n x = key R row col n (lane k)).card := by
  have h : cnt R row col n (lane k) = BitVec.ofNat 32 _ := if_pos hm
  rw [h, BitVec.toNat_ofNat]
  exact Nat.mod_eq_of_lt (lt_of_le_of_lt (card_le _) (by decide))

omit hR in
theorem cnt_le (n : ℕ) (k : Fin 16) (hm : inSeg (BitVec.ofNat 32 R) (grp row n) (lane k) = 1) :
    (cnt R row col n (lane k)).toNat ≤ 16 := by
  rw [cnt_eq R row col n k hm]; exact card_le _

omit hR in
theorem cnt_pos (n : ℕ) (k : Fin 16) (hm : inSeg (BitVec.ofNat 32 R) (grp row n) (lane k) = 1) :
    1 ≤ (cnt R row col n (lane k)).toNat := by
  rw [cnt_eq R row col n k hm]
  exact Finset.card_pos.2 ⟨lane k, Finset.mem_filter.2 ⟨Finset.mem_univ _, le_rfl, hm, rfl⟩⟩

/-- Along the lanes that land in one cell the count rises. -/
theorem cnt_lt (hrow : ∀ p, (row p).toNat < 432) (n : ℕ) (j : Can.Idx) (a b : Fin 16) (hab : a < b)
    (ha : Hits R row col j (16 * n + a.val)) (hb : Hits R row col j (16 * n + b.val)) :
    (cnt R row col n (lane a)).toNat < (cnt R row col n (lane b)).toNat := by
  have na := (names_iff R hR row col hrow n j a).2 ha
  have nb := (names_iff R hR row col hrow n j b).2 hb
  rw [cnt_eq R row col n a na.1, cnt_eq R row col n b nb.1]
  have hk : key R row col n (lane a) = key R row col n (lane b) := by
    have h0 : grp row n (lane a) = grp row n (lane b) := BitVec.eq_of_toNat_eq (ha.1.trans hb.1.symm)
    have h1 : grp col n (lane a) = grp col n (lane b) := BitVec.eq_of_toNat_eq (ha.2.trans hb.2.symm)
    show (grp row n (lane a) - BitVec.ofNat 32 R) * 432#32 + grp col n (lane a)
      = (grp row n (lane b) - BitVec.ofNat 32 R) * 432#32 + grp col n (lane b)
    rw [h0, h1]
  have hlt : (Lane.rowMajor (lane a)).val < (Lane.rowMajor (lane b)).val := by
    rw [Shape.rowMajor_val_one, Shape.rowMajor_val_one]; exact hab
  refine Finset.card_lt_card ((Finset.ssubset_iff_of_subset fun x hx => ?_).2 ⟨lane b, ?_, ?_⟩)
  · rw [Finset.mem_filter] at hx ⊢
    exact ⟨hx.1, hx.2.1.trans hlt.le, hx.2.2.1, hx.2.2.2.trans hk⟩
  · exact Finset.mem_filter.2 ⟨Finset.mem_univ _, le_rfl, nb.1, rfl⟩
  · intro hx
    rw [Finset.mem_filter] at hx
    exact absurd hx.2.1 (by omega)

/-- The canvas after `n` groups and, of the next, the lanes whose count is at most `q`. -/
def rounds (n q : ℕ) : Can.Idx → F .f32 := fun j =>
  ((List.finRange 16).filter (fun k => decide (Hits R row col j (16 * n + k.val) ∧ (cnt R row col n (lane k)).toNat ≤ q))).foldl
    (fun a k => addTo val a (16 * n + k.val)) (total R row col val n j)

theorem rounds_zero (hrow : ∀ p, (row p).toNat < 432) (n : ℕ) : rounds R row col val n 0 = total R row col val n := by
  funext j
  unfold rounds
  rw [List.filter_eq_nil_iff.2 fun k _ => by
    rw [decide_eq_true_iff]
    rintro ⟨h, h0⟩
    exact absurd (cnt_pos R row col n k ((names_iff R hR row col hrow n j k).2 h).1) (by omega)]
  rfl

theorem rounds_top (hrow : ∀ p, (row p).toNat < 432) (n q : ℕ)
    (hq : ∀ k, inSeg (BitVec.ofNat 32 R) (grp row n) (lane k) = 1 → (cnt R row col n (lane k)).toNat ≤ q) :
    rounds R row col val n q = total R row col val (n + 1) := by
  funext j
  rw [total_succ]
  unfold rounds
  rw [show (fun k => decide (Hits R row col j (16 * n + k.val) ∧ (cnt R row col n (lane k)).toNat ≤ q))
    = fun k => decide (Hits R row col j (16 * n + k.val)) from funext fun k => decide_eq_decide.2
      ⟨And.left, fun h => ⟨h, hq k ((names_iff R hR row col hrow n j k).2 h).1⟩⟩]

omit hR in
/-- A list sorted by `c` on `P`: what `P` keeps up to `q + 1` is what it keeps up to `q`, then at `q + 1`. -/
theorem filter_le_succ {α : Type} (P : α → Prop) [DecidablePred P] (c : α → ℕ) (q : ℕ) (L : List α)
    (hL : L.Pairwise fun a b => P a → P b → c a < c b) :
    L.filter (fun k => decide (P k ∧ c k ≤ q + 1))
      = L.filter (fun k => decide (P k ∧ c k ≤ q)) ++ L.filter (fun k => decide (P k ∧ c k = q + 1)) := by
  induction L with
  | nil => rfl
  | cons a L ih =>
    rw [List.pairwise_cons] at hL
    have ih := ih hL.2
    simp only [List.filter_cons, decide_eq_true_eq]
    by_cases hP : P a
    · by_cases h1 : c a ≤ q
      · rw [if_pos ⟨hP, by omega⟩, if_pos ⟨hP, h1⟩, if_neg (by rintro ⟨_, h⟩; omega), ih]; rfl
      · by_cases h2 : c a = q + 1
        · have hn : ∀ b ∈ L, P b → q + 1 < c b := fun b hb hPb => h2 ▸ hL.1 b hb hP hPb
          rw [if_pos ⟨hP, by omega⟩, if_neg (by rintro ⟨_, h⟩; omega), if_pos ⟨hP, h2⟩, ih,
            show L.filter (fun k => decide (P k ∧ c k ≤ q)) = [] from List.filter_eq_nil_iff.2 fun b hb => by
              rw [decide_eq_true_iff]
              rintro ⟨h, h'⟩
              have := hn b hb h
              omega]
          rfl
        · rw [if_neg (by rintro ⟨_, h⟩; omega), if_neg (by rintro ⟨_, h⟩; omega), if_neg (by rintro ⟨_, h⟩; omega), ih]
    · rw [if_neg (fun h => hP h.1), if_neg (fun h => hP h.1), if_neg (fun h => hP h.1), ih]

/-- One adding store of the lanes at count `q + 1`. -/
theorem store_round (hrow : ∀ p, (row p).toNat < 432) (n q : ℕ) (c : BitVec 32) (hc : c.toNat = q + 1)
    (h : ∀ a x, ((![rowIx (BitVec.ofNat 32 R) (grp row n), grp col n] : Fin 2 → IVec Lane 32) a x).toNat < Can.size a) :
    storeIdx (s := Can) (d := ![16]) (e := .f32) (rounds R row col val n q)
        ![rowIx (BitVec.ofNat 32 R) (grp row n), grp col n] (grp val n)
        (andi (inSeg (BitVec.ofNat 32 R) (grp row n)) (cmpi .eq (cnt R row col n) (broadcast Lane c))) true h
      = rounds R row col val n (q + 1) := by
  funext j
  have hN : ∀ k : Fin 16, Names ![rowIx (BitVec.ofNat 32 R) (grp row n), grp col n]
      (andi (inSeg (BitVec.ofNat 32 R) (grp row n)) (cmpi .eq (cnt R row col n) (broadcast Lane c))) j k
        ↔ (Hits R row col j (16 * n + k.val) ∧ (cnt R row col n (lane k)).toNat = q + 1) := fun k => by
    rw [← names_iff R hR row col hrow n j k]
    have hand : (andi (inSeg (BitVec.ofNat 32 R) (grp row n)) (cmpi .eq (cnt R row col n) (broadcast Lane c)) (lane k) = 1)
        ↔ (inSeg (BitVec.ofNat 32 R) (grp row n) (lane k) = 1 ∧ (cnt R row col n (lane k)).toNat = q + 1) := by
      show ((inSeg (BitVec.ofNat 32 R) (grp row n) (lane k) &&& BitVec.ofBool (cnt R row col n (lane k) == c) : BitVec 1) = 1) ↔ _
      generalize inSeg (BitVec.ofNat 32 R) (grp row n) (lane k) = w
      rw [← hc, BitVec.toNat_inj]
      by_cases he : cnt R row col n (lane k) = c
      · rw [show (cnt R row col n (lane k) == c) = true from beq_iff_eq.2 he]
        simp only [he, and_true]
        revert w; decide
      · rw [show (cnt R row col n (lane k) == c) = false from beq_eq_false_iff_ne.2 he]
        simp only [he, and_false]
        revert w; decide
    unfold Names
    rw [hand]
    tauto
  rw [storeIdx_apply]
  rw [show (fun k => decide (Names ![rowIx (BitVec.ofNat 32 R) (grp row n), grp col n]
      (andi (inSeg (BitVec.ofNat 32 R) (grp row n)) (cmpi .eq (cnt R row col n) (broadcast Lane c))) j k))
    = fun k => decide (Hits R row col j (16 * n + k.val) ∧ (cnt R row col n (lane k)).toNat = q + 1)
      from funext fun k => decide_eq_decide.2 (hN k)]
  unfold rounds
  rw [filter_le_succ (fun k : Fin 16 => Hits R row col j (16 * n + k.val)) (fun k => (cnt R row col n (lane k)).toNat) q _
    ((List.pairwise_lt_finRange 16).imp fun hab ha hb => cnt_lt R hR row col hrow n j _ _ hab ha hb), List.foldl_append]
  rfl

/-! ### The greatest count -/

omit hR in
/-- The greatest count of a group, as the kernel computes it: the running maximum, at the last lane. -/
abbrev top (n : ℕ) : BitVec 32 :=
  extractAt ![15] (xori (scan .max (xori (select (inSeg (BitVec.ofNat 32 R) (grp row n)) (cnt R row col n) (broadcast Lane 0#32))
    (broadcast Lane 2147483648#32))) (broadcast Lane 2147483648#32)) (by decide)

omit hR in
theorem foldl_max (f : Fin 16 → BitVec 32) (L : List (Fin 16)) (a : BitVec 32) :
    (L.foldl (fun r k => IntOp.maxui r (f k)) a = a ∨ ∃ k ∈ L, L.foldl (fun r k => IntOp.maxui r (f k)) a = f k)
      ∧ a.toNat ≤ (L.foldl (fun r k => IntOp.maxui r (f k)) a).toNat
      ∧ ∀ k ∈ L, (f k).toNat ≤ (L.foldl (fun r k => IntOp.maxui r (f k)) a).toNat := by
  induction L generalizing a with
  | nil => exact ⟨.inl rfl, le_rfl, fun k hk => by cases hk⟩
  | cons b L ih =>
    rw [List.foldl_cons]
    have hm : (IntOp.maxui a (f b) = a ∨ IntOp.maxui a (f b) = f b) ∧ a.toNat ≤ (IntOp.maxui a (f b)).toNat
        ∧ (f b).toNat ≤ (IntOp.maxui a (f b)).toNat := by
      unfold IntOp.maxui
      by_cases h : (f b).ult a
      · rw [if_pos h]
        have : (f b).toNat < a.toNat := by simpa [BitVec.ult] using h
        exact ⟨.inl rfl, le_rfl, by omega⟩
      · rw [if_neg h]
        have : ¬ (f b).toNat < a.toNat := by simpa [BitVec.ult] using h
        exact ⟨.inr rfl, by omega, le_rfl⟩
    obtain ⟨h1, h2, h3⟩ := ih (IntOp.maxui a (f b))
    refine ⟨?_, hm.2.1.trans h2, fun k hk => ?_⟩
    · rcases h1 with h1 | ⟨k, hk, h1⟩
      · rcases hm.1 with hm | hm
        · exact .inl (h1.trans hm)
        · exact .inr ⟨b, List.mem_cons_self, h1.trans hm⟩
      · exact .inr ⟨k, List.mem_cons_of_mem _ hk, h1⟩
    · rcases List.mem_cons.1 hk with rfl | hk
      · exact hm.2.2.trans h2
      · exact h3 k hk

omit hR in
theorem flip_toNat (x : BitVec 32) (hx : x.toNat ≤ 16) : (x ^^^ 2147483648#32).toNat = x.toNat + 2147483648 := by
  obtain ⟨m, hm⟩ : ∃ m : Fin 17, x = BitVec.ofNat 32 m.val := ⟨⟨x.toNat, by omega⟩, by simp⟩
  subst hm
  revert m; decide

omit hR in
/-- The greatest count is at most sixteen and bounds the counts of the lanes in the segment. -/
theorem top_spec (n : ℕ) : (top R row col n).toNat ≤ 16
    ∧ ∀ k, inSeg (BitVec.ofNat 32 R) (grp row n) (lane k) = 1 → (cnt R row col n (lane k)).toNat ≤ (top R row col n).toNat := by
  set w : IVec Lane 32 := select (inSeg (BitVec.ofNat 32 R) (grp row n)) (cnt R row col n) (broadcast Lane 0#32) with hw
  have hle : ∀ k, (w (lane k)).toNat ≤ 16 := fun k => by
    by_cases hm : inSeg (BitVec.ofNat 32 R) (grp row n) (lane k) = 1
    · rw [show w (lane k) = cnt R row col n (lane k) from if_pos hm]; exact cnt_le R row col n k hm
    · rw [show w (lane k) = 0#32 from if_neg hm]; decide
  set L := (List.finRange 16).filter fun k => decide (0 < k.val ∧ k.val ≤ 15) with hL
  set r := L.foldl (fun r k => IntOp.maxui r (w (lane k) ^^^ 2147483648#32)) (w (lane 0) ^^^ 2147483648#32) with hr
  have htop : top R row col n = r ^^^ 2147483648#32 := rfl
  have hf := foldl_max (fun k => w (lane k) ^^^ 2147483648#32) L (w (lane 0) ^^^ 2147483648#32)
  obtain ⟨k₀, hk₀⟩ : ∃ k₀, r = w (lane k₀) ^^^ 2147483648#32 := by
    rcases hf.1 with h | ⟨k, -, h⟩
    · exact ⟨0, h⟩
    · exact ⟨k, h⟩
  have htop' : top R row col n = w (lane k₀) := by rw [htop, hk₀, BitVec.xor_assoc, BitVec.xor_self, BitVec.xor_zero]
  refine ⟨htop' ▸ hle k₀, fun k hm => ?_⟩
  have hk : (w (lane k) ^^^ 2147483648#32).toNat ≤ r.toNat := by
    by_cases h0 : k = 0
    · subst h0; exact hf.2.1
    · refine hf.2.2 k (List.mem_filter.2 ⟨List.mem_finRange _, decide_eq_true ⟨?_, by omega⟩⟩)
      exact Nat.pos_of_ne_zero fun h => h0 (Fin.ext h)
  rw [hk₀, flip_toNat _ (hle k), flip_toNat _ (hle k₀), show w (lane k) = cnt R row col n (lane k) from if_pos hm] at hk
  rw [htop']; omega

/-! ## Emptying the canvas -/

omit hR in
/-- The canvas after `N` groups, emptied at the cells of the first `n` groups. -/
def cleared (N n : ℕ) : Can.Idx → F .f32 := fun j =>
  if ∃ p, p < 16 * n ∧ Hits R row col j p then zero else total R row col val N j

omit hR in
theorem cleared_zero (N : ℕ) : cleared R row col val N 0 = total R row col val N := by
  funext j
  exact if_neg (by rintro ⟨p, hp, _⟩; omega)

omit hR in
/-- Emptied at every group's cells, the canvas is all zeros. -/
theorem cleared_top (N : ℕ) : cleared R row col val N N = fun _ => zero := by
  funext j
  unfold cleared
  by_cases h : ∃ p, p < 16 * N ∧ Hits R row col j p
  · rw [if_pos h]
  · rw [if_neg h]
    unfold total
    rw [List.filter_eq_nil_iff.2 fun p hp => by
      rw [decide_eq_true_iff]
      exact fun hh => h ⟨p, List.mem_range.1 hp, hh⟩]
    rfl

/-- One store of zeros at group `n`'s cells. -/
theorem store_cleared (hrow : ∀ p, (row p).toNat < 432) (N n : ℕ)
    (h : ∀ a x, ((![rowIx (BitVec.ofNat 32 R) (grp row n), grp col n] : Fin 2 → IVec Lane 32) a x).toNat < Can.size a) :
    storeIdx (s := Can) (d := ![16]) (e := .f32) (cleared R row col val N n)
        ![rowIx (BitVec.ofNat 32 R) (grp row n), grp col n] (broadcast Lane zero) (inSeg (BitVec.ofNat 32 R) (grp row n)) false h
      = cleared R row col val N (n + 1) := by
  funext j
  rw [storeIdx_apply]
  rw [show (fun k => decide (Names ![rowIx (BitVec.ofNat 32 R) (grp row n), grp col n] (inSeg (BitVec.ofNat 32 R) (grp row n)) j k))
    = fun k => decide (Hits R row col j (16 * n + k.val)) from funext fun k => decide_eq_decide.2 (names_iff R hR row col hrow n j k)]
  have hconst : ∀ (L : List (Fin 16)) (a : F .f32), L.foldl (fun a k => if (false : Bool) then FloatOps.idxAddf a ((broadcast Lane zero : Lane.Idx → F .f32) (lane k))
      else (broadcast Lane zero : Lane.Idx → F .f32) (lane k)) a = if L = [] then a else zero := by
    intro L
    induction L with
    | nil => intro a; rfl
    | cons b L ih => intro a; rw [List.foldl_cons, ih]; split <;> rfl
  rw [hconst]
  unfold cleared
  by_cases hold : ∃ p, p < 16 * n ∧ Hits R row col j p
  · obtain ⟨p, hp, hh⟩ := hold
    rw [if_pos (show ∃ p, p < 16 * n ∧ Hits R row col j p from ⟨p, hp, hh⟩),
      if_pos (show ∃ p, p < 16 * (n + 1) ∧ Hits R row col j p from ⟨p, by omega, hh⟩)]
    split <;> rfl
  · rw [if_neg hold]
    by_cases hnew : ∃ k : Fin 16, Hits R row col j (16 * n + k.val)
    · obtain ⟨k, hk⟩ := hnew
      rw [if_neg (fun he => List.filter_eq_nil_iff.1 he k (List.mem_finRange _) (decide_eq_true hk)),
        if_pos ⟨16 * n + k.val, by omega, hk⟩]
    · rw [if_pos (List.filter_eq_nil_iff.2 fun k _ => by rw [decide_eq_true_iff]; exact fun hk => hnew ⟨k, hk⟩), if_neg]
      rintro ⟨p, hp, hh⟩
      by_cases hlt : p < 16 * n
      · exact hold ⟨p, hlt, hh⟩
      · exact hnew ⟨⟨p - 16 * n, by omega⟩, by rwa [show 16 * n + (p - 16 * n) = p by omega]⟩

end Group

/-! ## What the whole kernel leaves in its result -/

/-- A maximum scaled, shifted and cut off below zero. -/
def act (s b y : F .f32) : F .f32 := FloatOps.maximumf (FloatOps.addf (FloatOps.mulf y s) b) zero

/-- The values of channel `ch` of batch `b`, pillar by pillar: the maxima, transformed with the channel's scale and shift. -/
def chanVal (mw : (⟨4, ![2, 64, 96, 128]⟩ : Shape).Idx → F .f32) (sb : (⟨1, ![128]⟩ : Shape).Idx → F .f32) (b : Fin 2) (ch : Fin 64) : Tab.Idx → F .f32 :=
  fun p => act (sb (ix1 ⟨ch.val, by omega⟩)) (sb (ix1 ⟨64 + ch.val, by omega⟩)) (mw (ix4 b ch (p 0) (p 1)))

/-- The row (`k = 0`) or column (`k = 1`) numbers of the pillars of batch `b`. -/
def tabOf (ip : (⟨4, ![2, 2, 96, 128]⟩ : Shape).Idx → BitVec 32) (b k : Fin 2) : Tab.Idx → BitVec 32 := fun p => ip (ix4 b k (p 0) (p 1))

/-- The result: each cell of a channel's grid holds the sum of the values of the pillars in it, and rows from 432 on hold zero. -/
def outVal (ip : (⟨4, ![2, 2, 96, 128]⟩ : Shape).Idx → BitVec 32) (mw : (⟨4, ![2, 64, 96, 128]⟩ : Shape).Idx → F .f32)
    (sb : (⟨1, ![128]⟩ : Shape).Idx → F .f32) : (⟨4, ![2, 64, 496, 432]⟩ : Shape).Idx → F .f32 := fun o =>
  if (o 2).val < 432 then
    ((List.range 12000).filter (fun p => decide ((tabOf ip (o 0) 0 (pos p)).toNat = (o 2).val ∧ (tabOf ip (o 0) 1 (pos p)).toNat = (o 3).val))).foldl
      (addTo (chanVal mw sb (o 0) (o 1))) zero
  else zero

/-- The sums depend on the pillars' values only. -/
theorem total_congr (r0 : ℕ) (row col : Tab.Idx → BitVec 32) {val val' : Tab.Idx → F .f32} (n : ℕ)
    (h : ∀ p, p < 16 * n → val (pos p) = val' (pos p)) : total r0 row col val n = total r0 row col val' n := by
  funext j
  refine List.foldl_ext _ _ _ fun a p hp => ?_
  have hp' : p < 16 * n := List.mem_range.mp (List.mem_of_mem_filter hp)
  exact congrArg (FloatOps.idxAddf a) (h p hp')

end Cert.Scatter

end
-- ==== Proof.Host.lean ====
/-
  The host code around the call, read at an index: the padded planes of the indices.
-/
module

public import proofs.«01_k».proof.Proof.Main
public import Idealize.ShloMosaic.Lib.Pointwise

@[expose] public section

noncomputable section

namespace Cert.Kernel.Tile

open Idealize.ShloMosaic Cert.Kernel

/-- The planes of the indices at a place: the index of the pillar with that number, and zero behind the 12000 pillars. -/
theorem hostIP_at (idx : S2x12000x2.Idx → BitVec 32) (b k : Fin 2) (r : Fin 96) (c : Fin 128) :
    hostIP idx (ix4 b k r c) = if h : r.val * 128 + c.val < 12000 then idx (ix3 b ⟨r.val * 128 + c.val, h⟩ k) else 0#32 := by
  pointwise [hostIP]

/-- When every index is below 432, so is every word of the planes. -/
theorem hostIP_lt {idx : S2x12000x2.Idx → BitVec 32} (h : ∀ p, (idx p).toNat < 432) (p : S2x2x96x128.Idx) :
    (hostIP idx p).toNat < 432 := by
  obtain ⟨b, k, r, c, rfl⟩ : ∃ (b k : Fin 2) (r : Fin 96) (c : Fin 128), p = ix4 b k r c :=
    ⟨p 0, p 1, p 2, p 3, (ValueIdx.eq_ix4 p).trans (ix4_eq_valueIdx ..).symm⟩
  rw [hostIP_at]
  split
  · exact h _
  · decide

end Cert.Kernel.Tile

end
-- ==== Proof.OpsIdeal.lean ====
module

public import proofs.«01_k».proof.Proof.Canvas
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen Cert.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K [FloatOps F] : SparseCore.Cfg τ sig (ΛP (F := F)) 1 := sc (F := F)

/-! ## The arrays as a tile sees them -/

local notation "mwM" => (Memref.whole Cert.KernelIdeal.main_v0_0_scv : Memref Cert.KernelIdeal.sig Kind.scVector Space.hbm Cert.KernelIdeal.S2x64x96x128 EltTy.f32)
local notation "ipM" => (Memref.whole Cert.KernelIdeal.main_v23_scv : Memref Cert.KernelIdeal.sig Kind.scVector Space.hbm Cert.KernelIdeal.S2x2x96x128 EltTy.i32)
local notation "sbM" => (Memref.whole Cert.KernelIdeal.main_v20_scv : Memref Cert.KernelIdeal.sig Kind.scVector Space.hbm Cert.KernelIdeal.S128 EltTy.f32)
local notation "outM" => (Memref.whole Cert.KernelIdeal.main_v24_scv : Memref Cert.KernelIdeal.sig Kind.scVector Space.hbm Cert.KernelIdeal.S2x64x496x432 EltTy.f32)
local notation "rowM" => (Memref.whole Cert.KernelIdeal.cc1_scratch0 : Memref Cert.KernelIdeal.sig Kind.scVector Space.vmem Cert.KernelIdeal.S96x128 EltTy.i32)
local notation "colM" => (Memref.whole Cert.KernelIdeal.cc1_scratch1 : Memref Cert.KernelIdeal.sig Kind.scVector Space.vmem Cert.KernelIdeal.S96x128 EltTy.i32)
local notation "canM" => (Memref.whole Cert.KernelIdeal.cc1_scratch2 : Memref Cert.KernelIdeal.sig Kind.scVector Space.vmem Cert.KernelIdeal.S144x432 EltTy.f32)
local notation "valM" => (Memref.whole Cert.KernelIdeal.cc1_scratch3 : Memref Cert.KernelIdeal.sig Kind.scVector Space.vmem Cert.KernelIdeal.S96x128 EltTy.f32)
local notation "tabM" => (Memref.whole Cert.KernelIdeal.cc1_scratch4 : Memref Cert.KernelIdeal.sig Kind.scVector Space.vmem Cert.KernelIdeal.S128 EltTy.f32)
local notation "flgM" => (Memref.whole Cert.KernelIdeal.cc1_scratch5 : Memref Cert.KernelIdeal.sig Kind.scVector Space.smem Cert.KernelIdeal.S96 EltTy.i32)

variable [FloatOps F]

abbrev PT (F : FTy → Type) (i : grid1.Coords) (α : Type) : Type _ :=
  Prog (TpuEff nD τ sig (Elt F) Λ₀ (.scVector ((i 0).castLE hcore1) ((i 1).castLE hsub1))) α

/-- One group of sixteen pillars added to the canvas. -/
def grpOp (i : grid1.Coords) (off : Fin 2 → ℕ) (inb : ∀ a, off a + S1x16.size a ≤ S96x128.size a) (r0 : BitVec 32)
    (C : IVec S16 32 → IVec S16 32 → Prop) (dec : ∀ b r, Decidable (C b r))
    (hi : ∀ b r, C b r → ∀ a x, ((![r, b] : Fin 2 → IVec S16 32) a x).toNat < S144x432.size a) : PT F i PUnit := do
  let a : Vec F S1x16 .i32 ← Prog.lift (.load rowM (Rect.unit (s := S96x128) off S1x16.size inb).toLoadRect (View.loadsAt_vmem h_S1x16))
  let b : Vec F S1x16 .i32 ← Prog.lift (.load colM (Rect.unit (s := S96x128) off S1x16.size inb).toLoadRect (View.loadsAt_vmem h_S1x16))
  let c : Vec F S1x16 .f32 ← Prog.lift (.load valM (Rect.unit (s := S96x128) off S1x16.size inb).toLoadRect (View.loadsAt_vmem h_S1x16))
  let w ← Prog.lift (TpuEff.assume (C (shapeCast S16 b shapeCasts_S1x16_S16) (rowIx r0 (shapeCast S16 a shapeCasts_S1x16_S16)))
    (dec (shapeCast S16 b shapeCasts_S1x16_S16) (rowIx r0 (shapeCast S16 a shapeCasts_S1x16_S16))))
  SparseCore.vectorStoreIdx canM ![rowIx r0 (shapeCast S16 a shapeCasts_S1x16_S16), shapeCast S16 b shapeCasts_S1x16_S16]
    (shapeCast S16 c shapeCasts_S1x16_S16) (inSeg r0 (shapeCast S16 a shapeCasts_S1x16_S16)) true
    (hi _ _ w.down) (View.stores_vmem_bits_univ h_S144x432 rfl)

local notation "ARGS" x => x mwM (Memref.isWhole_whole _) ipM (Memref.isWhole_whole _) sbM (Memref.isWhole_whole _) outM (Memref.isWhole_whole _) rowM (Memref.isWhole_whole _) colM (Memref.isWhole_whole _) canM (Memref.isWhole_whole _) valM (Memref.isWhole_whole _) tabM (Memref.isWhole_whole _) flgM (Memref.isWhole_whole _) cc1_scoped0 cc1_scoped1 cc1_scoped2 cc1_scoped3 cc1_scoped4 cc1_scoped5

/-- One group of sixteen pillars taken off the canvas again: its cells are set to `z`. -/
def clrOp (i : grid1.Coords) (off : Fin 2 → ℕ) (inb : ∀ a, off a + S1x16.size a ≤ S96x128.size a) (r0 : BitVec 32) (z : Vec F S16 .f32)
    (C : IVec S16 32 → IVec S16 32 → Prop) (dec : ∀ b r, Decidable (C b r))
    (hi : ∀ b r, C b r → ∀ a x, ((![r, b] : Fin 2 → IVec S16 32) a x).toNat < S144x432.size a) : PT F i PUnit := do
  let a : Vec F S1x16 .i32 ← Prog.lift (.load rowM (Rect.unit (s := S96x128) off S1x16.size inb).toLoadRect (View.loadsAt_vmem h_S1x16))
  let b : Vec F S1x16 .i32 ← Prog.lift (.load colM (Rect.unit (s := S96x128) off S1x16.size inb).toLoadRect (View.loadsAt_vmem h_S1x16))
  let w ← Prog.lift (TpuEff.assume (C (shapeCast S16 b shapeCasts_S1x16_S16) (rowIx r0 (shapeCast S16 a shapeCasts_S1x16_S16)))
    (dec (shapeCast S16 b shapeCasts_S1x16_S16) (rowIx r0 (shapeCast S16 a shapeCasts_S1x16_S16))))
  SparseCore.vectorStoreIdx canM ![rowIx r0 (shapeCast S16 a shapeCasts_S1x16_S16), shapeCast S16 b shapeCasts_S1x16_S16]
    z (inSeg r0 (shapeCast S16 a shapeCasts_S1x16_S16)) false
    (hi _ _ w.down) (View.stores_vmem_bits_univ h_S144x432 rfl)

/-- The number of lanes up to each lane that name the same cell as it. -/
def cntOf (r0 : BitVec 32) (a b : IVec S16 32) : IVec S16 32 :=
  (scanCount (inSeg r0 a) (addi (muli (rel r0 a) (broadcast S16 432#32)) b)).2

/-- The greatest of those numbers. -/
def topOf (r0 : BitVec 32) (a b : IVec S16 32) : BitVec 32 :=
  extractAt ![15] (xori (scan .max (xori (select (inSeg r0 a) (cntOf r0 a b) (broadcast S16 0#32)) (broadcast S16 2147483648#32)))
    (broadcast S16 2147483648#32)) inpos_S16_p15

/-- The rounds after the first. -/
def slowTail (i : grid1.Coords) (r0 : BitVec 32) (a b : IVec S16 32) (c : Vec F S16 .f32) (v : BitVec 32)
    (okA : k1_cond3 v = 1#1 → (k1_t11_loop v).OK)
    (hiA : Fin (k1_t11_loop v).trips → k1_cond3 v = 1#1 → ∀ x y, ((![rowIx r0 a, b] : Fin 2 → IVec S16 32) x y).toNat < S144x432.size x)
    (okB : k1_cond3 v = 1#1 → (k1_t12_loop v).OK)
    (hiB : Fin (k1_t12_loop v).trips → k1_cond3 v = 1#1 → ∀ x y, ((![rowIx r0 a, b] : Fin 2 → IVec S16 32) x y).toNat < S144x432.size x) :
    PT F i PUnit := do
  let _ : BitVec 32 ← if h : k1_cond3 v = 1#1 then do
      Scf.Loop.for (k1_t11_loop v) (okA h) ⟨⟩
        (fun t _ => do
          SparseCore.vectorStoreIdx canM ![rowIx r0 a, b] c
            (andi (inSeg r0 a) (cmpi .eq (cntOf r0 a b) (broadcast S16 (Scf.iv 2#32 1#32 t)))) true
            (hiA t h) (View.stores_vmem_bits_univ h_S144x432 rfl)
          pure ⟨⟩)
      Scf.Loop.for (k1_t12_loop v) (okB h) ⟨⟩
        (fun t _ => do
          SparseCore.vectorStoreIdx canM ![rowIx r0 a, b] c
            (andi (inSeg r0 a) (cmpi .eq (cntOf r0 a b) (broadcast S16 (Scf.iv (k1_t12_loop v).lb 1#32 t)))) true
            (hiB t h) (View.stores_vmem_bits_univ h_S144x432 rfl)
          pure ⟨⟩)
      pure 0#32
    else do
      pure 0#32
  pure ⟨⟩

/-- One group of sixteen pillars added to the canvas in rounds, each of which adds the lanes that are the `c`-th to name their cell. -/
def slowOp (i : grid1.Coords) (off : Fin 2 → ℕ) (inb : ∀ a, off a + S1x16.size a ≤ S96x128.size a) (r0 : BitVec 32)
    (C : IVec S16 32 → IVec S16 32 → Prop) (dec : ∀ b r, Decidable (C b r))
    (hi : ∀ b r, C b r → ∀ a x, ((![r, b] : Fin 2 → IVec S16 32) a x).toNat < S144x432.size a)
    (C' : IVec S16 32 → IVec S16 32 → BitVec 32 → Prop) (dec' : ∀ b r v, Decidable (C' b r v))
    (okA : ∀ b r v, C' b r v → k1_cond3 v = 1#1 → (k1_t11_loop v).OK)
    (hiA : ∀ b r v, C' b r v → Fin (k1_t11_loop v).trips → k1_cond3 v = 1#1 → ∀ a x, ((![r, b] : Fin 2 → IVec S16 32) a x).toNat < S144x432.size a)
    (okB : ∀ b r v, C' b r v → k1_cond3 v = 1#1 → (k1_t12_loop v).OK)
    (hiB : ∀ b r v, C' b r v → Fin (k1_t12_loop v).trips → k1_cond3 v = 1#1 → ∀ a x, ((![r, b] : Fin 2 → IVec S16 32) a x).toNat < S144x432.size a) :
    PT F i PUnit := do
  let a : Vec F S1x16 .i32 ← Prog.lift (.load rowM (Rect.unit (s := S96x128) off S1x16.size inb).toLoadRect (View.loadsAt_vmem h_S1x16))
  let b : Vec F S1x16 .i32 ← Prog.lift (.load colM (Rect.unit (s := S96x128) off S1x16.size inb).toLoadRect (View.loadsAt_vmem h_S1x16))
  let c : Vec F S1x16 .f32 ← Prog.lift (.load valM (Rect.unit (s := S96x128) off S1x16.size inb).toLoadRect (View.loadsAt_vmem h_S1x16))
  let w ← Prog.lift (TpuEff.assume (C (shapeCast S16 b shapeCasts_S1x16_S16) (rowIx r0 (shapeCast S16 a shapeCasts_S1x16_S16)))
    (dec (shapeCast S16 b shapeCasts_S1x16_S16) (rowIx r0 (shapeCast S16 a shapeCasts_S1x16_S16))))
  SparseCore.vectorStoreIdx canM ![rowIx r0 (shapeCast S16 a shapeCasts_S1x16_S16), shapeCast S16 b shapeCasts_S1x16_S16]
    (shapeCast S16 c shapeCasts_S1x16_S16)
    (andi (inSeg r0 (shapeCast S16 a shapeCasts_S1x16_S16))
      (cmpi .eq (cntOf r0 (shapeCast S16 a shapeCasts_S1x16_S16) (shapeCast S16 b shapeCasts_S1x16_S16)) (broadcast S16 1#32))) true
    (hi _ _ w.down) (View.stores_vmem_bits_univ h_S144x432 rfl)
  let w' ← Prog.lift (TpuEff.assume
    (C' (shapeCast S16 b shapeCasts_S1x16_S16) (rowIx r0 (shapeCast S16 a shapeCasts_S1x16_S16))
      (topOf r0 (shapeCast S16 a shapeCasts_S1x16_S16) (shapeCast S16 b shapeCasts_S1x16_S16)))
    (dec' (shapeCast S16 b shapeCasts_S1x16_S16) (rowIx r0 (shapeCast S16 a shapeCasts_S1x16_S16))
      (topOf r0 (shapeCast S16 a shapeCasts_S1x16_S16) (shapeCast S16 b shapeCasts_S1x16_S16))))
  slowTail i r0 (shapeCast S16 a shapeCasts_S1x16_S16) (shapeCast S16 b shapeCasts_S1x16_S16) (shapeCast S16 c shapeCasts_S1x16_S16)
    (topOf r0 (shapeCast S16 a shapeCasts_S1x16_S16) (shapeCast S16 b shapeCasts_S1x16_S16))
    (okA _ _ _ w'.down) (hiA _ _ _ w'.down) (okB _ _ _ w'.down) (hiB _ _ _ w'.down)

abbrev r0At (t5 : Fin k1_t5_loop.trips) : BitVec 32 := Scalar.muli (Scf.iv 0#32 1#32 t5) 144#32

theorem t10_eq (i : grid1.Coords) (a1 : BitVec 32) (v2 : FVec F S16 .f32) (t3 : Fin k1_t3_loop.trips) (v14 : BitVec 32)
    (t10 : Fin k1_t10_loop.trips) (u : Unit) :
    (ARGS k1_t10_body (F := F) i) a1 v2 0#32 1#32 t3 v14 t10 u
      = slowOp i (k1_off58 t10) (k1_off58_inb t10) v14 k1_chk13 k1_chk13.dec (fun b r w => k1_idx14_inb b r w)
          k1_chk14 k1_chk14.dec (fun b r v w h => k1_t11_ok b r v w h) (fun b r v w t h => k1_idx15_inb b r v w t h)
          (fun b r v w h => k1_t12_ok b r v w h) (fun b r v w t h => k1_idx16_inb b r v w t h) := rfl

theorem t7_eq (i : grid1.Coords) (a1 : BitVec 32) (v2 : FVec F S16 .f32) (t3 : Fin k1_t3_loop.trips) (t5 : Fin k1_t5_loop.trips)
    (t6 : Fin k1_t6_loop.trips) (v20 : BitVec 32) (h1 : ¬ k1_cond1 v20 = 1#1)
    (t7 : Fin k1_t7_loop.trips) (u : Unit) :
    (ARGS k1_t7_body (F := F) i) a1 v2 0#32 1#32 t3 t5 t6 v20 h1 t7 u
      = slowOp i (k1_off57 t6 t7) (k1_off57_inb t6 t7) (r0At t5) (k1_chk11 v20) (k1_chk11.dec v20) (fun b r w => k1_idx11_inb v20 b r w h1)
          (k1_chk12 v20) (k1_chk12.dec v20) (fun b r v w h => k1_t8_ok v20 b r v w h1 h) (fun b r v w t h => k1_idx12_inb v20 b r v w t h1 h)
          (fun b r v w h => k1_t9_ok v20 b r v w h1 h) (fun b r v w t h => k1_idx13_inb v20 b r v w t h1 h) := rfl

theorem t6_eq (i : grid1.Coords) (a1 : BitVec 32) (v2 : FVec F S16 .f32) (t3 : Fin k1_t3_loop.trips) (t5 : Fin k1_t5_loop.trips)
    (t6 : Fin k1_t6_loop.trips) (u : Unit) :
    (ARGS k1_t6_body (F := F) i) a1 v2 0#32 1#32 t3 t5 (r0At t5) t6 u
      = (do
        let v20 : Elt F .i32 ← smemLoad flgM (Rect.unit (s := S96) (k1_off48 t6) S1.size (k1_off48_inb t6)) numel1_S1 rfl
        let _ : BitVec 32 ← if h1 : k1_cond1 v20 = 1#1 then do
            grpOp i (k1_off49 t6) (k1_off49_inb t6) (r0At t5) (k1_chk3 v20) (k1_chk3.dec v20) (fun b r w => k1_idx3_inb v20 b r w h1)
            grpOp i (k1_off50 t6) (k1_off50_inb t6) (r0At t5) (k1_chk4 v20) (k1_chk4.dec v20) (fun b r w => k1_idx4_inb v20 b r w h1)
            grpOp i (k1_off51 t6) (k1_off51_inb t6) (r0At t5) (k1_chk5 v20) (k1_chk5.dec v20) (fun b r w => k1_idx5_inb v20 b r w h1)
            grpOp i (k1_off52 t6) (k1_off52_inb t6) (r0At t5) (k1_chk6 v20) (k1_chk6.dec v20) (fun b r w => k1_idx6_inb v20 b r w h1)
            grpOp i (k1_off53 t6) (k1_off53_inb t6) (r0At t5) (k1_chk7 v20) (k1_chk7.dec v20) (fun b r w => k1_idx7_inb v20 b r w h1)
            grpOp i (k1_off54 t6) (k1_off54_inb t6) (r0At t5) (k1_chk8 v20) (k1_chk8.dec v20) (fun b r w => k1_idx8_inb v20 b r w h1)
            grpOp i (k1_off55 t6) (k1_off55_inb t6) (r0At t5) (k1_chk9 v20) (k1_chk9.dec v20) (fun b r w => k1_idx9_inb v20 b r w h1)
            grpOp i (k1_off56 t6) (k1_off56_inb t6) (r0At t5) (k1_chk10 v20) (k1_chk10.dec v20) (fun b r w => k1_idx10_inb v20 b r w h1)
            pure 0#32
          else do
            Scf.Loop.for k1_t7_loop k1_t7_ok ⟨⟩ ((ARGS k1_t7_body (F := F) i) a1 v2 0#32 1#32 t3 t5 t6 v20 h1)
            pure 0#32
        pure ⟨⟩) := rfl

theorem t13_eq (i : grid1.Coords) (a1 : BitVec 32) (v2 : FVec F S16 .f32) (t3 : Fin k1_t3_loop.trips) (t5 : Fin k1_t5_loop.trips)
    (t : Fin k1_t13_loop.trips) (u : Unit) :
    (ARGS k1_t13_body (F := F) i) a1 v2 0#32 1#32 t3 t5 (r0At t5) t u
      = (do
        clrOp i (k1_off60 t) (k1_off60_inb t) (r0At t5) v2 k1_chk15 k1_chk15.dec (fun b r w => k1_idx17_inb b r w)
        clrOp i (k1_off61 t) (k1_off61_inb t) (r0At t5) v2 k1_chk16 k1_chk16.dec (fun b r w => k1_idx18_inb b r w)
        clrOp i (k1_off62 t) (k1_off62_inb t) (r0At t5) v2 k1_chk17 k1_chk17.dec (fun b r w => k1_idx19_inb b r w)
        clrOp i (k1_off63 t) (k1_off63_inb t) (r0At t5) v2 k1_chk18 k1_chk18.dec (fun b r w => k1_idx20_inb b r w)
        clrOp i (k1_off64 t) (k1_off64_inb t) (r0At t5) v2 k1_chk19 k1_chk19.dec (fun b r w => k1_idx21_inb b r w)
        clrOp i (k1_off65 t) (k1_off65_inb t) (r0At t5) v2 k1_chk20 k1_chk20.dec (fun b r w => k1_idx22_inb b r w)
        clrOp i (k1_off66 t) (k1_off66_inb t) (r0At t5) v2 k1_chk21 k1_chk21.dec (fun b r w => k1_idx23_inb b r w)
        clrOp i (k1_off67 t) (k1_off67_inb t) (r0At t5) v2 k1_chk22 k1_chk22.dec (fun b r w => k1_idx24_inb b r w)
        pure ⟨⟩) := rfl

theorem t14_eq (i : grid1.Coords) (a1 : BitVec 32) (v2 : FVec F S16 .f32) (t3 : Fin k1_t3_loop.trips) (t5 : Fin k1_t5_loop.trips)
    (t : Fin k1_t14_loop.trips) (u : Unit) :
    (ARGS k1_t14_body (F := F) i) a1 v2 0#32 1#32 t3 t5 t u
      = (do
        clrOp i (k1_off68 t) (k1_off68_inb t) (r0At t5) v2 k1_chk23 k1_chk23.dec (fun b r w => k1_idx25_inb b r w)
        pure ⟨⟩) := rfl

/-! ## One tile's tables and canvas -/

abbrev 𝒱₀ : Variants := Variants.none
abbrev UH : Type := URounds (GSem nD τ sig) ℕ
abbrev UP : Type := URounds (GSem nD τ sig) Unit
abbrev UU : Type := UH × (UP × Counters)

local notation "𝕄" => MT nD τ sig (HIx 1) (Elt F) ℕ UU ℕ

variable (d : Dev nD) (i : grid1.Coords)

abbrev me : Thread nD τ := V d ((i 0).castLE hcore1) ((i 1).castLE hsub1)

abbrev rowP (f : Tab.Idx → BitVec 32) : sProp 𝕄 := (rowM).view.loc (me d i) ↦{fullShare} f
abbrev colP (f : Tab.Idx → BitVec 32) : sProp 𝕄 := (colM).view.loc (me d i) ↦{fullShare} f
abbrev canP (f : Can.Idx → F .f32) : sProp 𝕄 := (canM).view.loc (me d i) ↦{fullShare} f
abbrev valP (f : Tab.Idx → F .f32) : sProp 𝕄 := (valM).view.loc (me d i) ↦{fullShare} f
abbrev tabP (f : S128.Idx → F .f32) : sProp 𝕄 := (tabM).view.loc (me d i) ↦{fullShare} f
abbrev flgP (f : S96.Idx → BitVec 32) : sProp 𝕄 := (flgM).view.loc (me d i) ↦{fullShare} f

/-- The run of a tile's program from here. -/
abbrev run {α : Type} (p : PT F i α) (Q : α → sProp 𝕄) : sProp 𝕄 :=
  wp frame (wpE (defs₀ (F := F)) 𝒱₀ (me d i) none) Set.univ p Q

variable {d i}

theorem run_seq {α β : Type} {p : PT F i α} {q : α → PT F i β} {A : sProp 𝕄} {B : α → sProp 𝕄} {Q : β → sProp 𝕄}
    (h : A ⊢ run d i p B) (h' : ∀ a, B a ⊢ run d i (q a) Q) : A ⊢ run d i (p >>= q) Q := by
  unfold run; rw [wp_bind]; exact h.trans (wp_mono frame _ _ h')

/-- Sixteen consecutive elements of a table row, taken as a vector of lanes, are one group. -/
theorem grp_cast {α : Type} (off : Fin 2 → ℕ) (inb : ∀ a, off a + S1x16.size a ≤ S96x128.size a) (n : ℕ) (hn : n < 768)
    (ho : off = ![n / 8, 16 * (n % 8)]) (f : Tab.Idx → α) :
    shapeCast S16 (fun x => f ((Rect.unit (s := S96x128) off S1x16.size inb).toLoadRect.idx x)) shapeCasts_S1x16_S16 = grp f n := by
  subst ho
  funext x
  refine (shapeCast_dropUnit_apply (n := 1) ![16] _ _ x).trans (congrArg f ?_)
  have hx : (x 0).val < 16 := (x 0).isLt
  funext a
  apply Fin.ext
  match a with
  | ⟨0, _⟩ => show n / 8 + 1 * 0 = (16 * n + (x 0).val) / 128 % 96; omega
  | ⟨1, _⟩ => show 16 * (n % 8) + 1 * (x 0).val = (16 * n + (x 0).val) % 128; omega

theorem canP_access (f : Can.Idx → F .f32) :
    (((canM).access (.whole S144x432)).loc (me d i) ↦[((canM).access (.whole S144x432)).set]{fullShare} f : sProp 𝕄) = canP d i f := by
  rw [show ((canM).access (.whole S144x432)).set = Finset.univ from Memref.set_access_whole (cc1_scratch2 : Ref sig .scVector)]

/-- An indexed store into the canvas leaves it at the scatter of what it held. -/
theorem wp_store_canvas (idxs : Fin 2 → IVec S16 32) (v : Vec F S16 .f32) (mask : IVec S16 1) (add : Bool)
    (h : ∀ a x, (idxs a x).toNat < S144x432.size a) (f : Can.Idx → F .f32) :
    canP d i f ⊢ run d i (SparseCore.vectorStoreIdx canM idxs v mask add h (View.stores_vmem_bits_univ h_S144x432 rfl))
      (fun _ => canP d i (storeIdx (s := Can) (d := ![16]) (e := .f32) f idxs v mask add h)) := by
  have key := SparseCore.wp_vectorStoreIdx (defs := defs₀ (F := F)) 𝒱₀ (me d i) none Set.univ (base := canM) (idxs := idxs) (v := v) (mask := mask) (add := add)
    (h := h) (hs := View.stores_vmem_bits_univ h_S144x432 rfl) (f := f) (k := fun _ => Prog.ret PUnit.unit)
    (Q := fun _ => canP d i (storeIdx (s := Can) (d := ![16]) (e := .f32) f idxs v mask add h))
  simp only [Memref.set_access_whole, Memref.read_access_whole, Memref.write_access_whole_univ] at key
  iintro H
  iapply key $$ H
  iintro H
  rw [wp_ret]
  imodintro
  iexact H

/-- The same at the head of a program, the result under another name. -/
theorem wp_store_canvas_bind {idxs : Fin 2 → IVec S16 32} {v : Vec F S16 .f32} {mask : IVec S16 1} {add : Bool}
    {h : ∀ a x, (idxs a x).toNat < S144x432.size a} {f g : Can.Idx → F .f32}
    (hg : storeIdx (s := Can) (d := ![16]) (e := .f32) f idxs v mask add h = g) {α : Type} {k : PUnit → PT F i α} {Q : α → sProp 𝕄} :
    canP d i f ⊢ iprop((canP d i g -∗ run d i (k ⟨⟩) Q)
      -∗ run d i (SparseCore.vectorStoreIdx canM idxs v mask add h (View.stores_vmem_bits_univ h_S144x432 rfl) >>= k) Q) := by
  unfold run; rw [wp_bind]
  have := wp_store_canvas (d := d) (i := i) idxs v mask add h f
  rw [hg] at this
  iintro H Hk
  ihave Hw := this $$ H
  iapply (wp_wand (M := 𝕄) frame _ Set.univ) $$ Hw
  iintro %_ H
  iapply Hk $$ H

theorem store_total_of {R : ℕ} (hR : R ≤ 288) {r0 : BitVec 32} (hr0 : r0 = BitVec.ofNat 32 R) {row col : Tab.Idx → BitVec 32} {val : Tab.Idx → F .f32}
    (hrow : ∀ p, (row p).toNat < 432) {n : ℕ} {a b : IVec S16 32} {c : Vec F S16 .f32}
    (ha : a = grp row n) (hb : b = grp col n) (hc : c = grp val n)
    (h : ∀ x y, ((![rowIx r0 a, b] : Fin 2 → IVec S16 32) x y).toNat < S144x432.size x) :
    storeIdx (s := Can) (d := ![16]) (e := .f32) (total R row col val n) ![rowIx r0 a, b] c (inSeg r0 a) true h = total R row col val (n + 1) := by
  subst hr0 ha hb hc
  exact store_total R hR row col val hrow n h

theorem store_cleared_of {R : ℕ} (hR : R ≤ 288) {r0 : BitVec 32} (hr0 : r0 = BitVec.ofNat 32 R) {row col : Tab.Idx → BitVec 32} {val : Tab.Idx → F .f32}
    (hrow : ∀ p, (row p).toNat < 432) {N n : ℕ} {a b : IVec S16 32} {z : Vec F S16 .f32}
    (ha : a = grp row n) (hb : b = grp col n) (hz : z = broadcast Lane zero)
    (h : ∀ x y, ((![rowIx r0 a, b] : Fin 2 → IVec S16 32) x y).toNat < S144x432.size x) :
    storeIdx (s := Can) (d := ![16]) (e := .f32) (cleared R row col val N n) ![rowIx r0 a, b] z (inSeg r0 a) false h = cleared R row col val N (n + 1) := by
  subst hr0 ha hb hz
  exact store_cleared R hR row col val hrow N n h

theorem store_round_of {R : ℕ} (hR : R ≤ 288) {r0 : BitVec 32} (hr0 : r0 = BitVec.ofNat 32 R) {row col : Tab.Idx → BitVec 32} {val : Tab.Idx → F .f32}
    (hrow : ∀ p, (row p).toNat < 432) {n q : ℕ} {a b : IVec S16 32} {c : Vec F S16 .f32} {w : BitVec 32}
    (ha : a = grp row n) (hb : b = grp col n) (hc : c = grp val n) (hw : w.toNat = q + 1)
    (h : ∀ x y, ((![rowIx r0 a, b] : Fin 2 → IVec S16 32) x y).toNat < S144x432.size x) :
    storeIdx (s := Can) (d := ![16]) (e := .f32) (rounds R row col val n q) ![rowIx r0 a, b] c
      (andi (inSeg r0 a) (cmpi .eq (cntOf r0 a b) (broadcast S16 w))) true h = rounds R row col val n (q + 1) := by
  subst hr0 ha hb hc
  exact store_round R hR row col val hrow n q w hw h

theorem top_of {R : ℕ} {r0 : BitVec 32} (hr0 : r0 = BitVec.ofNat 32 R) (row col : Tab.Idx → BitVec 32) (n : ℕ) {a b : IVec S16 32}
    (ha : a = grp row n) (hb : b = grp col n) : topOf r0 a b = top R row col n := by
  subst hr0 ha hb; rfl

/-- What the loop over the rounds does, for each greatest count up to sixteen. -/
theorem loop_facts : ∀ m : Fin 17, k1_cond3 (BitVec.ofNat 32 m.val) = 1#1 →
    1 < m.val ∧ (k1_t11_loop (BitVec.ofNat 32 m.val)).OK ∧ (k1_t11_loop (BitVec.ofNat 32 m.val)).trips = m.val - 1
      ∧ (k1_t12_loop (BitVec.ofNat 32 m.val)).OK ∧ (k1_t12_loop (BitVec.ofNat 32 m.val)).trips = 0 := by decide

theorem cond3_facts : ∀ m : Fin 17, ¬ k1_cond3 (BitVec.ofNat 32 m.val) = 1#1 → m.val ≤ 1 := by decide

/-- The tables of one batch and channel, and the canvas. -/
abbrev St (d : Dev nD) (i : grid1.Coords) (row col : Tab.Idx → BitVec 32) (val : Tab.Idx → F .f32) (can : Can.Idx → F .f32) : sProp 𝕄 :=
  iprop(rowP (F := F) d i row ∗ colP (F := F) d i col ∗ valP d i val ∗ canP d i can)

/-- Adding one group of pillars brings the canvas's partial sums one group further. -/
theorem wp_grp (off : Fin 2 → ℕ) (inb : ∀ a, off a + S1x16.size a ≤ S96x128.size a) (r0 : BitVec 32)
    (C : IVec S16 32 → IVec S16 32 → Prop) (dec : ∀ b r, Decidable (C b r))
    (hi : ∀ b r, C b r → ∀ a x, ((![r, b] : Fin 2 → IVec S16 32) a x).toNat < S144x432.size a)
    (n : ℕ) (hn : n < 768) (ho : off = ![n / 8, 16 * (n % 8)]) (R : ℕ) (hR : R ≤ 288) (hr0 : r0 = BitVec.ofNat 32 R)
    {row col : Tab.Idx → BitVec 32} {val : Tab.Idx → F .f32}
    (hrow : ∀ p, (row p).toNat < 432) (hC : C (grp col n) (rowIx r0 (grp row n))) :
    St d i row col val (total R row col val n)
      ⊢ run d i (grpOp i off inb r0 C dec hi)
        (fun _ => St d i row col val (total R row col val (n + 1))) := by
  iintro ⟨Hr, Hc, Hv, Hk⟩
  unfold grpOp
  simp only [Prog.lift, Prog.bind_op, Prog.bind_ret, Prog.pure_eq_ret]
  iapply (wp_load 𝒱₀ (me d i) none Set.univ (m := rowM) (S := Finset.univ) (Finset.subset_univ _)) $$ Hr; iintro Hr
  iapply (wp_load 𝒱₀ (me d i) none Set.univ (m := colM) (S := Finset.univ) (Finset.subset_univ _)) $$ Hc; iintro Hc
  iapply (wp_load 𝒱₀ (me d i) none Set.univ (m := valM) (S := Finset.univ) (Finset.subset_univ _)) $$ Hv; iintro Hv
  have ha := grp_cast off inb n hn ho row
  have hb := grp_cast off inb n hn ho col
  have hc := grp_cast off inb n hn ho val
  have hC' := hC
  rw [← ha, ← hb] at hC'
  iapply (wp_assume 𝒱₀ (me d i) none Set.univ hC')
  ihave Hw := (wp_store_canvas (d := d) (i := i) _ _ _ true (hi _ _ hC') (total R row col val n)) $$ Hk
  iapply (wp_wand (M := 𝕄) frame _ Set.univ) $$ Hw
  iintro %_ Hk
  isplitl [Hr]; · iexact Hr
  isplitl [Hc]; · iexact Hc
  isplitl [Hv]; · iexact Hv
  iapply (Entails.of_eq (congrArg (canP d i) (store_total_of hR hr0 hrow ha hb hc (hi _ _ hC'))))
  iexact Hk

/-- Taking one group of pillars off the canvas again. -/
theorem wp_clr (off : Fin 2 → ℕ) (inb : ∀ a, off a + S1x16.size a ≤ S96x128.size a) (r0 : BitVec 32)
    (C : IVec S16 32 → IVec S16 32 → Prop) (dec : ∀ b r, Decidable (C b r))
    (hi : ∀ b r, C b r → ∀ a x, ((![r, b] : Fin 2 → IVec S16 32) a x).toNat < S144x432.size a)
    (n : ℕ) (hn : n < 768) (ho : off = ![n / 8, 16 * (n % 8)]) (R : ℕ) (hR : R ≤ 288) (hr0 : r0 = BitVec.ofNat 32 R)
    {row col : Tab.Idx → BitVec 32} {val : Tab.Idx → F .f32}
    {z : Vec F S16 .f32} (hz : z = broadcast Lane zero) (N : ℕ)
    (hrow : ∀ p, (row p).toNat < 432) (hC : C (grp col n) (rowIx r0 (grp row n))) :
    St d i row col val (cleared R row col val N n)
      ⊢ run d i (clrOp i off inb r0 z C dec hi)
        (fun _ => St d i row col val (cleared R row col val N (n + 1))) := by
  iintro ⟨Hr, Hc, Hv, Hk⟩
  unfold clrOp
  simp only [Prog.lift, Prog.bind_op, Prog.bind_ret, Prog.pure_eq_ret]
  iapply (wp_load 𝒱₀ (me d i) none Set.univ (m := rowM) (S := Finset.univ) (Finset.subset_univ _)) $$ Hr; iintro Hr
  iapply (wp_load 𝒱₀ (me d i) none Set.univ (m := colM) (S := Finset.univ) (Finset.subset_univ _)) $$ Hc; iintro Hc
  have ha := grp_cast off inb n hn ho row
  have hb := grp_cast off inb n hn ho col
  have hC' := hC
  rw [← ha, ← hb] at hC'
  iapply (wp_assume 𝒱₀ (me d i) none Set.univ hC')
  ihave Hw := (wp_store_canvas (d := d) (i := i) _ _ _ false (hi _ _ hC') (cleared R row col val N n)) $$ Hk
  iapply (wp_wand (M := 𝕄) frame _ Set.univ) $$ Hw
  iintro %_ Hk
  isplitl [Hr]; · iexact Hr
  isplitl [Hc]; · iexact Hc
  isplitl [Hv]; · iexact Hv
  iapply (Entails.of_eq (congrArg (canP d i) (store_cleared_of hR hr0 hrow ha hb hz (hi _ _ hC'))))
  iexact Hk

theorem run_pure {α : Type} (a : α) {A : sProp 𝕄} {Q : α → sProp 𝕄} (h : A ⊢ Q a) : A ⊢ run d i (pure a) Q := by
  unfold run; rw [wp_pure]
  iintro H
  imodintro
  iapply h $$ H

/-- A loop, by what holds after each number of trips. -/
theorem run_for (l : Scf.Loop 32) (hok : l.OK) (body : Fin l.trips → Unit → PT F i Unit) (I : ℕ → sProp 𝕄) {N : ℕ} (hN : l.trips = N)
    (step : ∀ t : Fin l.trips, I t.val ⊢ run d i (body t ⟨⟩) (fun _ => I (t.val + 1))) :
    I 0 ⊢ run d i (Scf.Loop.for l hok ⟨⟩ body) (fun _ => I N) := by
  subst hN
  iintro H
  iapply (Scf.wp_for frame (wpE (defs₀ (F := F)) 𝒱₀ (me d i) none) Set.univ l.lb l.ub l.st hok ⟨⟩ body (fun n _ => I n) (fun t _ => step t))
  isplitl [H]; · iexact H
  iintro %_ H
  iexact H

/-- The rounds after the first complete the group. -/
theorem wp_slowTail {r0 : BitVec 32} {a b : IVec S16 32} {c : Vec F S16 .f32} {v : BitVec 32}
    (okA : k1_cond3 v = 1#1 → (k1_t11_loop v).OK)
    (hiA : Fin (k1_t11_loop v).trips → k1_cond3 v = 1#1 → ∀ x y, ((![rowIx r0 a, b] : Fin 2 → IVec S16 32) x y).toNat < S144x432.size x)
    (okB : k1_cond3 v = 1#1 → (k1_t12_loop v).OK)
    (hiB : Fin (k1_t12_loop v).trips → k1_cond3 v = 1#1 → ∀ x y, ((![rowIx r0 a, b] : Fin 2 → IVec S16 32) x y).toNat < S144x432.size x)
    (n : ℕ) (R : ℕ) (hR : R ≤ 288) (hr0 : r0 = BitVec.ofNat 32 R)
    {row col : Tab.Idx → BitVec 32} {val : Tab.Idx → F .f32} (hrow : ∀ p, (row p).toNat < 432)
    (ha : a = grp row n) (hb : b = grp col n) (hc : c = grp val n) (hv : v = top R row col n) :
    canP d i (rounds R row col val n 1) ⊢ run d i (slowTail i r0 a b c v okA hiA okB hiB) (fun _ => canP d i (total R row col val (n + 1))) := by
  obtain ⟨ht, htq⟩ := top_spec R row col n
  rw [← hv] at ht htq
  have hm : v = BitVec.ofNat 32 (⟨v.toNat, by omega⟩ : Fin 17).val := by simp
  unfold slowTail
  by_cases h : k1_cond3 v = 1#1
  · obtain ⟨h1, -, ht1, -, ht2⟩ := loop_facts ⟨v.toNat, by omega⟩ (hm ▸ h)
    rw [← hm] at ht1 ht2
    simp only at h1 ht1
    rw [dif_pos h]
    refine run_seq (B := fun _ => canP d i (rounds R row col val n v.toNat)) ?_ fun _ => ?_
    · rw [show v.toNat = v.toNat - 1 + 1 by omega]
      refine run_for (d := d) (i := i) (k1_t11_loop v) (okA h) _ (fun k => canP d i (rounds R row col val n (k + 1))) ht1 (fun t => ?_)
      have hlt := t.isLt
      iintro Hk
      iapply (wp_store_canvas_bind (d := d) (i := i) (store_round_of hR hr0 hrow ha hb hc (q := t.val + 1) (w := Scf.iv 2#32 1#32 t) ?hw (hiA t h))) $$ Hk
      case hw =>
        simp only [Scf.iv, BitVec.toNat_add, BitVec.toNat_mul, BitVec.toNat_ofNat]
        omega
      iintro Hk
      iapply (run_pure (d := d) (i := i) _ .rfl)
      iexact Hk
    · refine run_seq (B := fun _ => canP d i (rounds R row col val n v.toNat)) ?_ fun _ => ?_
      · exact run_for (d := d) (i := i) (k1_t12_loop v) (okB h) _ (fun _ => canP d i (rounds R row col val n v.toNat)) (N := 0) ht2
          (fun t => by have := t.isLt; omega)
      · rw [rounds_top R hR row col val hrow n v.toNat htq]
        exact run_seq (B := fun _ => _) (run_pure _ .rfl) fun _ => run_pure _ .rfl
  · have h1 := cond3_facts ⟨v.toNat, by omega⟩ (hm ▸ h)
    simp only at h1
    rw [dif_neg h, rounds_top R hR row col val hrow n 1 fun k hk => (htq k hk).trans h1]
    exact run_seq (B := fun _ => _) (run_pure _ .rfl) fun _ => run_pure _ .rfl

/-- Adding one group in rounds comes to the same. -/
theorem wp_slow (off : Fin 2 → ℕ) (inb : ∀ a, off a + S1x16.size a ≤ S96x128.size a) (r0 : BitVec 32)
    (C : IVec S16 32 → IVec S16 32 → Prop) (dec : ∀ b r, Decidable (C b r))
    (hi : ∀ b r, C b r → ∀ a x, ((![r, b] : Fin 2 → IVec S16 32) a x).toNat < S144x432.size a)
    (C' : IVec S16 32 → IVec S16 32 → BitVec 32 → Prop) (dec' : ∀ b r v, Decidable (C' b r v))
    (okA : ∀ b r v, C' b r v → k1_cond3 v = 1#1 → (k1_t11_loop v).OK)
    (hiA : ∀ b r v, C' b r v → Fin (k1_t11_loop v).trips → k1_cond3 v = 1#1 → ∀ a x, ((![r, b] : Fin 2 → IVec S16 32) a x).toNat < S144x432.size a)
    (okB : ∀ b r v, C' b r v → k1_cond3 v = 1#1 → (k1_t12_loop v).OK)
    (hiB : ∀ b r v, C' b r v → Fin (k1_t12_loop v).trips → k1_cond3 v = 1#1 → ∀ a x, ((![r, b] : Fin 2 → IVec S16 32) a x).toNat < S144x432.size a)
    (n : ℕ) (hn : n < 768) (ho : off = ![n / 8, 16 * (n % 8)]) (R : ℕ) (hR : R ≤ 288) (hr0 : r0 = BitVec.ofNat 32 R)
    {row col : Tab.Idx → BitVec 32} {val : Tab.Idx → F .f32}
    (hrow : ∀ p, (row p).toNat < 432) (hC : C (grp col n) (rowIx r0 (grp row n)))
    (hC' : C' (grp col n) (rowIx r0 (grp row n)) (top R row col n)) :
    St d i row col val (total R row col val n)
      ⊢ run d i (slowOp i off inb r0 C dec hi C' dec' okA hiA okB hiB)
        (fun _ => St d i row col val (total R row col val (n + 1))) := by
  have ha := grp_cast off inb n hn ho row
  have hb := grp_cast off inb n hn ho col
  have hc := grp_cast off inb n hn ho val
  have hC1 := hC
  rw [← ha, ← hb] at hC1
  have htop := top_of hr0 row col n ha hb
  have hC2 := hC'
  rw [← htop, ← ha, ← hb] at hC2
  obtain ⟨ht, htq⟩ := top_spec R row col n
  rw [← htop] at ht htq
  iintro ⟨Hr, Hc, Hv, Hk⟩
  unfold slowOp
  simp only [Prog.lift, Prog.bind_op, Prog.bind_ret, Prog.pure_eq_ret]
  iapply (wp_load 𝒱₀ (me d i) none Set.univ (m := rowM) (S := Finset.univ) (Finset.subset_univ _)) $$ Hr; iintro Hr
  iapply (wp_load 𝒱₀ (me d i) none Set.univ (m := colM) (S := Finset.univ) (Finset.subset_univ _)) $$ Hc; iintro Hc
  iapply (wp_load 𝒱₀ (me d i) none Set.univ (m := valM) (S := Finset.univ) (Finset.subset_univ _)) $$ Hv; iintro Hv
  iapply (wp_assume 𝒱₀ (me d i) none Set.univ hC1)
  rw [← rounds_zero R hR row col val hrow n]
  iapply (wp_store_canvas_bind (d := d) (i := i) (store_round_of hR hr0 hrow ha hb hc (show (1#32).toNat = 0 + 1 from rfl) (hi _ _ hC1))) $$ Hk
  iintro Hk
  simp only [Prog.lift, Prog.bind_op, Prog.bind_ret, Prog.pure_eq_ret]
  iapply (wp_assume 𝒱₀ (me d i) none Set.univ hC2)
  ihave Hw := (wp_slowTail (d := d) (i := i) (okA _ _ _ hC2) (hiA _ _ _ hC2) (okB _ _ _ hC2) (hiB _ _ _ hC2) n R hR hr0 hrow ha hb hc htop) $$ Hk
  iapply (wp_wand (M := 𝕄) frame _ Set.univ) $$ Hw
  iintro %_ Hk
  isplitl [Hr]; · iexact Hr
  isplitl [Hc]; · iexact Hc
  isplitl [Hv]; · iexact Hv
  iexact Hk

end Cert.KernelIdeal.Tile
-- ==== Proof.LoopsIdeal.lean ====
module

public import proofs.«01_k».proof.Proof.OpsIdeal

@[expose] public section

noncomputable section

namespace Cert.KernelIdeal.Tile

open Cert.KernelIdeal Cert.KernelIdeal.Gen Cert.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "mwM" => (Memref.whole Cert.KernelIdeal.main_v0_0_scv : Memref Cert.KernelIdeal.sig Kind.scVector Space.hbm Cert.KernelIdeal.S2x64x96x128 EltTy.f32)
local notation "ipM" => (Memref.whole Cert.KernelIdeal.main_v23_scv : Memref Cert.KernelIdeal.sig Kind.scVector Space.hbm Cert.KernelIdeal.S2x2x96x128 EltTy.i32)
local notation "sbM" => (Memref.whole Cert.KernelIdeal.main_v20_scv : Memref Cert.KernelIdeal.sig Kind.scVector Space.hbm Cert.KernelIdeal.S128 EltTy.f32)
local notation "outM" => (Memref.whole Cert.KernelIdeal.main_v24_scv : Memref Cert.KernelIdeal.sig Kind.scVector Space.hbm Cert.KernelIdeal.S2x64x496x432 EltTy.f32)
local notation "rowM" => (Memref.whole Cert.KernelIdeal.cc1_scratch0 : Memref Cert.KernelIdeal.sig Kind.scVector Space.vmem Cert.KernelIdeal.S96x128 EltTy.i32)
local notation "colM" => (Memref.whole Cert.KernelIdeal.cc1_scratch1 : Memref Cert.KernelIdeal.sig Kind.scVector Space.vmem Cert.KernelIdeal.S96x128 EltTy.i32)
local notation "canM" => (Memref.whole Cert.KernelIdeal.cc1_scratch2 : Memref Cert.KernelIdeal.sig Kind.scVector Space.vmem Cert.KernelIdeal.S144x432 EltTy.f32)
local notation "valM" => (Memref.whole Cert.KernelIdeal.cc1_scratch3 : Memref Cert.KernelIdeal.sig Kind.scVector Space.vmem Cert.KernelIdeal.S96x128 EltTy.f32)
local notation "tabM" => (Memref.whole Cert.KernelIdeal.cc1_scratch4 : Memref Cert.KernelIdeal.sig Kind.scVector Space.vmem Cert.KernelIdeal.S128 EltTy.f32)
local notation "flgM" => (Memref.whole Cert.KernelIdeal.cc1_scratch5 : Memref Cert.KernelIdeal.sig Kind.scVector Space.smem Cert.KernelIdeal.S96 EltTy.i32)

local notation "ARGS" x => x mwM (Memref.isWhole_whole _) ipM (Memref.isWhole_whole _) sbM (Memref.isWhole_whole _) outM (Memref.isWhole_whole _) rowM (Memref.isWhole_whole _) colM (Memref.isWhole_whole _) canM (Memref.isWhole_whole _) valM (Memref.isWhole_whole _) tabM (Memref.isWhole_whole _) flgM (Memref.isWhole_whole _) cc1_scoped0 cc1_scoped1 cc1_scoped2 cc1_scoped3 cc1_scoped4 cc1_scoped5

local notation "𝕄" => MT nD τ sig (HIx 1) (Elt F) ℕ UU ℕ

variable [FloatOps F] {d : Dev nD} {i : grid1.Coords}

/-- What is held beside a run is held after it. -/
theorem run_frame {α : Type} {p : PT F i α} {A C : sProp 𝕄} {B : α → sProp 𝕄} (h : A ⊢ run d i p B) :
    iprop(A ∗ C) ⊢ run d i p (fun a => iprop(B a ∗ C)) := by
  iintro ⟨HA, HC⟩
  ihave Hw := h $$ HA
  iapply (wp_wand (M := 𝕄) frame _ Set.univ) $$ Hw
  iintro %_ HB
  isplitl [HB]; · iexact HB
  iexact HC

theorem run_post {α : Type} {p : PT F i α} {A : sProp 𝕄} {B Q : α → sProp 𝕄} (h : A ⊢ run d i p B) (hQ : ∀ a, B a ⊢ Q a) :
    A ⊢ run d i p Q := h.trans (wp_mono frame _ _ hQ)

/-- Reading a flag. -/
theorem wp_flag (off : Fin 1 → ℕ) (inb : ∀ a, off a + S1.size a ≤ S96.size a) (f : S96.Idx → BitVec 32) :
    flgP (F := F) d i f ⊢ run d i (smemLoad flgM (Rect.unit (s := S96) off S1.size inb) numel1_S1 rfl) (fun _ => flgP (F := F) d i f) := by
  iintro H
  unfold smemLoad run
  iapply (wp_smemLoadElt 𝒱₀ (me d i) none Set.univ (m := flgM) (r := Rect.unit (s := S96) off S1.size inb) (S := Finset.univ)
    (k := .ret) (Finset.subset_univ _)) $$ H
  iintro H
  rw [wp_ret]
  imodintro
  iexact H

theorem r0At_eq (t5 : Fin k1_t5_loop.trips) : r0At t5 = BitVec.ofNat 32 (144 * t5.val) := by
  revert t5; decide

theorem t5_le (t5 : Fin k1_t5_loop.trips) : 144 * t5.val ≤ 288 := by
  have : t5.val < 3 := t5.isLt
  omega

section
variable {row col : Tab.Idx → BitVec 32} {val : Tab.Idx → F .f32} (hrow : ∀ p, (row p).toNat < 432) (hcol : ∀ p, (col p).toNat < 432)
  (t5 : Fin k1_t5_loop.trips)

include hrow hcol

/-- Every lane of a group names a cell of the canvas. -/
theorem grp_inb (n : ℕ) : ∀ a x, ((![rowIx (r0At t5) (grp row n), grp col n] : Fin 2 → IVec S16 32) a x).toNat < S144x432.size a := by
  rw [r0At_eq]
  exact inb_of _ (t5_le t5) _ _ (fun x => hrow _) (fun x => hcol _)

theorem chk14_ok (n : ℕ) : k1_chk14 (grp col n) (rowIx (r0At t5) (grp row n)) (top (144 * t5.val) row col n) := by
  have hi := grp_inb hrow hcol t5 n
  have ht := (top_spec (144 * t5.val) row col n).1
  generalize top (144 * t5.val) row col n = v at ht ⊢
  have hm : v = BitVec.ofNat 32 (⟨v.toNat, by omega⟩ : Fin 17).val := by simp
  have key := loop_facts ⟨v.toNat, by omega⟩
  rw [← hm] at key
  exact ⟨fun h => (key h).2.1, fun _ _ => hi, fun h => (key h).2.2.2.1, fun _ _ => hi⟩

theorem chk12_ok (n : ℕ) (v20 : BitVec 32) : k1_chk12 v20 (grp col n) (rowIx (r0At t5) (grp row n)) (top (144 * t5.val) row col n) := by
  obtain ⟨h1, h2, h3, h4⟩ := chk14_ok hrow hcol t5 n
  exact ⟨fun _ h => h1 h, fun t _ h => h2 t h, fun _ h => h3 h, fun t _ h => h4 t h⟩

theorem wp_grp' (off : Fin 2 → ℕ) (inb : ∀ a, off a + S1x16.size a ≤ S96x128.size a)
    (C : IVec S16 32 → IVec S16 32 → Prop) (dec : ∀ b r, Decidable (C b r))
    (hi : ∀ b r, C b r → ∀ a x, ((![r, b] : Fin 2 → IVec S16 32) a x).toNat < S144x432.size a)
    (hC : ∀ b r, (∀ a x, ((![r, b] : Fin 2 → IVec S16 32) a x).toNat < S144x432.size a) → C b r)
    (t k : ℕ) (ht : t < 96) (hk : k < 8) (ho : off = ![t, 16 * k]) :
    St d i row col val (total (144 * t5.val) row col val (8 * t + k))
      ⊢ run d i (grpOp i off inb (r0At t5) C dec hi) (fun _ => St d i row col val (total (144 * t5.val) row col val (8 * t + k + 1))) :=
  wp_grp off inb (r0At t5) C dec hi (8 * t + k) (by omega) (ho.trans (by rw [show (8 * t + k) / 8 = t by omega, show (8 * t + k) % 8 = k by omega]))
    _ (t5_le t5) (r0At_eq t5) hrow (hC _ _ (grp_inb hrow hcol t5 _))

theorem wp_clr' (off : Fin 2 → ℕ) (inb : ∀ a, off a + S1x16.size a ≤ S96x128.size a) {z : Vec F S16 .f32} (hz : z = broadcast Lane zero)
    (C : IVec S16 32 → IVec S16 32 → Prop) (dec : ∀ b r, Decidable (C b r))
    (hi : ∀ b r, C b r → ∀ a x, ((![r, b] : Fin 2 → IVec S16 32) a x).toNat < S144x432.size a)
    (hC : ∀ b r, (∀ a x, ((![r, b] : Fin 2 → IVec S16 32) a x).toNat < S144x432.size a) → C b r)
    (N t k : ℕ) (ht : t < 96) (hk : k < 8) (ho : off = ![t, 16 * k]) :
    St d i row col val (cleared (144 * t5.val) row col val N (8 * t + k))
      ⊢ run d i (clrOp i off inb (r0At t5) z C dec hi) (fun _ => St d i row col val (cleared (144 * t5.val) row col val N (8 * t + k + 1))) :=
  wp_clr off inb (r0At t5) C dec hi (8 * t + k) (by omega) (ho.trans (by rw [show (8 * t + k) / 8 = t by omega, show (8 * t + k) % 8 = k by omega]))
    _ (t5_le t5) (r0At_eq t5) hz N hrow (hC _ _ (grp_inb hrow hcol t5 _))

variable (a1 : BitVec 32) (v2 : FVec F S16 .f32) (t3 : Fin k1_t3_loop.trips)

/-- One row of the table, a group at a time or, where a group names a cell twice, in rounds. -/
theorem wp_t6 (t : Fin k1_t6_loop.trips) (u : Unit) :
    iprop(St d i row col val (total (144 * t5.val) row col val (8 * t.val)) ∗ ∃ f, flgP (F := F) d i f)
      ⊢ run d i ((ARGS k1_t6_body (F := F) i) a1 v2 0#32 1#32 t3 t5 (r0At t5) t u)
        (fun _ => iprop(St d i row col val (total (144 * t5.val) row col val (8 * (t.val + 1))) ∗ ∃ f, flgP (F := F) d i f)) := by
  have ht : t.val < 93 := t.isLt
  rw [t6_eq]
  refine run_seq (B := fun _ => iprop(St d i row col val (total (144 * t5.val) row col val (8 * t.val)) ∗ ∃ f, flgP (F := F) d i f)) ?_ fun v20 => ?_
  · iintro ⟨HS, %f, Hf⟩
    ihave Hw := (wp_flag (d := d) (i := i) _ _ f) $$ Hf
    iapply (wp_wand (M := 𝕄) frame _ Set.univ) $$ Hw
    iintro %_ Hf
    isplitl [HS]; · iexact HS
    iexists f; iexact Hf
  · refine run_frame ?_
    by_cases h : k1_cond1 v20 = 1#1
    · rw [dif_pos h]
      refine run_seq (wp_grp' hrow hcol t5 _ _ _ _ _ (fun _ _ h _ => h) t.val 0 (by omega) (by omega) (k1_off49_eq t)) fun _ => ?_
      refine run_seq (wp_grp' hrow hcol t5 _ _ _ _ _ (fun _ _ h _ => h) t.val 1 (by omega) (by omega) (k1_off50_eq t)) fun _ => ?_
      refine run_seq (wp_grp' hrow hcol t5 _ _ _ _ _ (fun _ _ h _ => h) t.val 2 (by omega) (by omega) (k1_off51_eq t)) fun _ => ?_
      refine run_seq (wp_grp' hrow hcol t5 _ _ _ _ _ (fun _ _ h _ => h) t.val 3 (by omega) (by omega) (k1_off52_eq t)) fun _ => ?_
      refine run_seq (wp_grp' hrow hcol t5 _ _ _ _ _ (fun _ _ h _ => h) t.val 4 (by omega) (by omega) (k1_off53_eq t)) fun _ => ?_
      refine run_seq (wp_grp' hrow hcol t5 _ _ _ _ _ (fun _ _ h _ => h) t.val 5 (by omega) (by omega) (k1_off54_eq t)) fun _ => ?_
      refine run_seq (wp_grp' hrow hcol t5 _ _ _ _ _ (fun _ _ h _ => h) t.val 6 (by omega) (by omega) (k1_off55_eq t)) fun _ => ?_
      refine run_seq (wp_grp' hrow hcol t5 _ _ _ _ _ (fun _ _ h _ => h) t.val 7 (by omega) (by omega) (k1_off56_eq t)) fun _ => ?_
      exact run_seq (B := fun _ => St d i row col val (total (144 * t5.val) row col val (8 * (t.val + 1)))) (run_pure _ .rfl) fun _ => run_pure _ .rfl
    · rw [dif_neg h]
      refine run_seq (B := fun _ => St d i row col val (total (144 * t5.val) row col val (8 * (t.val + 1)))) ?_ fun _ =>
        run_seq (B := fun _ => St d i row col val (total (144 * t5.val) row col val (8 * (t.val + 1)))) (run_pure _ .rfl) fun _ => run_pure _ .rfl
      refine run_for (d := d) (i := i) k1_t7_loop k1_t7_ok _ (fun k => St d i row col val (total (144 * t5.val) row col val (8 * t.val + k))) (N := 8) rfl fun t7 => ?_
      have h7 : t7.val < 8 := t7.isLt
      rw [t7_eq]
      exact wp_slow _ _ _ _ _ _ _ _ _ _ _ _ (8 * t.val + t7.val) (by omega)
        ((k1_off57_eq t t7).trans (by rw [show (8 * t.val + t7.val) / 8 = t.val by omega, show (8 * t.val + t7.val) % 8 = t7.val by omega]))
        _ (t5_le t5) (r0At_eq t5) hrow (fun _ => grp_inb hrow hcol t5 _) (chk12_ok hrow hcol t5 _ _)

/-- The last groups of the table. -/
theorem wp_t10 (t : Fin k1_t10_loop.trips) (u : Unit) :
    St d i row col val (total (144 * t5.val) row col val (744 + t.val))
      ⊢ run d i ((ARGS k1_t10_body (F := F) i) a1 v2 0#32 1#32 t3 (r0At t5) t u)
        (fun _ => St d i row col val (total (144 * t5.val) row col val (744 + (t.val + 1)))) := by
  have ht : t.val < 6 := t.isLt
  rw [t10_eq]
  exact wp_slow _ _ _ _ _ _ _ _ _ _ _ _ (744 + t.val) (by omega)
    ((k1_off58_eq t).trans (by rw [show (744 + t.val) / 8 = 93 by omega, show (744 + t.val) % 8 = t.val by omega]))
    _ (t5_le t5) (r0At_eq t5) hrow (grp_inb hrow hcol t5 _) (chk14_ok hrow hcol t5 _)

theorem wp_t13 (hz : v2 = broadcast Lane zero) (N : ℕ) (t : Fin k1_t13_loop.trips) (u : Unit) :
    St d i row col val (cleared (144 * t5.val) row col val N (8 * t.val))
      ⊢ run d i ((ARGS k1_t13_body (F := F) i) a1 v2 0#32 1#32 t3 t5 (r0At t5) t u)
        (fun _ => St d i row col val (cleared (144 * t5.val) row col val N (8 * (t.val + 1)))) := by
  have ht : t.val < 93 := t.isLt
  rw [t13_eq]
  refine run_seq (wp_clr' hrow hcol t5 _ _ hz _ _ _ (fun _ _ h => h) N t.val 0 (by omega) (by omega) (k1_off60_eq t)) fun _ => ?_
  refine run_seq (wp_clr' hrow hcol t5 _ _ hz _ _ _ (fun _ _ h => h) N t.val 1 (by omega) (by omega) (k1_off61_eq t)) fun _ => ?_
  refine run_seq (wp_clr' hrow hcol t5 _ _ hz _ _ _ (fun _ _ h => h) N t.val 2 (by omega) (by omega) (k1_off62_eq t)) fun _ => ?_
  refine run_seq (wp_clr' hrow hcol t5 _ _ hz _ _ _ (fun _ _ h => h) N t.val 3 (by omega) (by omega) (k1_off63_eq t)) fun _ => ?_
  refine run_seq (wp_clr' hrow hcol t5 _ _ hz _ _ _ (fun _ _ h => h) N t.val 4 (by omega) (by omega) (k1_off64_eq t)) fun _ => ?_
  refine run_seq (wp_clr' hrow hcol t5 _ _ hz _ _ _ (fun _ _ h => h) N t.val 5 (by omega) (by omega) (k1_off65_eq t)) fun _ => ?_
  refine run_seq (wp_clr' hrow hcol t5 _ _ hz _ _ _ (fun _ _ h => h) N t.val 6 (by omega) (by omega) (k1_off66_eq t)) fun _ => ?_
  refine run_seq (wp_clr' hrow hcol t5 _ _ hz _ _ _ (fun _ _ h => h) N t.val 7 (by omega) (by omega) (k1_off67_eq t)) fun _ => ?_
  exact run_pure _ .rfl

theorem wp_t14 (hz : v2 = broadcast Lane zero) (N : ℕ) (t : Fin k1_t14_loop.trips) (u : Unit) :
    St d i row col val (cleared (144 * t5.val) row col val N (744 + t.val))
      ⊢ run d i ((ARGS k1_t14_body (F := F) i) a1 v2 0#32 1#32 t3 t5 t u)
        (fun _ => St d i row col val (cleared (144 * t5.val) row col val N (744 + (t.val + 1)))) := by
  have ht : t.val < 6 := t.isLt
  rw [t14_eq]
  have h := wp_clr' (d := d) (i := i) (val := val) hrow hcol t5 _ (k1_off68_inb t) hz _ k1_chk23.dec (fun b r w => k1_idx25_inb b r w) (fun _ _ h => h) N 93 t.val (by omega) (by omega) (k1_off68_eq t)
  exact run_seq h fun _ => run_pure _ .rfl

end

end Cert.KernelIdeal.Tile
-- ==== Proof.FillIdeal.lean ====
module

public import proofs.«01_k».proof.Proof.LoopsIdeal

@[expose] public section

noncomputable section

namespace Cert.KernelIdeal.Tile

open Cert.KernelIdeal Cert.KernelIdeal.Gen Cert.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "mwM" => (Memref.whole Cert.KernelIdeal.main_v0_0_scv : Memref Cert.KernelIdeal.sig Kind.scVector Space.hbm Cert.KernelIdeal.S2x64x96x128 EltTy.f32)
local notation "ipM" => (Memref.whole Cert.KernelIdeal.main_v23_scv : Memref Cert.KernelIdeal.sig Kind.scVector Space.hbm Cert.KernelIdeal.S2x2x96x128 EltTy.i32)
local notation "sbM" => (Memref.whole Cert.KernelIdeal.main_v20_scv : Memref Cert.KernelIdeal.sig Kind.scVector Space.hbm Cert.KernelIdeal.S128 EltTy.f32)
local notation "outM" => (Memref.whole Cert.KernelIdeal.main_v24_scv : Memref Cert.KernelIdeal.sig Kind.scVector Space.hbm Cert.KernelIdeal.S2x64x496x432 EltTy.f32)
local notation "rowM" => (Memref.whole Cert.KernelIdeal.cc1_scratch0 : Memref Cert.KernelIdeal.sig Kind.scVector Space.vmem Cert.KernelIdeal.S96x128 EltTy.i32)
local notation "colM" => (Memref.whole Cert.KernelIdeal.cc1_scratch1 : Memref Cert.KernelIdeal.sig Kind.scVector Space.vmem Cert.KernelIdeal.S96x128 EltTy.i32)
local notation "canM" => (Memref.whole Cert.KernelIdeal.cc1_scratch2 : Memref Cert.KernelIdeal.sig Kind.scVector Space.vmem Cert.KernelIdeal.S144x432 EltTy.f32)
local notation "valM" => (Memref.whole Cert.KernelIdeal.cc1_scratch3 : Memref Cert.KernelIdeal.sig Kind.scVector Space.vmem Cert.KernelIdeal.S96x128 EltTy.f32)
local notation "tabM" => (Memref.whole Cert.KernelIdeal.cc1_scratch4 : Memref Cert.KernelIdeal.sig Kind.scVector Space.vmem Cert.KernelIdeal.S128 EltTy.f32)
local notation "flgM" => (Memref.whole Cert.KernelIdeal.cc1_scratch5 : Memref Cert.KernelIdeal.sig Kind.scVector Space.smem Cert.KernelIdeal.S96 EltTy.i32)

local notation "ARGS" x => x mwM (Memref.isWhole_whole _) ipM (Memref.isWhole_whole _) sbM (Memref.isWhole_whole _) outM (Memref.isWhole_whole _) rowM (Memref.isWhole_whole _) colM (Memref.isWhole_whole _) canM (Memref.isWhole_whole _) valM (Memref.isWhole_whole _) tabM (Memref.isWhole_whole _) flgM (Memref.isWhole_whole _) cc1_scoped0 cc1_scoped1 cc1_scoped2 cc1_scoped3 cc1_scoped4 cc1_scoped5

local notation "𝕄" => MT nD τ sig (HIx 1) (Elt F) ℕ UU ℕ

variable [FloatOps F] {d : Dev nD} {i : grid1.Coords}

/-! ## Filling the canvas with zeros, and the values of one channel -/

theorem write_cases {sig' : RefSig} {κ : Kind} {sp : Space} {s : Shape} {e : EltTy} (v : View sig' κ sp s e) (f : v.ty.Contents (Elt F))
    (w : s.Idx → Elt F e) (p : v.ty.Idx) :
    (∃ x, v.emb x = p ∧ v.write (Elt F) f w Finset.univ p = cast (congrArg (Elt F) v.elt_eq.symm) (w x))
      ∨ ((∀ x, v.emb x ≠ p) ∧ v.write (Elt F) f w Finset.univ p = f p) := by
  by_cases h : ∃ x, v.emb x = p
  · obtain ⟨x, rfl⟩ := h
    exact .inl ⟨x, rfl, View.write_emb_of_mem f w (Finset.mem_univ x)⟩
  · refine .inr ⟨fun x hx => h ⟨x, hx⟩, View.write_of_not_mem f w Finset.univ ?_⟩
    intro hp
    obtain ⟨x, -, hx⟩ := Finset.mem_map.mp hp
    exact h ⟨x, hx⟩

/-- The canvas with the first `n` groups of sixteen cells zero. -/
def wiped (g : Can.Idx → F .f32) (n : ℕ) : Can.Idx → F .f32 := fun p => if 27 * (p 0).val + (p 1).val / 16 < n then zero else g p

/-- Sixteen cells of a canvas row set to zero. -/
def memOp (i : grid1.Coords) (off : Fin 2 → ℕ) (inb : ∀ a, off a + S1x16.size a ≤ S144x432.size a) : PT F i PUnit := do
  let _ : Vec F S1x16 .f32 ← Prog.lift (.load canM (Rect.unit (s := S144x432) off S1x16.size inb).toLoadRect (View.loadsAt_vmem h_S1x16))
  Prog.lift (.store canM (Rect.unit (s := S144x432) off S1x16.size inb) (shapeCast S1x16 (broadcast S16 (zero (F := F)) : Vec F S16 .f32) shapeCasts_S16_S1x16)
    Finset.univ (View.stores_vmem_bits_univ h_S1x16 rfl) (.inl rfl))

theorem write_wiped (off : Fin 2 → ℕ) (inb : ∀ a, off a + S1x16.size a ≤ S144x432.size a) (t k : ℕ) (hk : k < 27) (ho : off = ![t, 16 * k])
    (g : Can.Idx → F .f32) :
    ((canM).access (Rect.unit (s := S144x432) off S1x16.size inb)).write (Elt F) (wiped g (27 * t + k))
      (shapeCast S1x16 (broadcast S16 (zero (F := F)) : Vec F S16 .f32) shapeCasts_S16_S1x16) Finset.univ = wiped g (27 * t + k + 1) := by
  subst ho
  funext p
  have h1 : (p 1).val < 432 := (p 1).isLt
  rcases write_cases ((canM).access (Rect.unit (s := S144x432) ![t, 16 * k] S1x16.size inb)) (wiped g (27 * t + k))
    (shapeCast S1x16 (broadcast S16 (zero (F := F)) : Vec F S16 .f32) shapeCasts_S16_S1x16) p with ⟨x, hx, e⟩ | ⟨hx, e⟩
  · rw [e]
    subst hx
    have hx0 : (x 0).val < 1 := (x 0).isLt
    have hx1 : (x 1).val < 16 := (x 1).isLt
    refine (if_pos ?_).symm
    show 27 * (t + 1 * (x 0).val) + (16 * k + 1 * (x 1).val) / 16 < 27 * t + k + 1
    omega
  · rw [e]
    have : ¬ ((p 0).val = t ∧ (p 1).val / 16 = k) := by
      rintro ⟨h0, hk'⟩
      refine hx (fun | 0 => ⟨0, Nat.zero_lt_one⟩ | 1 => ⟨(p 1).val % 16, Nat.mod_lt _ (by decide)⟩) ?_
      funext a
      apply Fin.ext
      match a with
      | ⟨0, _⟩ => show t + 1 * 0 = (p 0).val; omega
      | ⟨1, _⟩ => show 16 * k + 1 * ((p 1).val % 16) = (p 1).val; omega
    show (if _ then _ else _) = (if _ then _ else _)
    by_cases hlt : 27 * (p 0).val + (p 1).val / 16 < 27 * t + k
    · rw [if_pos hlt, if_pos (by omega)]
    · rw [if_neg hlt, if_neg (by omega)]

theorem wp_mem (off : Fin 2 → ℕ) (inb : ∀ a, off a + S1x16.size a ≤ S144x432.size a) (g : Can.Idx → F .f32) (t k : ℕ) (hk : k < 27) (ho : off = ![t, 16 * k]) :
    canP d i (wiped g (27 * t + k)) ⊢ run d i (memOp i off inb) (fun _ => canP d i (wiped g (27 * t + k + 1))) := by
  iintro H
  unfold memOp
  simp only [Prog.lift, Prog.bind_op, Prog.bind_ret, Prog.pure_eq_ret]
  iapply (wp_load 𝒱₀ (me d i) none Set.univ (m := canM) (S := Finset.univ) (Finset.subset_univ _)) $$ H; iintro H
  iapply (wp_store 𝒱₀ (me d i) none Set.univ (m := canM) (r := Rect.unit (s := S144x432) off S1x16.size inb) (S := Finset.univ) (Finset.subset_univ _)) $$ H; iintro H
  rw [wp_ret]
  imodintro
  iapply (Entails.of_eq (congrArg (canP d i) (write_wiped off inb t k hk ho g)))
  iexact H

theorem t1_eq (i : grid1.Coords) (t : Fin k1_t1_loop.trips) (u : Unit) :
    (ARGS k1_t1_body (F := F) i) t u
      = (do
        memOp i (k1_off3 t) (k1_off3_inb t)
        memOp i (k1_off4 t) (k1_off4_inb t)
        memOp i (k1_off5 t) (k1_off5_inb t)
        memOp i (k1_off6 t) (k1_off6_inb t)
        memOp i (k1_off7 t) (k1_off7_inb t)
        memOp i (k1_off8 t) (k1_off8_inb t)
        memOp i (k1_off9 t) (k1_off9_inb t)
        memOp i (k1_off10 t) (k1_off10_inb t)
        memOp i (k1_off11 t) (k1_off11_inb t)
        memOp i (k1_off12 t) (k1_off12_inb t)
        memOp i (k1_off13 t) (k1_off13_inb t)
        memOp i (k1_off14 t) (k1_off14_inb t)
        memOp i (k1_off15 t) (k1_off15_inb t)
        memOp i (k1_off16 t) (k1_off16_inb t)
        memOp i (k1_off17 t) (k1_off17_inb t)
        memOp i (k1_off18 t) (k1_off18_inb t)
        memOp i (k1_off19 t) (k1_off19_inb t)
        memOp i (k1_off20 t) (k1_off20_inb t)
        memOp i (k1_off21 t) (k1_off21_inb t)
        memOp i (k1_off22 t) (k1_off22_inb t)
        memOp i (k1_off23 t) (k1_off23_inb t)
        memOp i (k1_off24 t) (k1_off24_inb t)
        memOp i (k1_off25 t) (k1_off25_inb t)
        memOp i (k1_off26 t) (k1_off26_inb t)
        memOp i (k1_off27 t) (k1_off27_inb t)
        memOp i (k1_off28 t) (k1_off28_inb t)
        memOp i (k1_off29 t) (k1_off29_inb t)
        pure ⟨⟩) := rfl

theorem wp_t1 (g : Can.Idx → F .f32) (t : Fin k1_t1_loop.trips) (u : Unit) :
    canP d i (wiped g (27 * t.val)) ⊢ run d i ((ARGS k1_t1_body (F := F) i) t u)
      (fun _ => canP d i (wiped g (27 * (t.val + 1)))) := by
  rw [t1_eq]
  refine run_seq (wp_mem _ _ g t.val 0 (by omega) (k1_off3_eq t)) fun _ => ?_
  refine run_seq (wp_mem _ _ g t.val 1 (by omega) (k1_off4_eq t)) fun _ => ?_
  refine run_seq (wp_mem _ _ g t.val 2 (by omega) (k1_off5_eq t)) fun _ => ?_
  refine run_seq (wp_mem _ _ g t.val 3 (by omega) (k1_off6_eq t)) fun _ => ?_
  refine run_seq (wp_mem _ _ g t.val 4 (by omega) (k1_off7_eq t)) fun _ => ?_
  refine run_seq (wp_mem _ _ g t.val 5 (by omega) (k1_off8_eq t)) fun _ => ?_
  refine run_seq (wp_mem _ _ g t.val 6 (by omega) (k1_off9_eq t)) fun _ => ?_
  refine run_seq (wp_mem _ _ g t.val 7 (by omega) (k1_off10_eq t)) fun _ => ?_
  refine run_seq (wp_mem _ _ g t.val 8 (by omega) (k1_off11_eq t)) fun _ => ?_
  refine run_seq (wp_mem _ _ g t.val 9 (by omega) (k1_off12_eq t)) fun _ => ?_
  refine run_seq (wp_mem _ _ g t.val 10 (by omega) (k1_off13_eq t)) fun _ => ?_
  refine run_seq (wp_mem _ _ g t.val 11 (by omega) (k1_off14_eq t)) fun _ => ?_
  refine run_seq (wp_mem _ _ g t.val 12 (by omega) (k1_off15_eq t)) fun _ => ?_
  refine run_seq (wp_mem _ _ g t.val 13 (by omega) (k1_off16_eq t)) fun _ => ?_
  refine run_seq (wp_mem _ _ g t.val 14 (by omega) (k1_off17_eq t)) fun _ => ?_
  refine run_seq (wp_mem _ _ g t.val 15 (by omega) (k1_off18_eq t)) fun _ => ?_
  refine run_seq (wp_mem _ _ g t.val 16 (by omega) (k1_off19_eq t)) fun _ => ?_
  refine run_seq (wp_mem _ _ g t.val 17 (by omega) (k1_off20_eq t)) fun _ => ?_
  refine run_seq (wp_mem _ _ g t.val 18 (by omega) (k1_off21_eq t)) fun _ => ?_
  refine run_seq (wp_mem _ _ g t.val 19 (by omega) (k1_off22_eq t)) fun _ => ?_
  refine run_seq (wp_mem _ _ g t.val 20 (by omega) (k1_off23_eq t)) fun _ => ?_
  refine run_seq (wp_mem _ _ g t.val 21 (by omega) (k1_off24_eq t)) fun _ => ?_
  refine run_seq (wp_mem _ _ g t.val 22 (by omega) (k1_off25_eq t)) fun _ => ?_
  refine run_seq (wp_mem _ _ g t.val 23 (by omega) (k1_off26_eq t)) fun _ => ?_
  refine run_seq (wp_mem _ _ g t.val 24 (by omega) (k1_off27_eq t)) fun _ => ?_
  refine run_seq (wp_mem _ _ g t.val 25 (by omega) (k1_off28_eq t)) fun _ => ?_
  refine run_seq (wp_mem _ _ g t.val 26 (by omega) (k1_off29_eq t)) fun _ => ?_
  exact run_pure _ .rfl

/-- The values with the first `n` groups of sixteen transformed. -/
def acted (s b : F .f32) (g : Tab.Idx → F .f32) (n : ℕ) : Tab.Idx → F .f32 :=
  fun p => if 8 * (p 0).val + (p 1).val / 16 < n then act s b (g p) else g p

/-- The values of sixteen pillars transformed. -/
def actOp (i : grid1.Coords) (off : Fin 2 → ℕ) (inb : ∀ a, off a + S1x16.size a ≤ S96x128.size a) (v7 v10 : Vec F S16 .f32) : PT F i PUnit := do
  let y : Vec F S1x16 .f32 ← Prog.lift (.load valM (Rect.unit (s := S96x128) off S1x16.size inb).toLoadRect (View.loadsAt_vmem h_S1x16))
  let _ : Vec F S1x16 .f32 ← Prog.lift (.load valM (Rect.unit (s := S96x128) off S1x16.size inb).toLoadRect (View.loadsAt_vmem h_S1x16))
  Prog.lift (.store valM (Rect.unit (s := S96x128) off S1x16.size inb) (shapeCast S1x16 (k1_pay33 v7 v10 y) shapeCasts_S16_S1x16)
    Finset.univ (View.stores_vmem_bits_univ h_S1x16 rfl) (.inl rfl))

theorem t4_eq (i : grid1.Coords) (a1 : BitVec 32) (v2 v7 v10 : Vec F S16 .f32) (t3 : Fin k1_t3_loop.trips) (t : Fin k1_t4_loop.trips) (u : Unit) :
    (ARGS k1_t4_body (F := F) i) a1 v2 0#32 1#32 t3 v7 v10 t u
      = (do
        actOp i (k1_off40 t) (k1_off40_inb t) v7 v10
        actOp i (k1_off41 t) (k1_off41_inb t) v7 v10
        actOp i (k1_off42 t) (k1_off42_inb t) v7 v10
        actOp i (k1_off43 t) (k1_off43_inb t) v7 v10
        actOp i (k1_off44 t) (k1_off44_inb t) v7 v10
        actOp i (k1_off45 t) (k1_off45_inb t) v7 v10
        actOp i (k1_off46 t) (k1_off46_inb t) v7 v10
        actOp i (k1_off47 t) (k1_off47_inb t) v7 v10
        pure ⟨⟩) := rfl

theorem write_acted (off : Fin 2 → ℕ) (inb : ∀ a, off a + S1x16.size a ≤ S96x128.size a) (t k : ℕ) (hk : k < 8) (ho : off = ![t, 16 * k])
    (s b : F .f32) (g : Tab.Idx → F .f32) :
    ((valM).access (Rect.unit (s := S96x128) off S1x16.size inb)).write (Elt F) (acted s b g (8 * t + k))
      (shapeCast S1x16 (k1_pay33 (fun _ => s) (fun _ => b) (fun x => acted s b g (8 * t + k) ((Rect.unit (s := S96x128) off S1x16.size inb).toLoadRect.idx x)))
        shapeCasts_S16_S1x16) Finset.univ = acted s b g (8 * t + k + 1) := by
  subst ho
  funext p
  have h1 : (p 1).val < 128 := (p 1).isLt
  rcases write_cases ((valM).access (Rect.unit (s := S96x128) ![t, 16 * k] S1x16.size inb)) (acted s b g (8 * t + k))
    (shapeCast S1x16 (k1_pay33 (fun _ => s) (fun _ => b)
      (fun x => acted s b g (8 * t + k) ((Rect.unit (s := S96x128) ![t, 16 * k] S1x16.size inb).toLoadRect.idx x))) shapeCasts_S16_S1x16) p with ⟨x, hx, e⟩ | ⟨hx, e⟩
  · rw [e]
    subst hx
    have hx0 : (x 0).val < 1 := (x 0).isLt
    have hx1 : (x 1).val < 16 := (x 1).isLt
    have hc : ∀ y : Vec F S1x16 .f32, shapeCast S1x16 (k1_pay33 (fun _ => s) (fun _ => b) y) shapeCasts_S16_S1x16 x = act s b (y x) := by
      intro y
      refine (shapeCast_addUnit_apply (n := 1) ![16] _ _ x).trans ?_
      refine congrArg (act s b) ((shapeCast_dropUnit_apply (n := 1) ![16] _ _ _).trans (congrArg y ?_))
      funext a
      apply Fin.ext
      match a with
      | ⟨0, _⟩ => show 0 = (x 0).val; omega
      | ⟨1, _⟩ => rfl
    refine (hc _).trans ?_
    refine Eq.trans ?_ (if_pos ?_).symm
    · refine congrArg (act s b) (if_neg ?_)
      show ¬ 8 * (t + 1 * (x 0).val) + (16 * k + 1 * (x 1).val) / 16 < 8 * t + k
      omega
    · show 8 * (t + 1 * (x 0).val) + (16 * k + 1 * (x 1).val) / 16 < 8 * t + k + 1
      omega
  · rw [e]
    have : ¬ ((p 0).val = t ∧ (p 1).val / 16 = k) := by
      rintro ⟨h0, hk'⟩
      refine hx (fun | 0 => ⟨0, Nat.zero_lt_one⟩ | 1 => ⟨(p 1).val % 16, Nat.mod_lt _ (by decide)⟩) ?_
      funext a
      apply Fin.ext
      match a with
      | ⟨0, _⟩ => show t + 1 * 0 = (p 0).val; omega
      | ⟨1, _⟩ => show 16 * k + 1 * ((p 1).val % 16) = (p 1).val; omega
    show (if _ then _ else _) = (if _ then _ else _)
    by_cases hlt : 8 * (p 0).val + (p 1).val / 16 < 8 * t + k
    · rw [if_pos hlt, if_pos (by omega)]
    · rw [if_neg hlt, if_neg (by omega)]

theorem wp_act (off : Fin 2 → ℕ) (inb : ∀ a, off a + S1x16.size a ≤ S96x128.size a) (s b : F .f32) (g : Tab.Idx → F .f32) (t k : ℕ) (hk : k < 8)
    (ho : off = ![t, 16 * k]) :
    valP d i (acted s b g (8 * t + k)) ⊢ run d i (actOp i off inb (fun _ => s) (fun _ => b)) (fun _ => valP d i (acted s b g (8 * t + k + 1))) := by
  iintro H
  unfold actOp
  simp only [Prog.lift, Prog.bind_op, Prog.bind_ret, Prog.pure_eq_ret]
  iapply (wp_load 𝒱₀ (me d i) none Set.univ (m := valM) (S := Finset.univ) (Finset.subset_univ _)) $$ H; iintro H
  iapply (wp_load 𝒱₀ (me d i) none Set.univ (m := valM) (S := Finset.univ) (Finset.subset_univ _)) $$ H; iintro H
  iapply (wp_store 𝒱₀ (me d i) none Set.univ (m := valM) (r := Rect.unit (s := S96x128) off S1x16.size inb) (S := Finset.univ) (Finset.subset_univ _)) $$ H; iintro H
  rw [wp_ret]
  imodintro
  iapply (Entails.of_eq (congrArg (valP d i) (write_acted off inb t k hk ho s b g)))
  iexact H

theorem wp_t4 (a1 : BitVec 32) (v2 : Vec F S16 .f32) (t3 : Fin k1_t3_loop.trips) (s b : F .f32) (g : Tab.Idx → F .f32) (t : Fin k1_t4_loop.trips) (u : Unit) :
    valP d i (acted s b g (8 * t.val))
      ⊢ run d i ((ARGS k1_t4_body (F := F) i) a1 v2 0#32 1#32 t3 (fun _ => s) (fun _ => b) t u)
        (fun _ => valP d i (acted s b g (8 * (t.val + 1)))) := by
  rw [t4_eq]
  refine run_seq (wp_act _ _ s b g t.val 0 (by omega) (k1_off40_eq t)) fun _ => ?_
  refine run_seq (wp_act _ _ s b g t.val 1 (by omega) (k1_off41_eq t)) fun _ => ?_
  refine run_seq (wp_act _ _ s b g t.val 2 (by omega) (k1_off42_eq t)) fun _ => ?_
  refine run_seq (wp_act _ _ s b g t.val 3 (by omega) (k1_off43_eq t)) fun _ => ?_
  refine run_seq (wp_act _ _ s b g t.val 4 (by omega) (k1_off44_eq t)) fun _ => ?_
  refine run_seq (wp_act _ _ s b g t.val 5 (by omega) (k1_off45_eq t)) fun _ => ?_
  refine run_seq (wp_act _ _ s b g t.val 6 (by omega) (k1_off46_eq t)) fun _ => ?_
  refine run_seq (wp_act _ _ s b g t.val 7 (by omega) (k1_off47_eq t)) fun _ => ?_
  exact run_pure _ .rfl

/-- A row's flag. Its value decides only how the row is added, so it is not followed. -/
theorem wp_t2 (row col : Tab.Idx → BitVec 32) (t : Fin k1_t2_loop.trips) (u : Unit) :
    iprop(rowP (F := F) d i row ∗ colP (F := F) d i col ∗ ∃ f, flgP (F := F) d i f)
      ⊢ run d i ((ARGS k1_t2_body (F := F) i) 0#32 t u)
        (fun _ => iprop(rowP (F := F) d i row ∗ colP (F := F) d i col ∗ ∃ f, flgP (F := F) d i f)) := by
  iintro ⟨Hr, Hc, %f, Hf⟩
  unfold k1_t2_body
  simp only [k1_part4_eq_skeleton, k1_part5_eq_skeleton, k1_part6_eq_skeleton, k1_part4_skel, k1_part5_skel, k1_part6_skel, smemLoad, smemLoadElt,
    Prog.lift, Prog.bind_op, Prog.bind_ret, Prog.pure_eq_ret]
  iapply (wp_load 𝒱₀ (me d i) none Set.univ (m := rowM) (S := Finset.univ) (Finset.subset_univ _)) $$ Hr; iintro Hr
  iapply (wp_load 𝒱₀ (me d i) none Set.univ (m := colM) (S := Finset.univ) (Finset.subset_univ _)) $$ Hc; iintro Hc
  iapply (wp_load 𝒱₀ (me d i) none Set.univ (m := rowM) (S := Finset.univ) (Finset.subset_univ _)) $$ Hr; iintro Hr
  iapply (wp_load 𝒱₀ (me d i) none Set.univ (m := colM) (S := Finset.univ) (Finset.subset_univ _)) $$ Hc; iintro Hc
  iapply (wp_load 𝒱₀ (me d i) none Set.univ (m := rowM) (S := Finset.univ) (Finset.subset_univ _)) $$ Hr; iintro Hr
  iapply (wp_load 𝒱₀ (me d i) none Set.univ (m := colM) (S := Finset.univ) (Finset.subset_univ _)) $$ Hc; iintro Hc
  iapply (wp_load 𝒱₀ (me d i) none Set.univ (m := rowM) (S := Finset.univ) (Finset.subset_univ _)) $$ Hr; iintro Hr
  iapply (wp_load 𝒱₀ (me d i) none Set.univ (m := colM) (S := Finset.univ) (Finset.subset_univ _)) $$ Hc; iintro Hc
  iapply (wp_load 𝒱₀ (me d i) none Set.univ (m := rowM) (S := Finset.univ) (Finset.subset_univ _)) $$ Hr; iintro Hr
  iapply (wp_load 𝒱₀ (me d i) none Set.univ (m := colM) (S := Finset.univ) (Finset.subset_univ _)) $$ Hc; iintro Hc
  iapply (wp_load 𝒱₀ (me d i) none Set.univ (m := rowM) (S := Finset.univ) (Finset.subset_univ _)) $$ Hr; iintro Hr
  iapply (wp_load 𝒱₀ (me d i) none Set.univ (m := colM) (S := Finset.univ) (Finset.subset_univ _)) $$ Hc; iintro Hc
  iapply (wp_load 𝒱₀ (me d i) none Set.univ (m := rowM) (S := Finset.univ) (Finset.subset_univ _)) $$ Hr; iintro Hr
  iapply (wp_load 𝒱₀ (me d i) none Set.univ (m := colM) (S := Finset.univ) (Finset.subset_univ _)) $$ Hc; iintro Hc
  iapply (wp_load 𝒱₀ (me d i) none Set.univ (m := rowM) (S := Finset.univ) (Finset.subset_univ _)) $$ Hr; iintro Hr
  iapply (wp_load 𝒱₀ (me d i) none Set.univ (m := colM) (S := Finset.univ) (Finset.subset_univ _)) $$ Hc; iintro Hc
  iapply (wp_load 𝒱₀ (me d i) none Set.univ (m := flgM) (S := Finset.univ) (Finset.subset_univ _)) $$ Hf; iintro Hf
  iapply (wp_store 𝒱₀ (me d i) none Set.univ (m := flgM) (r := Rect.unit (s := S96) (k1_off38 t) S1.size (k1_off38_inb t)) (S := Finset.univ) (Finset.subset_univ _)) $$ Hf; iintro Hf
  rw [wp_ret]
  imodintro
  isplitl [Hr]; · iexact Hr
  isplitl [Hc]; · iexact Hc
  iexists _; iexact Hf

end Cert.KernelIdeal.Tile
-- ==== Proof.CopiesIdeal.lean ====
module

public import proofs.«01_k».proof.Proof.FillIdeal
public import Idealize.ShloMosaic.Lib.ValueLayout

@[expose] public section

noncomputable section

namespace Cert.KernelIdeal.Tile

open Cert.KernelIdeal Cert.KernelIdeal.Gen Cert.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "mwM" => (Memref.whole Cert.KernelIdeal.main_v0_0_scv : Memref Cert.KernelIdeal.sig Kind.scVector Space.hbm Cert.KernelIdeal.S2x64x96x128 EltTy.f32)
local notation "ipM" => (Memref.whole Cert.KernelIdeal.main_v23_scv : Memref Cert.KernelIdeal.sig Kind.scVector Space.hbm Cert.KernelIdeal.S2x2x96x128 EltTy.i32)
local notation "sbM" => (Memref.whole Cert.KernelIdeal.main_v20_scv : Memref Cert.KernelIdeal.sig Kind.scVector Space.hbm Cert.KernelIdeal.S128 EltTy.f32)
local notation "outM" => (Memref.whole Cert.KernelIdeal.main_v24_scv : Memref Cert.KernelIdeal.sig Kind.scVector Space.hbm Cert.KernelIdeal.S2x64x496x432 EltTy.f32)
local notation "rowM" => (Memref.whole Cert.KernelIdeal.cc1_scratch0 : Memref Cert.KernelIdeal.sig Kind.scVector Space.vmem Cert.KernelIdeal.S96x128 EltTy.i32)
local notation "colM" => (Memref.whole Cert.KernelIdeal.cc1_scratch1 : Memref Cert.KernelIdeal.sig Kind.scVector Space.vmem Cert.KernelIdeal.S96x128 EltTy.i32)
local notation "canM" => (Memref.whole Cert.KernelIdeal.cc1_scratch2 : Memref Cert.KernelIdeal.sig Kind.scVector Space.vmem Cert.KernelIdeal.S144x432 EltTy.f32)
local notation "valM" => (Memref.whole Cert.KernelIdeal.cc1_scratch3 : Memref Cert.KernelIdeal.sig Kind.scVector Space.vmem Cert.KernelIdeal.S96x128 EltTy.f32)
local notation "tabM" => (Memref.whole Cert.KernelIdeal.cc1_scratch4 : Memref Cert.KernelIdeal.sig Kind.scVector Space.vmem Cert.KernelIdeal.S128 EltTy.f32)
local notation "flgM" => (Memref.whole Cert.KernelIdeal.cc1_scratch5 : Memref Cert.KernelIdeal.sig Kind.scVector Space.smem Cert.KernelIdeal.S96 EltTy.i32)

local notation "ARGS" x => x mwM (Memref.isWhole_whole _) ipM (Memref.isWhole_whole _) sbM (Memref.isWhole_whole _) outM (Memref.isWhole_whole _) rowM (Memref.isWhole_whole _) colM (Memref.isWhole_whole _) canM (Memref.isWhole_whole _) valM (Memref.isWhole_whole _) tabM (Memref.isWhole_whole _) flgM (Memref.isWhole_whole _) cc1_scoped0 cc1_scoped1 cc1_scoped2 cc1_scoped3 cc1_scoped4 cc1_scoped5

local notation "𝕄" => MT nD τ sig (HIx 1) (Elt F) ℕ UU ℕ

variable [FloatOps F] (d : Dev nD) (i : grid1.Coords)

/-! ## The copies in and out -/

abbrev rowSrc (i : grid1.Coords) : Memref sig .scVector .hbm S96x128 .i32 :=
  ((ipM).slice (Rect.unit (s := S2x2x96x128) (k1_off1 i) S1x1x96x128.size (k1_off1_inb i)) (fun _ => rfl)).squeeze S96x128 squeezes_S1x1x96x128_S96x128
abbrev colSrc (i : grid1.Coords) : Memref sig .scVector .hbm S96x128 .i32 :=
  ((ipM).slice (Rect.unit (s := S2x2x96x128) (k1_off2 i) S1x1x96x128.size (k1_off2_inb i)) (fun _ => rfl)).squeeze S96x128 squeezes_S1x1x96x128_S96x128
abbrev tabSrc : Memref sig .scVector .hbm S128 .f32 := (sbM).slice (Rect.unit (s := S128) ![0] S128.size inb_S128_S128_0) (fun _ => rfl)
abbrev valSrc (i : grid1.Coords) (t3 : Fin k1_t3_loop.trips) : Memref sig .scVector .hbm S96x128 .f32 :=
  ((mwM).slice (Rect.unit (s := S2x64x96x128) (k1_off39 i t3) S1x1x96x128.size (k1_off39_inb i t3)) (fun _ => rfl)).squeeze S96x128 squeezes_S1x1x96x128_S96x128
abbrev segSrc : Memref sig .scVector .vmem S144x432 .f32 := (canM).slice (Rect.unit (s := S144x432) ![0, 0] S144x432.size inb_S144x432_S144x432_0_0) (fun _ => rfl)
abbrev segDst (i : grid1.Coords) (t3 : Fin k1_t3_loop.trips) (t5 : Fin k1_t5_loop.trips) : Memref sig .scVector .hbm S144x432 .f32 :=
  ((outM).slice (Rect.unit (s := S2x64x496x432) (k1_off59 i t3 t5) S1x1x144x432.size (k1_off59_inb i t3 t5)) (fun _ => rfl)).squeeze S144x432 squeezes_S1x1x144x432_S144x432
abbrev padSrc : Memref sig .scVector .vmem S64x432 .f32 := (canM).slice (Rect.unit (s := S144x432) ![0, 0] S64x432.size inb_S144x432_S64x432_0_0) (fun _ => rfl)
abbrev padDst (i : grid1.Coords) (t3 : Fin k1_t3_loop.trips) : Memref sig .scVector .hbm S64x432 .f32 :=
  ((outM).slice (Rect.unit (s := S2x64x496x432) (k1_off69 i t3) S1x1x64x432.size (k1_off69_inb i t3)) (fun _ => rfl)).squeeze S64x432 squeezes_S1x1x64x432_S64x432

/-- What was written through the whole of a view, on the view's own elements. -/
theorem whole_writes {sh : Shape} (v : Memref sig .scVector .hbm sh .f32) (g h : v.view.ty.Contents (Elt F)) (w : (Rect.whole sh).shape.Idx → Elt F .f32)
    (hw : ∀ x : sh.Idx, h (v.view.emb x) = cast (congrArg (Elt F) v.view.elt_eq.symm) (w x)) :
    (v.view.loc (me d i) ↦[v.view.set]{fullShare} v.view.writes (Elt F) g [⟨Rect.whole sh, w⟩] : sProp 𝕄) = v.view.loc (me d i) ↦[v.view.set]{fullShare} h := by
  refine pointsTo_congr fun p hp => ?_
  obtain ⟨x, -, rfl⟩ := Finset.mem_map.mp hp
  rw [hw x, View.writes_singleton]
  have he : (v.view.slice (Rect.whole sh)).emb x = v.view.emb x := congrArg v.view.emb (Rect.emb_whole_apply sh x)
  rw [← he]
  exact View.write_emb_of_mem (v := v.view.slice (Rect.whole sh)) g w (Finset.mem_univ x)

abbrev semP (g : DmaSems sig S_) : sProp 𝕄 := semVal ((me d i, .dma g.sem) : GSem nD τ sig) 0
abbrev lev : sProp 𝕄 := levAts (K (F := F)).L (K (F := F)).lev
abbrev owed (O : CellTallies nD τ sig (HIx 1)) : sProp 𝕄 := iprop(∃ W : Waits sig (HIx 1), owes (me d i) O W)

variable (O : CellTallies nD τ sig (HIx 1)) (hO : ∀ g, O g none = 0)

def rowCopy : PT F i PUnit := do
  Prog.lift (.enqueueDma (rowSrc i) (.here rowM) (.dma cc1_scoped0.sem) ((View.wordExact_bits rfl).reshape _ _) (Memref.isWhole_whole cc1_scratch0).wordExact ⟨Or.inl rfl, trivial⟩)
  Prog.lift (.waitDma2 cc1_scoped0.sem (rowSrc i) rowM ((View.wordExact_bits rfl).reshape _ _) (Memref.isWhole_whole cc1_scratch0).wordExact)

include hO in
theorem wp_rowCopy (q : PosShare TreeShare) (f : S2x2x96x128.Idx → BitVec 32) (g : Tab.Idx → BitVec 32) :
    iprop(lev (F := F) ∗ ((ipM).view.loc (me d i) ↦{q} f) ∗ rowP (F := F) d i g ∗ semP d i cc1_scoped0 ∗ owed d i O)
      ⊢ run d i (rowCopy i) (fun _ => iprop(((ipM).view.loc (me d i) ↦{q} f) ∗ rowP (F := F) d i (fun p => f ((rowSrc i).view.emb p)) ∗ semP d i cc1_scoped0 ∗ owed d i O)) := by
  unfold run
  iintro ⟨#Hlv, Hs, Hd, Hsem, %W, HO⟩
  ihave Hmw := (show levAts (K (F := F)).L (K (F := F)).lev ⊢ Transfers.MayWaits (me d i) (default : HIx 1) O from
    (K (F := F)).mayWaits_none (thr := me d i) hO) $$ Hlv
  sl_unfold [rowCopy]
  sl_exec (disch := exact View.amount_pos _ _ (show 0 < S96x128.numel by decide))
  sl_step
  isplitl [Hs]; · iexact Hs
  isplitl [Hd]
  · iapply (Entails.of_eq (congrArg (rowP (F := F) d i) (View.write_whole_univ (Val := Elt F) (cc1_scratch0 : Ref sig .scVector) g _)))
    iexact Hd
  isplitl [Hsem]; · iexact Hsem
  iexists _; iexact HO

def colCopy : PT F i PUnit := do
  Prog.lift (.enqueueDma (colSrc i) (.here colM) (.dma cc1_scoped1.sem) ((View.wordExact_bits rfl).reshape _ _) (Memref.isWhole_whole cc1_scratch1).wordExact ⟨Or.inl rfl, trivial⟩)
  Prog.lift (.waitDma2 cc1_scoped1.sem (colSrc i) colM ((View.wordExact_bits rfl).reshape _ _) (Memref.isWhole_whole cc1_scratch1).wordExact)

include hO in
theorem wp_colCopy (q : PosShare TreeShare) (f : S2x2x96x128.Idx → BitVec 32) (g : Tab.Idx → BitVec 32) :
    iprop(lev (F := F) ∗ ((ipM).view.loc (me d i) ↦{q} f) ∗ colP (F := F) d i g ∗ semP d i cc1_scoped1 ∗ owed d i O)
      ⊢ run d i (colCopy i) (fun _ => iprop(((ipM).view.loc (me d i) ↦{q} f) ∗ colP (F := F) d i (fun p => f ((colSrc i).view.emb p)) ∗ semP d i cc1_scoped1 ∗ owed d i O)) := by
  unfold run
  iintro ⟨#Hlv, Hs, Hd, Hsem, %W, HO⟩
  ihave Hmw := (show levAts (K (F := F)).L (K (F := F)).lev ⊢ Transfers.MayWaits (me d i) (default : HIx 1) O from
    (K (F := F)).mayWaits_none (thr := me d i) hO) $$ Hlv
  sl_unfold [colCopy]
  sl_exec (disch := exact View.amount_pos _ _ (show 0 < S96x128.numel by decide))
  sl_step
  isplitl [Hs]; · iexact Hs
  isplitl [Hd]
  · iapply (Entails.of_eq (congrArg (colP (F := F) d i) (View.write_whole_univ (Val := Elt F) (cc1_scratch1 : Ref sig .scVector) g _)))
    iexact Hd
  isplitl [Hsem]; · iexact Hsem
  iexists _; iexact HO

def tabCopy : PT F i PUnit := do
  Prog.lift (.enqueueDma (tabSrc) (.here tabM) (.dma cc1_scoped2.sem) (View.wordExact_bits rfl) (Memref.isWhole_whole cc1_scratch4).wordExact ⟨Or.inl rfl, trivial⟩)
  Prog.lift (.waitDma2 cc1_scoped2.sem (tabSrc) tabM (View.wordExact_bits rfl) (Memref.isWhole_whole cc1_scratch4).wordExact)

include hO in
theorem wp_tabCopy (q : PosShare TreeShare) (f : S128.Idx → F .f32) (g : S128.Idx → F .f32) :
    iprop(lev (F := F) ∗ ((sbM).view.loc (me d i) ↦{q} f) ∗ tabP d i g ∗ semP d i cc1_scoped2 ∗ owed d i O)
      ⊢ run d i (tabCopy i) (fun _ => iprop(((sbM).view.loc (me d i) ↦{q} f) ∗ tabP d i (fun p => f ((tabSrc).view.emb p)) ∗ semP d i cc1_scoped2 ∗ owed d i O)) := by
  unfold run
  iintro ⟨#Hlv, Hs, Hd, Hsem, %W, HO⟩
  ihave Hmw := (show levAts (K (F := F)).L (K (F := F)).lev ⊢ Transfers.MayWaits (me d i) (default : HIx 1) O from
    (K (F := F)).mayWaits_none (thr := me d i) hO) $$ Hlv
  sl_unfold [tabCopy]
  sl_exec (disch := exact View.amount_pos _ _ (show 0 < S128.numel by decide))
  sl_step
  isplitl [Hs]; · iexact Hs
  isplitl [Hd]
  · iapply (Entails.of_eq (congrArg (tabP d i) (View.write_whole_univ (Val := Elt F) (cc1_scratch4 : Ref sig .scVector) g _)))
    iexact Hd
  isplitl [Hsem]; · iexact Hsem
  iexists _; iexact HO

def valCopy (t3 : Fin k1_t3_loop.trips) : PT F i PUnit := do
  Prog.lift (.enqueueDma (valSrc i t3) (.here valM) (.dma cc1_scoped3.sem) ((View.wordExact_bits rfl).reshape _ _) (Memref.isWhole_whole cc1_scratch3).wordExact ⟨Or.inl rfl, trivial⟩)
  Prog.lift (.waitDma2 cc1_scoped3.sem (valSrc i t3) valM ((View.wordExact_bits rfl).reshape _ _) (Memref.isWhole_whole cc1_scratch3).wordExact)

include hO in
theorem wp_valCopy (t3 : Fin k1_t3_loop.trips) (q : PosShare TreeShare) (f : S2x64x96x128.Idx → F .f32) (g : Tab.Idx → F .f32) :
    iprop(lev (F := F) ∗ ((mwM).view.loc (me d i) ↦{q} f) ∗ valP d i g ∗ semP d i cc1_scoped3 ∗ owed d i O)
      ⊢ run d i (valCopy i t3) (fun _ => iprop(((mwM).view.loc (me d i) ↦{q} f) ∗ valP d i (fun p => f ((valSrc i t3).view.emb p)) ∗ semP d i cc1_scoped3 ∗ owed d i O)) := by
  unfold run
  iintro ⟨#Hlv, Hs, Hd, Hsem, %W, HO⟩
  ihave Hmw := (show levAts (K (F := F)).L (K (F := F)).lev ⊢ Transfers.MayWaits (me d i) (default : HIx 1) O from
    (K (F := F)).mayWaits_none (thr := me d i) hO) $$ Hlv
  sl_unfold [valCopy]
  sl_exec (disch := exact View.amount_pos _ _ (show 0 < S96x128.numel by decide))
  sl_step
  isplitl [Hs]; · iexact Hs
  isplitl [Hd]
  · iapply (Entails.of_eq (congrArg (valP d i) (View.write_whole_univ (Val := Elt F) (cc1_scratch3 : Ref sig .scVector) g _)))
    iexact Hd
  isplitl [Hsem]; · iexact Hsem
  iexists _; iexact HO

def segCopy (t3 : Fin k1_t3_loop.trips) (t5 : Fin k1_t5_loop.trips) : PT F i PUnit := do
  Prog.lift (.enqueueDma segSrc (.here (segDst i t3 t5)) (.dma cc1_scoped4.sem) (View.wordExact_bits rfl) ((View.wordExact_bits rfl).reshape _ _) ⟨Or.inl rfl, trivial⟩)
  Prog.lift (.waitDma2 cc1_scoped4.sem segSrc (segDst i t3 t5) (View.wordExact_bits rfl) ((View.wordExact_bits rfl).reshape _ _))

include hO in
theorem wp_segCopy (t3 : Fin k1_t3_loop.trips) (t5 : Fin k1_t5_loop.trips) (c : Can.Idx → F .f32) (g h : S2x64x496x432.Idx → F .f32) (hh : ∀ x, h ((segDst i t3 t5).view.emb x) = c ((segSrc).view.emb x)) :
    iprop(lev (F := F) ∗ canP d i c ∗ ((segDst i t3 t5).view.loc (me d i) ↦[(segDst i t3 t5).view.set]{fullShare} g) ∗ semP d i cc1_scoped4 ∗ owed d i O)
      ⊢ run d i (segCopy i t3 t5) (fun _ => iprop(canP d i c ∗ ((segDst i t3 t5).view.loc (me d i) ↦[(segDst i t3 t5).view.set]{fullShare} h) ∗ semP d i cc1_scoped4 ∗ owed d i O)) := by
  unfold run
  iintro ⟨#Hlv, Hs, Hd, Hsem, %W, HO⟩
  ihave Hmw := (show levAts (K (F := F)).L (K (F := F)).lev ⊢ Transfers.MayWaits (me d i) (default : HIx 1) O from
    (K (F := F)).mayWaits_none (thr := me d i) hO) $$ Hlv
  sl_unfold [segCopy]
  sl_exec (disch := exact View.amount_pos _ _ (show 0 < S144x432.numel by decide))
  sl_step
  isplitl [Hs]; · iexact Hs
  isplitl [Hd]
  · iapply (Entails.of_eq (whole_writes d i (segDst i t3 t5) g h _ (fun x => (hh x).trans rfl)))
    iexact Hd
  isplitl [Hsem]; · iexact Hsem
  iexists _; iexact HO

def padCopy (t3 : Fin k1_t3_loop.trips) : PT F i PUnit := do
  Prog.lift (.enqueueDma padSrc (.here (padDst i t3)) (.dma cc1_scoped5.sem) (View.wordExact_bits rfl) ((View.wordExact_bits rfl).reshape _ _) ⟨Or.inl rfl, trivial⟩)
  Prog.lift (.waitDma2 cc1_scoped5.sem padSrc (padDst i t3) (View.wordExact_bits rfl) ((View.wordExact_bits rfl).reshape _ _))

include hO in
theorem wp_padCopy (t3 : Fin k1_t3_loop.trips) (c : Can.Idx → F .f32) (g h : S2x64x496x432.Idx → F .f32) (hh : ∀ x, h ((padDst i t3).view.emb x) = c ((padSrc).view.emb x)) :
    iprop(lev (F := F) ∗ canP d i c ∗ ((padDst i t3).view.loc (me d i) ↦[(padDst i t3).view.set]{fullShare} g) ∗ semP d i cc1_scoped5 ∗ owed d i O)
      ⊢ run d i (padCopy i t3) (fun _ => iprop(canP d i c ∗ ((padDst i t3).view.loc (me d i) ↦[(padDst i t3).view.set]{fullShare} h) ∗ semP d i cc1_scoped5 ∗ owed d i O)) := by
  unfold run
  iintro ⟨#Hlv, Hs, Hd, Hsem, %W, HO⟩
  ihave Hmw := (show levAts (K (F := F)).L (K (F := F)).lev ⊢ Transfers.MayWaits (me d i) (default : HIx 1) O from
    (K (F := F)).mayWaits_none (thr := me d i) hO) $$ Hlv
  sl_unfold [padCopy]
  sl_exec (disch := exact View.amount_pos _ _ (show 0 < S64x432.numel by decide))
  sl_step
  isplitl [Hs]; · iexact Hs
  isplitl [Hd]
  · iapply (Entails.of_eq (whole_writes d i (padDst i t3) g h _ (fun x => (hh x).trans rfl)))
    iexact Hd
  isplitl [Hsem]; · iexact Hsem
  iexists _; iexact HO

/-! ## Where the copies' elements lie -/

/-- A slice of one plane, seen without its two unit axes. -/
theorem plane_emb {n0 n1 n2 n3 a b : ℕ} (off : Fin 4 → ℕ) (inb : ∀ k, off k + (![1, 1, a, b] : Fin 4 → ℕ) k ≤ (![n0, n1, n2, n3] : Fin 4 → ℕ) k)
    (h : (⟨2, ![a, b]⟩ : Shape).numel = (⟨4, ![1, 1, a, b]⟩ : Shape).numel) (x : (⟨2, ![a, b]⟩ : Shape).Idx) (y : (⟨4, ![n0, n1, n2, n3]⟩ : Shape).Idx)
    (hy : (y 0).val = off 0 ∧ (y 1).val = off 1 ∧ (y 2).val = off 2 + (x 0).val ∧ (y 3).val = off 3 + (x 1).val) :
    (Rect.unit (s := ⟨4, ![n0, n1, n2, n3]⟩) off ![1, 1, a, b] inb).emb (Shape.reshapeEquiv h x) = y := by
  have hr : Shape.reshapeEquiv h x = ix4 (n0 := 1) (n1 := 1) (n2 := a) (n3 := b) ⟨0, Nat.one_pos⟩ ⟨0, Nat.one_pos⟩ (x 0) (x 1) := by
    conv_lhs => rw [eq_ix2 x]
    exact reshapeEquiv_ix2_11ab h (x 0) (x 1)
  refine (congrArg _ hr).trans ?_
  funext k
  apply Fin.ext
  obtain ⟨h0, h1, h2, h3⟩ := hy
  match k with
  | ⟨0, _⟩ => show off 0 + 1 * 0 = (y 0).val; omega
  | ⟨1, _⟩ => show off 1 + 1 * 0 = (y 1).val; omega
  | ⟨2, _⟩ => show off 2 + 1 * (x 0).val = (y 2).val; omega
  | ⟨3, _⟩ => show off 3 + 1 * (x 1).val = (y 3).val; omega

/-- The channel of trip `t3` of tile `i`. -/
def chan (i : grid1.Coords) (t3 : Fin k1_t3_loop.trips) : Fin 64 :=
  ⟨4 * (i 1).val + t3.val, by have : (i 1).val < 16 := (i 1).isLt; have : t3.val < 4 := t3.isLt; omega⟩
/-- The batch of tile `i`. -/
def batch (i : grid1.Coords) : Fin 2 := i 0

theorem rowSrc_emb (p : Tab.Idx) : (rowSrc i).view.emb p = ix4 (batch i) (0 : Fin 2) (p 0) (p 1) :=
  plane_emb _ _ _ p _ (by rw [k1_off1_eq]; exact ⟨rfl, rfl, (Nat.zero_add _).symm, (Nat.zero_add _).symm⟩)
theorem colSrc_emb (p : Tab.Idx) : (colSrc i).view.emb p = ix4 (batch i) (1 : Fin 2) (p 0) (p 1) :=
  plane_emb _ _ _ p _ (by rw [k1_off2_eq]; exact ⟨rfl, rfl, (Nat.zero_add _).symm, (Nat.zero_add _).symm⟩)
theorem valSrc_emb (t3 : Fin k1_t3_loop.trips) (p : Tab.Idx) : (valSrc i t3).view.emb p = ix4 (batch i) (chan i t3) (p 0) (p 1) :=
  plane_emb _ _ _ p _ (by rw [k1_off39_eq]; exact ⟨rfl, rfl, (Nat.zero_add _).symm, (Nat.zero_add _).symm⟩)
theorem tabSrc_emb (p : S128.Idx) : (tabSrc).view.emb p = p :=
  funext fun | ⟨0, _⟩ => Fin.ext (show 0 + 1 * (p 0).val = (p 0).val by omega)
theorem segSrc_emb (p : Can.Idx) : (segSrc).view.emb p = p :=
  funext fun | ⟨0, _⟩ => Fin.ext (show 0 + 1 * (p 0).val = (p 0).val by omega) | ⟨1, _⟩ => Fin.ext (show 0 + 1 * (p 1).val = (p 1).val by omega)
theorem segDst_emb (t3 : Fin k1_t3_loop.trips) (t5 : Fin k1_t5_loop.trips) (p : Can.Idx) (h : 144 * t5.val + (p 0).val < 496) :
    (segDst i t3 t5).view.emb p = ix4 (batch i) (chan i t3) ⟨144 * t5.val + (p 0).val, h⟩ (p 1) :=
  plane_emb _ _ _ p _ (by rw [k1_off59_eq]; exact ⟨rfl, rfl, rfl, (Nat.zero_add _).symm⟩)
theorem padDst_emb (t3 : Fin k1_t3_loop.trips) (p : S64x432.Idx) (h : 432 + (p 0).val < 496) :
    (padDst i t3).view.emb p = ix4 (batch i) (chan i t3) ⟨432 + (p 0).val, h⟩ (p 1) :=
  plane_emb _ _ _ p _ (by rw [k1_off69_eq]; exact ⟨rfl, rfl, rfl, (Nat.zero_add _).symm⟩)

end Cert.KernelIdeal.Tile

end
-- ==== Proof.BodyIdeal.lean ====
module

public import proofs.«01_k».proof.Proof.CopiesIdeal

@[expose] public section

noncomputable section

namespace Cert.KernelIdeal.Tile

open Cert.KernelIdeal Cert.KernelIdeal.Gen Cert.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "mwM" => (Memref.whole Cert.KernelIdeal.main_v0_0_scv : Memref Cert.KernelIdeal.sig Kind.scVector Space.hbm Cert.KernelIdeal.S2x64x96x128 EltTy.f32)
local notation "ipM" => (Memref.whole Cert.KernelIdeal.main_v23_scv : Memref Cert.KernelIdeal.sig Kind.scVector Space.hbm Cert.KernelIdeal.S2x2x96x128 EltTy.i32)
local notation "sbM" => (Memref.whole Cert.KernelIdeal.main_v20_scv : Memref Cert.KernelIdeal.sig Kind.scVector Space.hbm Cert.KernelIdeal.S128 EltTy.f32)
local notation "outM" => (Memref.whole Cert.KernelIdeal.main_v24_scv : Memref Cert.KernelIdeal.sig Kind.scVector Space.hbm Cert.KernelIdeal.S2x64x496x432 EltTy.f32)
local notation "rowM" => (Memref.whole Cert.KernelIdeal.cc1_scratch0 : Memref Cert.KernelIdeal.sig Kind.scVector Space.vmem Cert.KernelIdeal.S96x128 EltTy.i32)
local notation "colM" => (Memref.whole Cert.KernelIdeal.cc1_scratch1 : Memref Cert.KernelIdeal.sig Kind.scVector Space.vmem Cert.KernelIdeal.S96x128 EltTy.i32)
local notation "canM" => (Memref.whole Cert.KernelIdeal.cc1_scratch2 : Memref Cert.KernelIdeal.sig Kind.scVector Space.vmem Cert.KernelIdeal.S144x432 EltTy.f32)
local notation "valM" => (Memref.whole Cert.KernelIdeal.cc1_scratch3 : Memref Cert.KernelIdeal.sig Kind.scVector Space.vmem Cert.KernelIdeal.S96x128 EltTy.f32)
local notation "tabM" => (Memref.whole Cert.KernelIdeal.cc1_scratch4 : Memref Cert.KernelIdeal.sig Kind.scVector Space.vmem Cert.KernelIdeal.S128 EltTy.f32)
local notation "flgM" => (Memref.whole Cert.KernelIdeal.cc1_scratch5 : Memref Cert.KernelIdeal.sig Kind.scVector Space.smem Cert.KernelIdeal.S96 EltTy.i32)

local notation "ARGS" x => x mwM (Memref.isWhole_whole _) ipM (Memref.isWhole_whole _) sbM (Memref.isWhole_whole _) outM (Memref.isWhole_whole _) rowM (Memref.isWhole_whole _) colM (Memref.isWhole_whole _) canM (Memref.isWhole_whole _) valM (Memref.isWhole_whole _) tabM (Memref.isWhole_whole _) flgM (Memref.isWhole_whole _) cc1_scoped0 cc1_scoped1 cc1_scoped2 cc1_scoped3 cc1_scoped4 cc1_scoped5

local notation "𝕄" => MT nD τ sig (HIx 1) (Elt F) ℕ UU ℕ

variable [FloatOps F] {d : Dev nD} {i : grid1.Coords}

/-! ## Loops over pieces -/

/-- A loop each of whose trips turns one piece of a family from `Φ` to `Ψ`, keeping `I`. -/
theorem run_for_pieces (l : Scf.Loop 32) (hok : l.OK) (body : Fin l.trips → Unit → PT F i Unit) (I : sProp 𝕄) (Φ Ψ : Fin l.trips → sProp 𝕄)
    (step : ∀ t, iprop(I ∗ Φ t) ⊢ run d i (body t ⟨⟩) (fun _ => iprop(I ∗ Ψ t))) :
    iprop(I ∗ bigSep Finset.univ Φ) ⊢ run d i (Scf.Loop.for l hok ⟨⟩ body) (fun _ => iprop(I ∗ bigSep Finset.univ Ψ)) := by
  have key := run_for (d := d) l hok body (fun n => iprop(I ∗ bigSep Finset.univ fun t => if t.val < n then Ψ t else Φ t)) rfl fun t => by
    rw [SparseCore.bigSep_erase' (Finset.mem_univ t), SparseCore.bigSep_erase' (Φ := fun s => if s.val < t.val + 1 then Ψ s else Φ s) (Finset.mem_univ t)]
    rw [if_neg (lt_irrefl _), if_pos (Nat.lt_succ_self _)]
    have e : bigSep (Finset.univ.erase t) (fun s => if s.val < t.val + 1 then Ψ s else Φ s) = bigSep (Finset.univ.erase t) (fun s => if s.val < t.val then Ψ s else Φ s) :=
      bigSep_congr fun s hs => by
        have hne : s.val ≠ t.val := fun h => (Finset.ne_of_mem_erase hs) (Fin.ext h)
        by_cases h : s.val < t.val
        · rw [if_pos h, if_pos (by omega)]
        · rw [if_neg h, if_neg (by omega)]
    rw [e]
    have h := run_frame (C := bigSep (Finset.univ.erase t) (fun s => if s.val < t.val then Ψ s else Φ s)) (step t)
    refine (show _ ⊢ _ from ?_).trans (run_post h fun _ => ?_)
    · iintro ⟨HI, HP, HR⟩
      isplitr [HR]; · isplitl [HI] <;> iassumption
      iexact HR
    · iintro ⟨⟨HI, HP⟩, HR⟩
      isplitl [HI]; · iexact HI
      isplitl [HP]; · iexact HP
      iexact HR
  have e0 : bigSep Finset.univ (fun t : Fin l.trips => if t.val < 0 then Ψ t else Φ t) = bigSep Finset.univ Φ :=
    bigSep_congr fun t _ => if_neg (Nat.not_lt_zero _)
  have e1 : bigSep Finset.univ (fun t : Fin l.trips => if t.val < l.trips then Ψ t else Φ t) = bigSep Finset.univ Ψ :=
    bigSep_congr fun t _ => if_pos t.isLt
  rw [e0, e1] at key
  exact key

/-! ## One segment -/

section
variable {row col : Tab.Idx → BitVec 32} {val : Tab.Idx → F .f32} (hrow : ∀ p, (row p).toNat < 432) (hcol : ∀ p, (col p).toNat < 432)
  (O : CellTallies nD τ sig (HIx 1)) (hO : ∀ g, O g none = 0)

theorem t5_eq (i : grid1.Coords) (a1 : BitVec 32) (v2 : FVec F S16 .f32) (t3 : Fin k1_t3_loop.trips) (t5 : Fin k1_t5_loop.trips) (u : Unit) :
    (ARGS k1_t5_body (F := F) i) a1 v2 0#32 1#32 t3 t5 u
      = (do
        Scf.Loop.for k1_t6_loop k1_t6_ok ⟨⟩ ((ARGS k1_t6_body (F := F) i) a1 v2 0#32 1#32 t3 t5 (r0At t5))
        Scf.Loop.for k1_t10_loop k1_t10_ok ⟨⟩ ((ARGS k1_t10_body (F := F) i) a1 v2 0#32 1#32 t3 (r0At t5))
        segCopy i t3 t5
        Scf.Loop.for k1_t13_loop k1_t13_ok ⟨⟩ ((ARGS k1_t13_body (F := F) i) a1 v2 0#32 1#32 t3 t5 (r0At t5))
        Scf.Loop.for k1_t14_loop k1_t14_ok ⟨⟩ ((ARGS k1_t14_body (F := F) i) a1 v2 0#32 1#32 t3 t5)
        pure ⟨⟩) := rfl

/-- What a trip over the segments keeps: the tables, an empty canvas, the flags, the semaphore of its copy. -/
abbrev SegI (d : Dev nD) (i : grid1.Coords) (row col : Tab.Idx → BitVec 32) (val : Tab.Idx → F .f32) (O : CellTallies nD τ sig (HIx 1)) : sProp 𝕄 :=
  iprop(lev (F := F) ∗ St d i row col val (fun _ => zero) ∗ (∃ f, flgP (F := F) d i f) ∗ semP (F := F) d i cc1_scoped4 ∗ owed (F := F) d i O)
/-- A segment's rows of the result. -/
abbrev segP (d : Dev nD) (i : grid1.Coords) (t3 : Fin k1_t3_loop.trips) (t5 : Fin k1_t5_loop.trips) (f : S2x64x496x432.Idx → F .f32) : sProp 𝕄 :=
  (segDst i t3 t5).view.loc (me d i) ↦[(segDst i t3 t5).view.set]{fullShare} f
/-- The rows of the result past the last segment. -/
abbrev padP (d : Dev nD) (i : grid1.Coords) (t3 : Fin k1_t3_loop.trips) (f : S2x64x496x432.Idx → F .f32) : sProp 𝕄 :=
  (padDst i t3).view.loc (me d i) ↦[(padDst i t3).view.set]{fullShare} f

include hrow hcol hO in
theorem wp_t5 (a1 : BitVec 32) (v2 : FVec F S16 .f32) (hz : v2 = broadcast Lane zero) (t3 : Fin k1_t3_loop.trips) (g h : S2x64x496x432.Idx → F .f32)
    (t5 : Fin k1_t5_loop.trips) (hh : ∀ x, h ((segDst i t3 t5).view.emb x) = total (144 * t5.val) row col val 750 x) (u : Unit) :
    iprop(SegI d i row col val O ∗ segP d i t3 t5 g)
      ⊢ run d i ((ARGS k1_t5_body (F := F) i) a1 v2 0#32 1#32 t3 t5 u) (fun _ => iprop(SegI d i row col val O ∗ segP d i t3 t5 h)) := by
  rw [t5_eq]
  have h6 := run_for (d := d) k1_t6_loop k1_t6_ok ((ARGS k1_t6_body (F := F) i) a1 v2 0#32 1#32 t3 t5 (r0At t5))
    (fun n => iprop(St d i row col val (total (144 * t5.val) row col val (8 * n)) ∗ ∃ f, flgP (F := F) d i f)) (N := 93) rfl
    (fun t => wp_t6 hrow hcol t5 a1 v2 t3 t ⟨⟩)
  have h10 := run_for (d := d) k1_t10_loop k1_t10_ok ((ARGS k1_t10_body (F := F) i) a1 v2 0#32 1#32 t3 (r0At t5))
    (fun n => St d i row col val (total (144 * t5.val) row col val (744 + n))) (N := 6) rfl (fun t => wp_t10 hrow hcol t5 a1 v2 t3 t ⟨⟩)
  have h13 := run_for (d := d) k1_t13_loop k1_t13_ok ((ARGS k1_t13_body (F := F) i) a1 v2 0#32 1#32 t3 t5 (r0At t5))
    (fun n => St d i row col val (cleared (144 * t5.val) row col val 750 (8 * n))) (N := 93) rfl (fun t => wp_t13 hrow hcol t5 a1 v2 t3 hz 750 t ⟨⟩)
  have h14 := run_for (d := d) k1_t14_loop k1_t14_ok ((ARGS k1_t14_body (F := F) i) a1 v2 0#32 1#32 t3 t5)
    (fun n => St d i row col val (cleared (144 * t5.val) row col val 750 (744 + n))) (N := 6) rfl (fun t => wp_t14 hrow hcol t5 a1 v2 t3 hz 750 t ⟨⟩)
  have hc := wp_segCopy d i O hO t3 t5 (total (144 * t5.val) row col val 750) g h (fun x => (hh x).trans (congrArg _ (segSrc_emb x).symm))
  simp only [Nat.mul_zero, Nat.add_zero, total_zero, cleared_zero, Nat.reduceMul, Nat.reduceAdd] at h6 h10 h13 h14
  rw [cleared_top] at h14
  refine (show _ ⊢ iprop((St d i row col val (fun _ => zero) ∗ ∃ f, flgP (F := F) d i f) ∗ (lev (F := F) ∗ semP (F := F) d i cc1_scoped4 ∗ owed (F := F) d i O ∗ segP d i t3 t5 g)) from ?_).trans ?_
  · iintro ⟨⟨Hl, HS, Hf, Hs, HO⟩, Hp⟩
    isplitl [HS Hf]; · isplitl [HS] <;> iassumption
    isplitl [Hl]; · iexact Hl
    isplitl [Hs]; · iexact Hs
    isplitl [HO]; · iexact HO
    iexact Hp
  refine run_seq (run_frame h6) fun _ => ?_
  refine (show _ ⊢ iprop(St d i row col val (total (144 * t5.val) row col val 744) ∗ ((∃ f, flgP (F := F) d i f) ∗ (lev (F := F) ∗ semP (F := F) d i cc1_scoped4 ∗ owed (F := F) d i O ∗ segP d i t3 t5 g))) from sep_assoc.1).trans ?_
  refine run_seq (run_frame h10) fun _ => ?_
  refine (show _ ⊢ iprop((lev (F := F) ∗ canP d i (total (144 * t5.val) row col val 750) ∗ segP d i t3 t5 g ∗ semP (F := F) d i cc1_scoped4 ∗ owed (F := F) d i O)
      ∗ ((∃ f, flgP (F := F) d i f) ∗ lev (F := F) ∗ rowP (F := F) d i row ∗ colP (F := F) d i col ∗ valP d i val)) from ?_).trans ?_
  · iintro ⟨⟨Hr, Hc, Hv, Hk⟩, Hf, #Hl, Hs, HO, Hp⟩
    isplitl [Hk Hp Hs HO]
    · isplitr; · iexact Hl
      isplitl [Hk]; · iexact Hk
      isplitl [Hp]; · iexact Hp
      isplitl [Hs]; · iexact Hs
      iexact HO
    isplitl [Hf]; · iexact Hf
    isplitr; · iexact Hl
    isplitl [Hr]; · iexact Hr
    isplitl [Hc]; · iexact Hc
    iexact Hv
  refine run_seq (run_frame hc) fun _ => ?_
  refine (show _ ⊢ iprop(St d i row col val (total (144 * t5.val) row col val 750)
      ∗ (segP d i t3 t5 h ∗ semP (F := F) d i cc1_scoped4 ∗ owed (F := F) d i O ∗ (∃ f, flgP (F := F) d i f) ∗ lev (F := F))) from ?_).trans ?_
  · iintro ⟨⟨Hk, Hp, Hs, HO⟩, Hf, Hl, Hr, Hc, Hv⟩
    isplitl [Hr Hc Hv Hk]
    · isplitl [Hr]; · iexact Hr
      isplitl [Hc]; · iexact Hc
      isplitl [Hv]; · iexact Hv
      iexact Hk
    isplitl [Hp]; · iexact Hp
    isplitl [Hs]; · iexact Hs
    isplitl [HO]; · iexact HO
    isplitl [Hf]; · iexact Hf
    iexact Hl
  refine run_seq (run_frame h13) fun _ => ?_
  refine run_seq (run_frame h14) fun _ => ?_
  refine run_pure _ ?_
  iintro ⟨HS, Hp, Hs, HO, Hf, Hl⟩
  isplitr [Hp]
  · isplitl [Hl]; · iexact Hl
    isplitl [HS]; · iexact HS
    isplitl [Hf]; · iexact Hf
    isplitl [Hs]; · iexact Hs
    iexact HO
  iexact Hp

end

/-! ## A channel's scale and shift -/

/-- One word of the table, in every lane. -/
def gatOp (i : grid1.Coords) (v : IVec S16 32) (C : IVec S16 32 → Prop) (dec : ∀ v, Decidable (C v))
    (hi : ∀ v, C v → ∀ a x, ((![v] : Fin 1 → IVec S16 32) a x).toNat < S128.size a) : PT F i (Vec F S16 .f32) := do
  let w ← Prog.lift (TpuEff.assume (C v) (dec v))
  SparseCore.vectorLoadIdx tabM ![v] (hi v w.down) (View.loads_vmem h_S128)

theorem wp_gat (v : IVec S16 32) (C : IVec S16 32 → Prop) (dec : ∀ v, Decidable (C v))
    (hi : ∀ v, C v → ∀ a x, ((![v] : Fin 1 → IVec S16 32) a x).toNat < S128.size a) (hC : C v) (n : Fin 128)
    (hv : v = broadcast S16 (BitVec.ofNat 32 n.val)) (f : S128.Idx → F .f32) :
    tabP d i f ⊢ run d i (gatOp i v C dec hi) (fun r => iprop(⌜r = fun _ => f (ix1 n)⌝ ∗ tabP d i f)) := by
  unfold gatOp run
  simp only [Prog.lift, Prog.bind_op, Prog.bind_ret, Prog.pure_eq_ret]
  have key := SparseCore.wp_vectorLoadIdx (defs := defs₀ (F := F)) 𝒱₀ (me d i) none Set.univ (base := tabM) (idxs := ![v]) (h := hi v hC)
    (hl := View.loads_vmem h_S128) (k := fun r => Prog.ret r) (Q := fun r => iprop(⌜r = fun _ => f (ix1 n)⌝ ∗ tabP d i f)) (q := fullShare) (f := f) (S := Finset.univ) (Finset.subset_univ _)
  iintro H
  iapply (wp_assume 𝒱₀ (me d i) none Set.univ hC)
  iapply key $$ H
  iintro H
  rw [wp_ret]
  imodintro
  isplitr
  · ipureintro
    funext x
    rw [Memref.read_access_whole]
    refine congrArg f (funext fun a => Fin.ext ?_)
    subst hv
    rw [Fin.eq_zero a]
    show (BitVec.ofNat 32 n.val).toNat = n.val
    rw [BitVec.toNat_ofNat]
    exact Nat.mod_eq_of_lt (by omega)
  · iexact H

end Cert.KernelIdeal.Tile

end
-- ==== Proof.TileIdeal.lean ====
module

public import proofs.«01_k».proof.Proof.BodyIdeal

@[expose] public section

noncomputable section

namespace Cert.KernelIdeal.Tile

open Cert.KernelIdeal Cert.KernelIdeal.Gen Cert.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "mwM" => (Memref.whole Cert.KernelIdeal.main_v0_0_scv : Memref Cert.KernelIdeal.sig Kind.scVector Space.hbm Cert.KernelIdeal.S2x64x96x128 EltTy.f32)
local notation "ipM" => (Memref.whole Cert.KernelIdeal.main_v23_scv : Memref Cert.KernelIdeal.sig Kind.scVector Space.hbm Cert.KernelIdeal.S2x2x96x128 EltTy.i32)
local notation "sbM" => (Memref.whole Cert.KernelIdeal.main_v20_scv : Memref Cert.KernelIdeal.sig Kind.scVector Space.hbm Cert.KernelIdeal.S128 EltTy.f32)
local notation "outM" => (Memref.whole Cert.KernelIdeal.main_v24_scv : Memref Cert.KernelIdeal.sig Kind.scVector Space.hbm Cert.KernelIdeal.S2x64x496x432 EltTy.f32)
local notation "rowM" => (Memref.whole Cert.KernelIdeal.cc1_scratch0 : Memref Cert.KernelIdeal.sig Kind.scVector Space.vmem Cert.KernelIdeal.S96x128 EltTy.i32)
local notation "colM" => (Memref.whole Cert.KernelIdeal.cc1_scratch1 : Memref Cert.KernelIdeal.sig Kind.scVector Space.vmem Cert.KernelIdeal.S96x128 EltTy.i32)
local notation "canM" => (Memref.whole Cert.KernelIdeal.cc1_scratch2 : Memref Cert.KernelIdeal.sig Kind.scVector Space.vmem Cert.KernelIdeal.S144x432 EltTy.f32)
local notation "valM" => (Memref.whole Cert.KernelIdeal.cc1_scratch3 : Memref Cert.KernelIdeal.sig Kind.scVector Space.vmem Cert.KernelIdeal.S96x128 EltTy.f32)
local notation "tabM" => (Memref.whole Cert.KernelIdeal.cc1_scratch4 : Memref Cert.KernelIdeal.sig Kind.scVector Space.vmem Cert.KernelIdeal.S128 EltTy.f32)
local notation "flgM" => (Memref.whole Cert.KernelIdeal.cc1_scratch5 : Memref Cert.KernelIdeal.sig Kind.scVector Space.smem Cert.KernelIdeal.S96 EltTy.i32)

local notation "ARGS" x => x mwM (Memref.isWhole_whole _) ipM (Memref.isWhole_whole _) sbM (Memref.isWhole_whole _) outM (Memref.isWhole_whole _) rowM (Memref.isWhole_whole _) colM (Memref.isWhole_whole _) canM (Memref.isWhole_whole _) valM (Memref.isWhole_whole _) tabM (Memref.isWhole_whole _) flgM (Memref.isWhole_whole _) cc1_scoped0 cc1_scoped1 cc1_scoped2 cc1_scoped3 cc1_scoped4 cc1_scoped5

local notation "𝕄" => MT nD τ sig (HIx 1) (Elt F) ℕ UU ℕ

variable [FloatOps F] {d : Dev nD} {i : grid1.Coords}

/-- A first part run, and what holds after it handed on. -/
theorem run_then {α β : Type} {p : PT F i α} {q : α → PT F i β} {A : sProp 𝕄} {B : α → sProp 𝕄} {Q : β → sProp 𝕄} (h : A ⊢ run d i p B) :
    A ⊢ iprop((∀ a, B a -∗ run d i (q a) Q) -∗ run d i (p >>= q) Q) := by
  unfold run; rw [wp_bind]
  iintro H Hk
  ihave Hw := h $$ H
  iapply (wp_wand (M := 𝕄) frame _ Set.univ) $$ Hw
  iexact Hk

/-! ## One channel -/

/-- The channel's number, as the program computes it. -/
abbrev chanWord (i : grid1.Coords) (t3 : Fin k1_t3_loop.trips) : BitVec 32 :=
  Scalar.addi (Scalar.muli (BitVec.ofNat 32 (i 1).val) 4#32) (Scf.iv 0#32 1#32 t3)

theorem chanWord_all : ∀ (x : Fin 16) (y : Fin 4),
    Scalar.addi (Scalar.muli (BitVec.ofNat 32 x.val) 4#32) (Scf.iv 0#32 1#32 y) = BitVec.ofNat 32 (4 * x.val + y.val)
      ∧ Scalar.addi 64#32 (Scalar.addi (Scalar.muli (BitVec.ofNat 32 x.val) 4#32) (Scf.iv 0#32 1#32 y)) = BitVec.ofNat 32 (64 + (4 * x.val + y.val)) := by
  decide

theorem chanWord_eq (i : grid1.Coords) (t3 : Fin k1_t3_loop.trips) : chanWord i t3 = BitVec.ofNat 32 (chan i t3).val := (chanWord_all (i 1) t3).1
theorem chanWord_eq' (i : grid1.Coords) (t3 : Fin k1_t3_loop.trips) : Scalar.addi 64#32 (chanWord i t3) = BitVec.ofNat 32 (64 + (chan i t3).val) := (chanWord_all (i 1) t3).2

/-- A word below 128, in every lane, indexes the table. -/
theorem tab_inb (n : ℕ) (hn : n < 128) : ∀ a x, ((![broadcast S16 (BitVec.ofNat 32 n)] : Fin 1 → IVec S16 32) a x).toNat < S128.size a := by
  intro a x
  rw [Fin.eq_zero a]
  show (BitVec.ofNat 32 n).toNat < 128
  rw [BitVec.toNat_ofNat]
  exact lt_of_le_of_lt (Nat.mod_le _ _) hn

theorem p14_eq (i : grid1.Coords) (a1 : BitVec 32) (v2 : FVec F S16 .f32) (t3 : Fin k1_t3_loop.trips) :
    (ARGS k1_part14 (F := F) i) a1 v2 0#32 1#32 t3
      = (do
        valCopy i t3
        let v7 ← gatOp i (broadcast S16 (Scalar.addi (Scalar.muli a1 4#32) (Scf.iv 0#32 1#32 t3))) k1_chk1 k1_chk1.dec k1_idx1_inb
        let v10 ← gatOp i (broadcast S16 (Scalar.addi 64#32 (Scalar.addi (Scalar.muli a1 4#32) (Scf.iv 0#32 1#32 t3)))) k1_chk2 k1_chk2.dec k1_idx2_inb
        Scf.Loop.for k1_t4_loop k1_t4_ok ⟨⟩ ((ARGS k1_t4_body (F := F) i) a1 v2 0#32 1#32 t3 v7 v10)
        Scf.Loop.for k1_t5_loop k1_t5_ok ⟨⟩ ((ARGS k1_t5_body (F := F) i) a1 v2 0#32 1#32 t3)
        Prog.lift (.enqueueDma padSrc (.here (padDst i t3)) (.dma cc1_scoped5.sem) (View.wordExact_bits rfl) ((View.wordExact_bits rfl).reshape _ _) ⟨Or.inl rfl, trivial⟩)
        pure ⟨⟩) := by
  rw [k1_part14_eq_skeleton]
  rfl

theorem t3_eq (i : grid1.Coords) (a1 : BitVec 32) (t3 : Fin k1_t3_loop.trips) (u : Unit) :
    (ARGS k1_t3_body (F := F) i) a1 t3 u
      = (do
        valCopy i t3
        let v7 ← gatOp i (broadcast S16 (Scalar.addi (Scalar.muli a1 4#32) (Scf.iv 0#32 1#32 t3))) k1_chk1 k1_chk1.dec k1_idx1_inb
        let v10 ← gatOp i (broadcast S16 (Scalar.addi 64#32 (Scalar.addi (Scalar.muli a1 4#32) (Scf.iv 0#32 1#32 t3)))) k1_chk2 k1_chk2.dec k1_idx2_inb
        Scf.Loop.for k1_t4_loop k1_t4_ok ⟨⟩ ((ARGS k1_t4_body (F := F) i) a1 (k1_pay1 (F := F)) 0#32 1#32 t3 v7 v10)
        Scf.Loop.for k1_t5_loop k1_t5_ok ⟨⟩ ((ARGS k1_t5_body (F := F) i) a1 (k1_pay1 (F := F)) 0#32 1#32 t3)
        padCopy i t3
        pure ⟨⟩) := by
  have h : (ARGS k1_t3_body (F := F) i) a1 t3 u
      = ((ARGS k1_part14 (F := F) i) a1 (k1_pay1 (F := F)) 0#32 1#32 t3 >>= fun _ =>
        Prog.lift (.waitDma2 cc1_scoped5.sem padSrc (padDst i t3) (View.wordExact_bits rfl) ((View.wordExact_bits rfl).reshape _ _)) >>= fun _ => pure ⟨⟩) := rfl
  rw [h, p14_eq]
  simp only [bind_assoc, pure_bind, padCopy]

section
variable (ip : S2x2x96x128.Idx → BitVec 32) (mw : S2x64x96x128.Idx → F .f32) (sb : S128.Idx → F .f32)

/-- The maxima of one channel of one batch. -/
abbrev rawOf (mw : S2x64x96x128.Idx → F .f32) (i : grid1.Coords) (t3 : Fin k1_t3_loop.trips) : Tab.Idx → F .f32 := fun p => mw (ix4 (batch i) (chan i t3) (p 0) (p 1))
/-- The channel's values, all groups transformed. -/
abbrev actOf (mw : S2x64x96x128.Idx → F .f32) (sb : S128.Idx → F .f32) (i : grid1.Coords) (t3 : Fin k1_t3_loop.trips) : Tab.Idx → F .f32 :=
  acted (sb (ix1 ⟨(chan i t3).val, by omega⟩)) (sb (ix1 ⟨64 + (chan i t3).val, by omega⟩)) (rawOf mw i t3) 752

theorem seg_out (t3 : Fin k1_t3_loop.trips) (t5 : Fin k1_t5_loop.trips) (x : Can.Idx) :
    outVal ip mw sb ((segDst i t3 t5).view.emb x) = total (144 * t5.val) (tabOf ip (batch i) 0) (tabOf ip (batch i) 1) (actOf mw sb i t3) 750 x := by
  have h5 : t5.val < 3 := t5.isLt
  have hx : (x 0).val < 144 := (x 0).isLt
  rw [total_congr (val' := chanVal mw sb (batch i) (chan i t3)) _ _ _ 750 fun p hp => if_pos (show 8 * (p / 128 % 96) + p % 128 / 16 < 752 by omega),
    segDst_emb i t3 t5 x (by omega)]
  unfold outVal
  rw [if_pos (show 144 * t5.val + (x 0).val < 432 by omega)]
  rfl

theorem pad_out (t3 : Fin k1_t3_loop.trips) (x : S64x432.Idx) : outVal ip mw sb ((padDst i t3).view.emb x) = zero := by
  have hx : (x 0).val < 64 := (x 0).isLt
  rw [padDst_emb i t3 x (by omega)]
  unfold outVal
  exact if_neg (show ¬ 432 + (x 0).val < 432 by omega)

variable (O : CellTallies nD τ sig (HIx 1)) (hO : ∀ g, O g none = 0) (hip : ∀ p, (ip p).toNat < 432)

/-- What a trip over the channels keeps. -/
abbrev ChI (d : Dev nD) (i : grid1.Coords) (ip : S2x2x96x128.Idx → BitVec 32) (mw : S2x64x96x128.Idx → F .f32) (sb : S128.Idx → F .f32)
    (O : CellTallies nD τ sig (HIx 1)) (q : PosShare TreeShare) : sProp 𝕄 :=
  iprop(lev (F := F) ∗ rowP (F := F) d i (tabOf ip (batch i) 0) ∗ colP (F := F) d i (tabOf ip (batch i) 1) ∗ (∃ f, valP d i f) ∗ canP d i (fun _ => zero)
    ∗ (∃ f, flgP (F := F) d i f) ∗ tabP d i sb ∗ ((mwM).view.loc (me d i) ↦{q} mw) ∗ semP (F := F) d i cc1_scoped3 ∗ semP (F := F) d i cc1_scoped4
    ∗ semP (F := F) d i cc1_scoped5 ∗ owed (F := F) d i O)
/-- A channel's rows of the result. -/
abbrev chP (d : Dev nD) (i : grid1.Coords) (f : S2x64x496x432.Idx → F .f32) (t3 : Fin k1_t3_loop.trips) : sProp 𝕄 :=
  iprop((bigSep Finset.univ fun t5 => segP d i t3 t5 f) ∗ padP d i t3 f)

include hO hip in
theorem wp_t3 (q : PosShare TreeShare) (g : S2x64x496x432.Idx → F .f32) (t3 : Fin k1_t3_loop.trips) (u : Unit) :
    iprop(ChI d i ip mw sb O q ∗ chP d i g t3)
      ⊢ run d i ((ARGS k1_t3_body (F := F) i) (BitVec.ofNat 32 (i 1).val) t3 u) (fun _ => iprop(ChI d i ip mw sb O q ∗ chP d i (outVal ip mw sb) t3)) := by
  rw [t3_eq]
  have hraw : (fun p => mw ((valSrc i t3).view.emb p)) = rawOf mw i t3 := funext fun p => congrArg mw (valSrc_emb i t3 p)
  have e1 : (broadcast S16 (chanWord i t3) : IVec S16 32) = broadcast S16 (BitVec.ofNat 32 (chan i t3).val) := congrArg _ (chanWord_eq i t3)
  have e2 : (broadcast S16 (Scalar.addi 64#32 (chanWord i t3)) : IVec S16 32) = broadcast S16 (BitVec.ofNat 32 (64 + (chan i t3).val)) := congrArg _ (chanWord_eq' i t3)
  have g1 := wp_gat (F := F) (d := d) (i := i) (broadcast S16 (chanWord i t3)) k1_chk1 k1_chk1.dec k1_idx1_inb (by rw [e1]; exact tab_inb _ (by omega)) ⟨(chan i t3).val, by omega⟩ e1 sb
  have g2 := wp_gat (F := F) (d := d) (i := i) (broadcast S16 (Scalar.addi 64#32 (chanWord i t3))) k1_chk2 k1_chk2.dec k1_idx2_inb (by rw [e2]; exact tab_inb _ (by omega)) ⟨64 + (chan i t3).val, by omega⟩ e2 sb
  have h4 := run_for (d := d) k1_t4_loop k1_t4_ok ((ARGS k1_t4_body (F := F) i) (BitVec.ofNat 32 (i 1).val) (k1_pay1 (F := F)) 0#32 1#32 t3
      (fun _ => sb (ix1 ⟨(chan i t3).val, by omega⟩)) (fun _ => sb (ix1 ⟨64 + (chan i t3).val, by omega⟩)))
    (fun n => valP d i (acted (sb (ix1 ⟨(chan i t3).val, by omega⟩)) (sb (ix1 ⟨64 + (chan i t3).val, by omega⟩)) (rawOf mw i t3) (8 * n))) (N := 94) rfl
    (fun t => wp_t4 (BitVec.ofNat 32 (i 1).val) (k1_pay1 (F := F)) t3 _ _ (rawOf mw i t3) t ⟨⟩)
  have h5 := run_for_pieces (d := d) k1_t5_loop k1_t5_ok ((ARGS k1_t5_body (F := F) i) (BitVec.ofNat 32 (i 1).val) (k1_pay1 (F := F)) 0#32 1#32 t3)
    (SegI d i (tabOf ip (batch i) 0) (tabOf ip (batch i) 1) (actOf mw sb i t3) O) (fun t5 => segP d i t3 t5 g) (fun t5 => segP d i t3 t5 (outVal ip mw sb))
    (fun t5 => wp_t5 (fun p => hip _) (fun p => hip _) O hO _ _ rfl t3 g (outVal ip mw sb) t5 (seg_out ip mw sb t3 t5) ⟨⟩)
  have h6 := wp_padCopy d i O hO t3 (fun _ => zero) g (outVal ip mw sb) (pad_out ip mw sb t3)
  have ha0 : acted (sb (ix1 ⟨(chan i t3).val, by omega⟩)) (sb (ix1 ⟨64 + (chan i t3).val, by omega⟩)) (rawOf mw i t3) (8 * 0) = rawOf mw i t3 :=
    funext fun p => if_neg (Nat.not_lt_zero _)
  rw [ha0] at h4
  iintro ⟨⟨#Hl, Hr, Hc, ⟨%v, Hv⟩, Hk, Hf, Ht, Hm, Hs3, Hs4, Hs5, HO⟩, Hseg, Hpad⟩
  iapply (run_then (wp_valCopy d i O hO t3 q mw v)) $$ [Hm Hv Hs3 HO]
  · isplitr; · iexact Hl
    isplitl [Hm]; · iexact Hm
    isplitl [Hv]; · iexact Hv
    isplitl [Hs3]; · iexact Hs3
    iexact HO
  rw [hraw]
  iintro %_ ⟨Hm, Hv, Hs3, HO⟩
  iapply (run_then g1) $$ Ht
  iintro %v7 ⟨%e7, Ht⟩
  subst e7
  iapply (run_then g2) $$ Ht
  iintro %v10 ⟨%e10, Ht⟩
  subst e10
  iapply (run_then h4) $$ Hv
  iintro %_ Hv
  iapply (run_then h5) $$ [Hr Hc Hv Hk Hf Hs4 HO Hseg]
  · isplitr [Hseg]
    · isplitr; · iexact Hl
      isplitl [Hr Hc Hv Hk]
      · isplitl [Hr]; · iexact Hr
        isplitl [Hc]; · iexact Hc
        isplitl [Hv]; · iexact Hv
        iexact Hk
      isplitl [Hf]; · iexact Hf
      isplitl [Hs4]; · iexact Hs4
      iexact HO
    iexact Hseg
  iintro %_ ⟨⟨-, ⟨Hr, Hc, Hv, Hk⟩, Hf, Hs4, HO⟩, Hseg⟩
  iapply (run_then h6) $$ [Hk Hpad Hs5 HO]
  · isplitr; · iexact Hl
    isplitl [Hk]; · iexact Hk
    isplitl [Hpad]; · iexact Hpad
    isplitl [Hs5]; · iexact Hs5
    iexact HO
  iintro %_ ⟨Hk, Hpad, Hs5, HO⟩
  iapply (run_pure (F := F) (d := d) (i := i) PUnit.unit .rfl)
  isplitr [Hseg Hpad]
  · isplitr; · iexact Hl
    isplitl [Hr]; · iexact Hr
    isplitl [Hc]; · iexact Hc
    isplitl [Hv]; · iexists _; iexact Hv
    isplitl [Hk]; · iexact Hk
    isplitl [Hf]; · iexact Hf
    isplitl [Ht]; · iexact Ht
    isplitl [Hm]; · iexact Hm
    isplitl [Hs3]; · iexact Hs3
    isplitl [Hs4]; · iexact Hs4
    isplitl [Hs5]; · iexact Hs5
    iexact HO
  isplitl [Hseg]; · iexact Hseg
  iexact Hpad

end

/-! ## The whole body of a tile -/

theorem body_eq (i : grid1.Coords) :
    (ARGS cc1_body (F := F) i)
      = (do
        rowCopy i
        colCopy i
        tabCopy i
        Scf.Loop.for k1_t1_loop k1_t1_ok ⟨⟩ (ARGS k1_t1_body (F := F) i)
        Scf.Loop.for k1_t2_loop k1_t2_ok ⟨⟩ ((ARGS k1_t2_body (F := F) i) 0#32)
        Scf.Loop.for k1_t3_loop k1_t3_ok ⟨⟩ ((ARGS k1_t3_body (F := F) i) (BitVec.ofNat 32 (i 1).val))
        pure ⟨⟩) := by
  have h15 : (ARGS k1_part15 (F := F) i)
      = (do
        rowCopy i
        colCopy i
        tabCopy i
        Scf.Loop.for k1_t1_loop k1_t1_ok ⟨⟩ (ARGS k1_t1_body (F := F) i)
        pure ⟨BitVec.ofNat 32 (i 1).val, 0#32, 93#32⟩) := by
    rw [k1_part15_eq_skeleton]
    rfl
  rw [cc1_body_eq_skeleton]
  unfold cc1_body_skel
  rw [h15]
  simp only [bind_assoc, pure_bind]

theorem wiped_all (g : Can.Idx → F .f32) : wiped g (27 * 144) = fun _ => zero := by
  funext p
  have h0 : (p 0).val < 144 := (p 0).isLt
  have h1 : (p 1).val < 432 := (p 1).isLt
  exact if_pos (by omega)

/-- What a tile holds while it runs: its scratch buffers and semaphores. -/
abbrev Scr (d : Dev nD) (i : grid1.Coords) : sProp 𝕄 :=
  iprop((∃ f, rowP (F := F) d i f) ∗ (∃ f, colP (F := F) d i f) ∗ (∃ f, canP (F := F) d i f) ∗ (∃ f, valP (F := F) d i f) ∗ (∃ f, tabP (F := F) d i f) ∗ (∃ f, flgP (F := F) d i f))
abbrev Sms (d : Dev nD) (i : grid1.Coords) : sProp 𝕄 :=
  iprop(semP (F := F) d i cc1_scoped0 ∗ semP (F := F) d i cc1_scoped1 ∗ semP (F := F) d i cc1_scoped2 ∗ semP (F := F) d i cc1_scoped3 ∗ semP (F := F) d i cc1_scoped4 ∗ semP (F := F) d i cc1_scoped5)

/-- A tile, run at once: it reads the pillars' numbers, maxima and the table of scales and shifts, and leaves its channels of the result. -/
theorem wp_body (ip : S2x2x96x128.Idx → BitVec 32) (mw : S2x64x96x128.Idx → F .f32) (sb : S128.Idx → F .f32)
    (O : CellTallies nD τ sig (HIx 1)) (hO : ∀ g, O g none = 0) (hip : ∀ p, (ip p).toNat < 432) (q : PosShare TreeShare) (g : S2x64x496x432.Idx → F .f32) :
    iprop(lev (F := F) ∗ ((mwM).view.loc (me d i) ↦{q} mw) ∗ ((ipM).view.loc (me d i) ↦{q} ip) ∗ ((sbM).view.loc (me d i) ↦{q} sb)
        ∗ (bigSep Finset.univ (chP d i g)) ∗ Scr (F := F) d i ∗ Sms (F := F) d i ∗ owed (F := F) d i O)
      ⊢ run d i (ARGS cc1_body (F := F) i) (fun _ => iprop(((mwM).view.loc (me d i) ↦{q} mw) ∗ ((ipM).view.loc (me d i) ↦{q} ip) ∗ ((sbM).view.loc (me d i) ↦{q} sb)
        ∗ (bigSep Finset.univ (chP d i (outVal ip mw sb))) ∗ Scr (F := F) d i ∗ Sms (F := F) d i ∗ owed (F := F) d i O)) := by
  rw [body_eq]
  have hr : (fun p => ip ((rowSrc i).view.emb p)) = tabOf ip (batch i) 0 := funext fun p => congrArg ip (rowSrc_emb i p)
  have hc : (fun p => ip ((colSrc i).view.emb p)) = tabOf ip (batch i) 1 := funext fun p => congrArg ip (colSrc_emb i p)
  have ht : (fun p => sb ((tabSrc).view.emb p)) = sb := funext fun p => congrArg sb (tabSrc_emb p)
  have h2 := run_for (F := F) (d := d) k1_t2_loop k1_t2_ok ((ARGS k1_t2_body (F := F) i) 0#32)
    (fun _ => iprop(rowP (F := F) d i (tabOf ip (batch i) 0) ∗ colP (F := F) d i (tabOf ip (batch i) 1) ∗ ∃ f, flgP (F := F) d i f)) (N := 93) rfl
    (fun t => wp_t2 _ _ t ⟨⟩)
  have h3 := run_for_pieces (d := d) k1_t3_loop k1_t3_ok ((ARGS k1_t3_body (F := F) i) (BitVec.ofNat 32 (i 1).val))
    (ChI d i ip mw sb O q) (chP d i g) (chP d i (outVal ip mw sb)) (fun t => wp_t3 ip mw sb O hO hip q g t ⟨⟩)
  iintro ⟨#Hl, Hm, Hi, Hb, Hout, ⟨⟨%fr, Hr⟩, ⟨%fc, Hc⟩, ⟨%fk, Hk⟩, Hv, ⟨%ft, Ht⟩, Hf⟩, ⟨Hs0, Hs1, Hs2, Hs3, Hs4, Hs5⟩, HO⟩
  have h1 := run_for (d := d) k1_t1_loop k1_t1_ok (ARGS k1_t1_body (F := F) i) (fun n => canP d i (wiped fk (27 * n))) (N := 144) rfl (fun t => wp_t1 fk t ⟨⟩)
  rw [wiped_all, show wiped fk (27 * 0) = fk from funext fun p => if_neg (Nat.not_lt_zero _)] at h1
  iapply (run_then (wp_rowCopy d i O hO q ip fr)) $$ [Hi Hr Hs0 HO]
  · isplitr; · iexact Hl
    isplitl [Hi]; · iexact Hi
    isplitl [Hr]; · iexact Hr
    isplitl [Hs0]; · iexact Hs0
    iexact HO
  rw [hr]
  iintro %_ ⟨Hi, Hr, Hs0, HO⟩
  iapply (run_then (wp_colCopy d i O hO q ip fc)) $$ [Hi Hc Hs1 HO]
  · isplitr; · iexact Hl
    isplitl [Hi]; · iexact Hi
    isplitl [Hc]; · iexact Hc
    isplitl [Hs1]; · iexact Hs1
    iexact HO
  rw [hc]
  iintro %_ ⟨Hi, Hc, Hs1, HO⟩
  iapply (run_then (wp_tabCopy d i O hO q sb ft)) $$ [Hb Ht Hs2 HO]
  · isplitr; · iexact Hl
    isplitl [Hb]; · iexact Hb
    isplitl [Ht]; · iexact Ht
    isplitl [Hs2]; · iexact Hs2
    iexact HO
  rw [ht]
  iintro %_ ⟨Hb, Ht, Hs2, HO⟩
  iapply (run_then h1) $$ Hk
  iintro %_ Hk
  iapply (run_then h2) $$ [Hr Hc Hf]
  · isplitl [Hr]; · iexact Hr
    isplitl [Hc]; · iexact Hc
    iexact Hf
  iintro %_ ⟨Hr, Hc, Hf⟩
  iapply (run_then h3) $$ [Hr Hc Hv Hk Hf Ht Hm Hs3 Hs4 Hs5 HO Hout]
  · isplitr [Hout]
    · isplitr; · iexact Hl
      isplitl [Hr]; · iexact Hr
      isplitl [Hc]; · iexact Hc
      isplitl [Hv]; · iexact Hv
      isplitl [Hk]; · iexact Hk
      isplitl [Hf]; · iexact Hf
      isplitl [Ht]; · iexact Ht
      isplitl [Hm]; · iexact Hm
      isplitl [Hs3]; · iexact Hs3
      isplitl [Hs4]; · iexact Hs4
      isplitl [Hs5]; · iexact Hs5
      iexact HO
    iexact Hout
  iintro %_ ⟨⟨-, Hr, Hc, Hv, Hk, Hf, Ht, Hm, Hs3, Hs4, Hs5, HO⟩, Hout⟩
  iapply (run_pure (F := F) (d := d) (i := i) PUnit.unit .rfl)
  isplitl [Hm]; · iexact Hm
  isplitl [Hi]; · iexact Hi
  isplitl [Hb]; · iexact Hb
  isplitl [Hout]; · iexact Hout
  isplitr [Hs0 Hs1 Hs2 Hs3 Hs4 Hs5 HO]
  · isplitl [Hr]; · iexists _; iexact Hr
    isplitl [Hc]; · iexists _; iexact Hc
    isplitl [Hk]; · iexists _; iexact Hk
    isplitl [Hv]; · iexact Hv
    isplitl [Ht]; · iexists _; iexact Ht
    iexact Hf
  isplitr [HO]
  · isplitl [Hs0]; · iexact Hs0
    isplitl [Hs1]; · iexact Hs1
    isplitl [Hs2]; · iexact Hs2
    isplitl [Hs3]; · iexact Hs3
    isplitl [Hs4]; · iexact Hs4
    iexact Hs5
  iexact HO

end Cert.KernelIdeal.Tile

end
-- ==== Proof.PiecesIdeal.lean ====
module

public import proofs.«01_k».proof.Proof.TileIdeal

@[expose] public section

noncomputable section

namespace Cert.KernelIdeal.Tile

open Cert.KernelIdeal Cert.KernelIdeal.Gen Cert.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "mwM" => (Memref.whole Cert.KernelIdeal.main_v0_0_scv : Memref Cert.KernelIdeal.sig Kind.scVector Space.hbm Cert.KernelIdeal.S2x64x96x128 EltTy.f32)
local notation "ipM" => (Memref.whole Cert.KernelIdeal.main_v23_scv : Memref Cert.KernelIdeal.sig Kind.scVector Space.hbm Cert.KernelIdeal.S2x2x96x128 EltTy.i32)
local notation "sbM" => (Memref.whole Cert.KernelIdeal.main_v20_scv : Memref Cert.KernelIdeal.sig Kind.scVector Space.hbm Cert.KernelIdeal.S128 EltTy.f32)
local notation "outM" => (Memref.whole Cert.KernelIdeal.main_v24_scv : Memref Cert.KernelIdeal.sig Kind.scVector Space.hbm Cert.KernelIdeal.S2x64x496x432 EltTy.f32)
local notation "rowM" => (Memref.whole Cert.KernelIdeal.cc1_scratch0 : Memref Cert.KernelIdeal.sig Kind.scVector Space.vmem Cert.KernelIdeal.S96x128 EltTy.i32)
local notation "colM" => (Memref.whole Cert.KernelIdeal.cc1_scratch1 : Memref Cert.KernelIdeal.sig Kind.scVector Space.vmem Cert.KernelIdeal.S96x128 EltTy.i32)
local notation "canM" => (Memref.whole Cert.KernelIdeal.cc1_scratch2 : Memref Cert.KernelIdeal.sig Kind.scVector Space.vmem Cert.KernelIdeal.S144x432 EltTy.f32)
local notation "valM" => (Memref.whole Cert.KernelIdeal.cc1_scratch3 : Memref Cert.KernelIdeal.sig Kind.scVector Space.vmem Cert.KernelIdeal.S96x128 EltTy.f32)
local notation "tabM" => (Memref.whole Cert.KernelIdeal.cc1_scratch4 : Memref Cert.KernelIdeal.sig Kind.scVector Space.vmem Cert.KernelIdeal.S128 EltTy.f32)
local notation "flgM" => (Memref.whole Cert.KernelIdeal.cc1_scratch5 : Memref Cert.KernelIdeal.sig Kind.scVector Space.smem Cert.KernelIdeal.S96 EltTy.i32)

local notation "ARGS" x => x mwM (Memref.isWhole_whole _) ipM (Memref.isWhole_whole _) sbM (Memref.isWhole_whole _) outM (Memref.isWhole_whole _) rowM (Memref.isWhole_whole _) colM (Memref.isWhole_whole _) canM (Memref.isWhole_whole _) valM (Memref.isWhole_whole _) tabM (Memref.isWhole_whole _) flgM (Memref.isWhole_whole _) cc1_scoped0 cc1_scoped1 cc1_scoped2 cc1_scoped3 cc1_scoped4 cc1_scoped5

local notation "𝕄" => MT nD τ sig (HIx 1) (Elt F) ℕ UU ℕ

variable [FloatOps F] {d : Dev nD} {i : grid1.Coords}

/-! ## The result array, split into the pieces that the tiles write

Tile `(c, s)` writes channels `4 s … 4 s + 3` of image `c`: each channel three segments of 144 rows and 64 further rows. -/

/-- Channel `ch` of image `b` of the result. -/
def plane (b : Fin 2) (ch : Fin 64) : Finset S2x64x496x432.Idx := Finset.univ.filter fun o => (o 0).val = b.val ∧ (o 1).val = ch.val

theorem mem_plane (b : Fin 2) (ch : Fin 64) (o : S2x64x496x432.Idx) : o ∈ plane b ch ↔ o 0 = b ∧ o 1 = ch := by
  unfold plane
  rw [Finset.mem_filter, and_iff_right (Finset.mem_univ o)]
  exact and_congr Fin.ext_iff.symm Fin.ext_iff.symm

omit [FloatOps F] in
/-- An index of the result from its four coordinates. -/
theorem ix4_of (o : S2x64x496x432.Idx) {b : Fin 2} {ch : Fin 64} {r : Fin 496} {c : Fin 432} (h0 : o 0 = b) (h1 : o 1 = ch) (h2 : r.val = (o 2).val) (h3 : c = o 3) :
    ix4 b ch r c = o := by
  subst h0; subst h1; subst h3
  obtain rfl : r = o 2 := Fin.ext h2
  exact (eq_ix4 o).symm

omit [FloatOps F] in
theorem mem_seg (t3 : Fin k1_t3_loop.trips) (t5 : Fin k1_t5_loop.trips) (o : S2x64x496x432.Idx) :
    o ∈ (segDst i t3 t5).view.set ↔ (o 0 = batch i ∧ o 1 = chan i t3) ∧ 144 * t5.val ≤ (o 2).val ∧ (o 2).val < 144 * t5.val + 144 := by
  have ht : t5.val < 3 := t5.isLt
  constructor
  · intro h
    obtain ⟨p, -, rfl⟩ := Finset.mem_map.mp h
    have hp : (p 0).val < 144 := (p 0).isLt
    rw [show (segDst i t3 t5).view.emb p = _ from segDst_emb i t3 t5 p (by omega)]
    exact ⟨⟨rfl, rfl⟩, Nat.le_add_right _ _, Nat.add_lt_add_left hp _⟩
  · rintro ⟨⟨h0, h1⟩, h2, h3⟩
    refine Finset.mem_map.mpr ⟨ix2 ⟨(o 2).val - 144 * t5.val, by omega⟩ (o 3), Finset.mem_univ _, ?_⟩
    refine (segDst_emb i t3 t5 _ (by show 144 * t5.val + ((o 2).val - 144 * t5.val) < 496; omega)).trans ?_
    exact ix4_of o h0 h1 (by show 144 * t5.val + ((o 2).val - 144 * t5.val) = (o 2).val; omega) rfl

omit [FloatOps F] in
theorem mem_pad (t3 : Fin k1_t3_loop.trips) (o : S2x64x496x432.Idx) :
    o ∈ (padDst i t3).view.set ↔ (o 0 = batch i ∧ o 1 = chan i t3) ∧ 432 ≤ (o 2).val := by
  have hb : (o 2).val < 496 := (o 2).isLt
  constructor
  · intro h
    obtain ⟨p, -, rfl⟩ := Finset.mem_map.mp h
    have hp : (p 0).val < 64 := (p 0).isLt
    rw [show (padDst i t3).view.emb p = _ from padDst_emb i t3 p (by omega)]
    exact ⟨⟨rfl, rfl⟩, Nat.le_add_right _ _⟩
  · rintro ⟨⟨h0, h1⟩, h2⟩
    refine Finset.mem_map.mpr ⟨ix2 ⟨(o 2).val - 432, by omega⟩ (o 3), Finset.mem_univ _, ?_⟩
    refine (padDst_emb i t3 _ (by show 432 + ((o 2).val - 432) < 496; omega)).trans ?_
    exact ix4_of o h0 h1 (by show 432 + ((o 2).val - 432) = (o 2).val; omega) rfl

omit [FloatOps F] in
theorem plane_eq (t3 : Fin k1_t3_loop.trips) :
    plane (batch i) (chan i t3) = (Finset.univ.biUnion fun t5 => (segDst i t3 t5).view.set) ∪ (padDst i t3).view.set := by
  ext o
  rw [Finset.mem_union, Finset.mem_biUnion]
  refine (mem_plane _ _ o).trans ⟨fun h => ?_, ?_⟩
  · by_cases h2 : 432 ≤ (o 2).val
    · exact .inr ((mem_pad t3 o).mpr ⟨h, h2⟩)
    · let t5 : Fin k1_t5_loop.trips := ⟨(o 2).val / 144, by show (o 2).val / 144 < 3; omega⟩
      have e : t5.val = (o 2).val / 144 := rfl
      exact .inl ⟨t5, Finset.mem_univ _, (mem_seg t3 t5 o).mpr ⟨h, by omega, by omega⟩⟩
  · rintro (⟨t5, -, h⟩ | h)
    · exact ((mem_seg t3 t5 o).mp h).1
    · exact ((mem_pad t3 o).mp h).1

/-- One channel of the result is its three segments and the rows after them. -/
theorem plane_split (t3 : Fin k1_t3_loop.trips) (f : S2x64x496x432.Idx → F .f32) :
    ((outM).view.loc (me d i) ↦[plane (batch i) (chan i t3)]{fullShare} f : sProp 𝕄) = chP d i f t3 := by
  have hd : Disjoint (Finset.univ.biUnion fun t5 => (segDst i t3 t5).view.set) (padDst i t3).view.set := by
    rw [Finset.disjoint_left]; intro o h h'
    obtain ⟨t5, -, h⟩ := Finset.mem_biUnion.mp h
    have ht : t5.val < 3 := t5.isLt
    have a := ((mem_seg t3 t5 o).mp h).2.2
    have b := ((mem_pad t3 o).mp h').2
    omega
  rw [plane_eq, BI.equiv_iff.mp ⟨(pointsTo_union hd).1, (pointsTo_union hd).2⟩]
  refine congrArg (fun A : sProp 𝕄 => iprop(A ∗ padP d i t3 f)) ?_
  exact pointsTo_biUnion (ℓ := (outM).view.loc (me d i)) Finset.univ (fun t5 => (segDst i t3 t5).view.set) (by
    intro t5 _ t5' _ hne
    rw [Finset.disjoint_left]; intro o h h'
    have a := ((mem_seg t3 t5 o).mp h).2
    have b := ((mem_seg t3 t5' o).mp h').2
    exact hne (Fin.ext (by omega)))

/-- The coordinates of tile `s` of SparseCore `c`. -/
def coordsV (c : Fin 2) (s : Fin 16) : grid1.Coords :=
  fun | 0 => c | 1 => s | ⟨_ + 2, h⟩ => absurd h (Nat.not_lt.2 (Nat.le_add_left _ _))

/-- The result array as device `d` names it. -/
abbrev oLoc (d : Dev nD) : Loc nD τ sig := (SparseCore.T d).loc main_v24

/-- The result array is the tiles' channels. -/
theorem out_split (f : Buf (Elt F) (oLoc d)) :
    (oLoc d ↦{fullShare} f : sProp 𝕄)
      = bigSep Finset.univ fun c : Fin 2 => bigSep Finset.univ fun s : Fin 16 => bigSep Finset.univ (chP d (coordsV c s) f) := by
  have hU : (Finset.univ : Finset S2x64x496x432.Idx)
      = Finset.univ.biUnion fun x : (Fin 2 × Fin 16) × Fin k1_t3_loop.trips => plane (batch (coordsV x.1.1 x.1.2)) (chan (coordsV x.1.1 x.1.2) x.2) := by
    ext o
    refine ⟨fun _ => Finset.mem_biUnion.mpr ?_, fun _ => Finset.mem_univ _⟩
    have hb : (o 1).val < 64 := (o 1).isLt
    refine ⟨((o 0, ⟨(o 1).val / 4, by omega⟩), ⟨(o 1).val % 4, by show _ < 4; omega⟩), Finset.mem_univ _, Finset.mem_filter.mpr ⟨Finset.mem_univ _, rfl, ?_⟩⟩
    show (o 1).val = 4 * ((o 1).val / 4) + (o 1).val % 4
    omega
  have key := pointsTo_biUnion (Val := Elt F) (ℓ := oLoc d) (q := fullShare) (f := f) (Ix := HIx 1) (Name := ℕ) (U := UU) (Lvl := ℕ) Finset.univ
    (fun x : (Fin 2 × Fin 16) × Fin k1_t3_loop.trips => plane (batch (coordsV x.1.1 x.1.2)) (chan (coordsV x.1.1 x.1.2) x.2)) (by
      intro x _ y _ hne
      refine Finset.disjoint_left.mpr fun o h h' => hne ?_
      obtain ⟨a, b⟩ := (Finset.mem_filter.mp h).2
      obtain ⟨a', b'⟩ := (Finset.mem_filter.mp h').2
      have e0 : x.1.1 = y.1.1 := Fin.ext (a.symm.trans a')
      have e1 : 4 * x.1.2.val + x.2.val = 4 * y.1.2.val + y.2.val := b.symm.trans b'
      have hx : x.2.val < 4 := x.2.isLt
      have hy : y.2.val < 4 := y.2.isLt
      exact Prod.ext (Prod.ext e0 (Fin.ext (by omega))) (Fin.ext (by omega)))
  rw [← hU] at key
  refine key.trans ?_
  rw [bigSep_univ_prod, bigSep_univ_prod]
  exact bigSep_congr fun c _ => bigSep_congr fun s _ => bigSep_congr fun t3 _ => plane_split (d := d) (i := coordsV c s) t3 f

end Cert.KernelIdeal.Tile

end
-- ==== Proof.LaunchIdeal.lean ====
module

public import proofs.«01_k».proof.Proof.PiecesIdeal
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.Tile

open Cert.KernelIdeal Cert.KernelIdeal.Gen Cert.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "mwM" => (Memref.whole Cert.KernelIdeal.main_v0_0_scv : Memref Cert.KernelIdeal.sig Kind.scVector Space.hbm Cert.KernelIdeal.S2x64x96x128 EltTy.f32)
local notation "ipM" => (Memref.whole Cert.KernelIdeal.main_v23_scv : Memref Cert.KernelIdeal.sig Kind.scVector Space.hbm Cert.KernelIdeal.S2x2x96x128 EltTy.i32)
local notation "sbM" => (Memref.whole Cert.KernelIdeal.main_v20_scv : Memref Cert.KernelIdeal.sig Kind.scVector Space.hbm Cert.KernelIdeal.S128 EltTy.f32)
local notation "outM" => (Memref.whole Cert.KernelIdeal.main_v24_scv : Memref Cert.KernelIdeal.sig Kind.scVector Space.hbm Cert.KernelIdeal.S2x64x496x432 EltTy.f32)
local notation "rowM" => (Memref.whole Cert.KernelIdeal.cc1_scratch0 : Memref Cert.KernelIdeal.sig Kind.scVector Space.vmem Cert.KernelIdeal.S96x128 EltTy.i32)
local notation "colM" => (Memref.whole Cert.KernelIdeal.cc1_scratch1 : Memref Cert.KernelIdeal.sig Kind.scVector Space.vmem Cert.KernelIdeal.S96x128 EltTy.i32)
local notation "canM" => (Memref.whole Cert.KernelIdeal.cc1_scratch2 : Memref Cert.KernelIdeal.sig Kind.scVector Space.vmem Cert.KernelIdeal.S144x432 EltTy.f32)
local notation "valM" => (Memref.whole Cert.KernelIdeal.cc1_scratch3 : Memref Cert.KernelIdeal.sig Kind.scVector Space.vmem Cert.KernelIdeal.S96x128 EltTy.f32)
local notation "tabM" => (Memref.whole Cert.KernelIdeal.cc1_scratch4 : Memref Cert.KernelIdeal.sig Kind.scVector Space.vmem Cert.KernelIdeal.S128 EltTy.f32)
local notation "flgM" => (Memref.whole Cert.KernelIdeal.cc1_scratch5 : Memref Cert.KernelIdeal.sig Kind.scVector Space.smem Cert.KernelIdeal.S96 EltTy.i32)

local notation "ARGS" x => x mwM (Memref.isWhole_whole _) ipM (Memref.isWhole_whole _) sbM (Memref.isWhole_whole _) outM (Memref.isWhole_whole _) rowM (Memref.isWhole_whole _) colM (Memref.isWhole_whole _) canM (Memref.isWhole_whole _) valM (Memref.isWhole_whole _) tabM (Memref.isWhole_whole _) flgM (Memref.isWhole_whole _) cc1_scoped0 cc1_scoped1 cc1_scoped2 cc1_scoped3 cc1_scoped4 cc1_scoped5

local notation "𝕄" => MT nD τ sig (HIx 1) (Elt F) ℕ UU ℕ

variable [FloatOps F] {d : Dev nD} {i : grid1.Coords}

/-! ## What a tile owns

The six transfer semaphores and the six scratch buffers, out of all that a tile owns. -/

omit [FloatOps F] in
/-- A separating product over a set, split at a subset. -/
theorem bigSep_at {I : Type} [DecidableEq I] {A B : Finset I} (h : A ⊆ B) (Φ : I → sProp 𝕄) :
    bigSep B Φ = iprop(bigSep A Φ ∗ bigSep (B \ A) Φ) := by
  conv_lhs => rw [← Finset.union_sdiff_of_subset h]
  exact bigSep_union Finset.disjoint_sdiff

abbrev semSet : Finset (DmaSem sig) := {cc1_scoped0.sem, cc1_scoped1.sem, cc1_scoped2.sem, cc1_scoped3.sem, cc1_scoped4.sem, cc1_scoped5.sem}
abbrev semEmb (d : Dev nD) (i : grid1.Coords) : DmaSem sig ↪ GSem nD τ sig :=
  ⟨fun s => (me d i, .dma s), fun _ _ h => SemLoc.dma.inj (Prod.mk.inj h).2⟩
abbrev bufSet : Finset (Ref sig .scVector) := {cc1_scratch0, cc1_scratch1, cc1_scratch2, cc1_scratch3, cc1_scratch4, cc1_scratch5}
abbrev proc (i : grid1.Coords) : Proc τ := .scVector ((i 0).castLE hcore1) ((i 1).castLE hsub1)
abbrev bufEmb (i : grid1.Coords) : Ref sig .scVector ↪ DevRef τ sig := ⟨(proc i).devRef, Proc.devRef_injective _⟩

variable (d : Dev nD) (i : grid1.Coords)

/-- The tile's other semaphores and buffers, which it leaves alone. -/
abbrev semRest : sProp 𝕄 := bigSep (ownCells (me d i) \ semSet.map (semEmb d i)) fun g => semVal g 0
abbrev bufRest : sProp 𝕄 := bigSep (ownRefs (τ := τ) (proc i) \ bufSet.map (bufEmb i)) fun b => iprop(∃ f, ((d, b) : Loc nD τ sig) ↦{fullShare} f)

theorem ownSems0_eq : (ownSems0 (me d i) : sProp 𝕄) = iprop(Sms (F := F) d i ∗ semRest (F := F) d i) := by
  unfold SparseCore.Cfg.ownSems0
  rw [bigSep_at (show semSet.map (semEmb d i) ⊆ ownCells (me d i) from fun g hg => by
    obtain ⟨s, hs, rfl⟩ := Finset.mem_map.mp hg
    exact mem_ownCells.mpr ⟨rfl, (show ∀ s ∈ semSet, (SemLoc.dma s : SemLoc sig).isScoped .scVector = true by decide) s hs⟩)]
  rw [bigSep_map]
  rw [SparseCore.bigSep_insert' (by decide), SparseCore.bigSep_insert' (by decide), SparseCore.bigSep_insert' (by decide),
    SparseCore.bigSep_insert' (by decide), SparseCore.bigSep_insert' (by decide), bigSep_singleton]
  rfl

theorem ownBufs_eq : (ownBufs (me d i) : sProp 𝕄) = iprop(Scr (F := F) d i ∗ bufRest (F := F) d i) := by
  unfold SparseCore.Cfg.ownBufs
  rw [bigSep_at (show bufSet.map (bufEmb i) ⊆ ownRefs (τ := τ) (proc i) from fun g hg => by
    obtain ⟨s, hs, rfl⟩ := Finset.mem_map.mp hg
    simp only [bufSet, Finset.mem_insert, Finset.mem_singleton] at hs
    rcases hs with rfl | rfl | rfl | rfl | rfl | rfl <;> exact SparseCore.Cfg.mem_ownRefs_of_owner (p := proc i) rfl)]
  rw [bigSep_map]
  rw [SparseCore.bigSep_insert' (by decide), SparseCore.bigSep_insert' (by decide), SparseCore.bigSep_insert' (by decide),
    SparseCore.bigSep_insert' (by decide), SparseCore.bigSep_insert' (by decide), bigSep_singleton]
  rfl

/-! ## What the handshakes carry -/

abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL
/-- Where the blocks' transfers of the first call keep their rounds. -/
abbrev EP : Emb UP (MT nD τ sig (HIx 1) (Elt F) ℕ UU ℕ) := (Emb.inl : Emb UP (UP × Counters)).trans embR
instance EP_landsIn : (EP (F := F)).LandsIn (upEmb : UEmb _ 𝕄) := by infer_instance

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev mwLoc (d : Dev nD) : Loc nD τ sig := (SparseCore.T d).loc main_v0_0
abbrev ipLoc (d : Dev nD) : Loc nD τ sig := (SparseCore.T d).loc main_v23
abbrev sbLoc (d : Dev nD) : Loc nD τ sig := (SparseCore.T d).loc main_v20

/-- Tile `(c, s)`'s share of an array that every tile reads. -/
abbrev qOf (c : Fin 2) (s : Fin 16) : PosShare TreeShare := Transfers.shareTok fullShare 32 (finProdFinEquiv (c, s))

section Payloads

variable (IP : Dev nD → S2x2x96x128.Idx → BitVec 32) (MW : S2x64x96x128.Idx → F .f32) (SB : S128.Idx → F .f32)
  (OK : Dev nD → (S2x64x96x128.Idx → F .f32) → (S128.Idx → F .f32) → Prop) (G : Dev nD → S2x64x496x432.Idx → F .f32)

/-- What tile `(c, s)` takes and hands back: its shares of the three arrays that it reads, and its channels of the result at `g`. -/
abbrev tilePay (d : Dev nD) (c : Fin 2) (s : Fin 16) (g : S2x64x496x432.Idx → F .f32) : sProp 𝕄 :=
  iprop((mwLoc d ↦{qOf c s} MW) ∗ (ipLoc d ↦{qOf c s} IP d) ∗ (sbLoc d ↦{qOf c s} SB) ∗ bigSep Finset.univ (chP d (coordsV c s) g))

abbrev outOf (d : Dev nD) : S2x64x496x432.Idx → F .f32 := outVal (IP d) MW SB

/-- A tile's body, with all that the tile owns. -/
theorem tile_body (c : Fin 2) (s : Fin 16) (g : S2x64x496x432.Idx → F .f32) (hip : ∀ p, (IP d p).toNat < 432)
    (O : CellTallies nD τ sig (HIx 1)) (W : Waits sig (HIx 1)) (hO : ∀ g, O g none = 0) :
    iprop(levAts (K (F := F)).L (K (F := F)).lev ∗ emp ∗ tilePay IP MW SB d c s g
        ∗ scopedBufs (me d (coordsV c s)) ∗ scopedSems0 (me d (coordsV c s)) ∗ owes (me d (coordsV c s)) O W)
      ⊢ wp frame (wpE (defs₀ (F := F)) 𝒱₀ (me d (coordsV c s)) none) Set.univ (ARGS cc1_body (F := F) (coordsV c s))
          fun _ => iprop(tilePay IP MW SB d c s (outOf IP MW SB d) ∗ scopedBufs (me d (coordsV c s)) ∗ scopedSems0 (me d (coordsV c s))
            ∗ ∃ W', ⌜∀ p ∈ W', p ∈ W ∨ p.2 = none ∨ p.2 = some (0 : Fin 1)⌝ ∗ owes (me d (coordsV c s)) O W') := by
  rw [(K (F := F)).scopedBufs_V facts d _ _, SparseCore.Cfg.scopedSems0_V (Val := Elt F) d _ _, ownSems0_eq, ownBufs_eq]
  have key := wp_body (F := F) (d := d) (i := coordsV c s) (IP d) MW SB O hO hip (qOf c s) g
  unfold run at key
  refine (show _ ⊢ iprop((lev (F := F) ∗ ((mwM).view.loc (me d (coordsV c s)) ↦{qOf c s} MW) ∗ ((ipM).view.loc (me d (coordsV c s)) ↦{qOf c s} IP d)
      ∗ ((sbM).view.loc (me d (coordsV c s)) ↦{qOf c s} SB) ∗ bigSep Finset.univ (chP d (coordsV c s) g) ∗ Scr (F := F) d (coordsV c s)
      ∗ Sms (F := F) d (coordsV c s) ∗ owed d (coordsV c s) O) ∗ (bufRest (F := F) d (coordsV c s) ∗ semRest (F := F) d (coordsV c s))) from ?_).trans
    (run_post (run_frame key) ?_)
  · iintro ⟨Hl, -, ⟨Ha, Hb, Hc, Ho⟩, ⟨Hs, Hbr⟩, ⟨Hm, Hsr⟩, HO⟩
    isplitr [Hbr Hsr]
    · isplitl [Hl]; · iexact Hl
      isplitl [Ha]; · iexact Ha
      isplitl [Hb]; · iexact Hb
      isplitl [Hc]; · iexact Hc
      isplitl [Ho]; · iexact Ho
      isplitl [Hs]; · iexact Hs
      isplitl [Hm]; · iexact Hm
      iexists W; iexact HO
    · isplitl [Hbr]; · iexact Hbr
      iexact Hsr
  · intro _
    iintro ⟨⟨Ha, Hb, Hc, Ho, Hs, Hm, %W', HO⟩, Hbr, Hsr⟩
    isplitl [Ha Hb Hc Ho]
    · isplitl [Ha]; · iexact Ha
      isplitl [Hb]; · iexact Hb
      isplitl [Hc]; · iexact Hc
      iexact Ho
    isplitl [Hs Hbr]
    · isplitl [Hs]; · iexact Hs
      iexact Hbr
    isplitl [Hm Hsr]
    · isplitl [Hm]; · iexact Hm
      iexact Hsr
    iexists W'; isplitr
    swap; · iexact HO
    ipureintro; intro p _
    rcases p.2 with _ | q
    · exact .inr (.inl rfl)
    · exact .inr (.inr (congrArg some (Subsingleton.elim q 0)))

/-- What a tile takes and hands back, when what the arrays hold is known only to be as `OK` says: before the call, -/
def payIn (d : Dev nD) (c : Fin 2) (s : Fin 16) : sProp 𝕄 :=
  iprop(∃ MW SB, ⌜OK d MW SB⌝ ∗ tilePay IP MW SB d c s (G d))
/-- and after it. -/
def payOut (d : Dev nD) (c : Fin 2) (s : Fin 16) : sProp 𝕄 :=
  iprop(∃ MW SB, ⌜OK d MW SB⌝ ∗ tilePay IP MW SB d c s (outOf IP MW SB d))

instance payIn_storable (d : Dev nD) (c : Fin 2) (s : Fin 16) : BI.Storable (upEmb : UEmb _ 𝕄) (payIn IP OK G d c s) := by
  unfold payIn; infer_instance
instance payOut_storable (d : Dev nD) (c : Fin 2) (s : Fin 16) : BI.Storable (upEmb : UEmb _ 𝕄) (payOut IP OK d c s) := by
  unfold payOut; infer_instance

/-- The one call takes, for each SparseCore, what its tiles take, and brings back what they hand back. -/
def P : (K (F := F)).Pay (nD := nD) (Val := Elt F) (Name := ℕ) (U := UU) where
  st := fun q d c => match q with | 0 => bigSep Finset.univ fun s : Fin 16 => payIn IP OK G d c s
  dn := fun q d c => match q with | 0 => bigSep Finset.univ fun s : Fin 16 => payOut IP OK d c s
  go := fun q d c s => match q with | 0 => payIn IP OK G d c s
  td := fun q d c s => match q with | 0 => payOut IP OK d c s
  x := fun _ _ => iprop(emp)

instance P_storable : (P IP OK G).IsStorable where
  st q d c := match q with
    | 0 => (inferInstance : BI.Storable (upEmb : UEmb _ 𝕄) (bigSep Finset.univ fun s : Fin 16 => payIn IP OK G d c s))
  dn q d c := match q with
    | 0 => (inferInstance : BI.Storable (upEmb : UEmb _ 𝕄) (bigSep Finset.univ fun s : Fin 16 => payOut IP OK d c s))
  go q d c s := match q with
    | 0 => (inferInstance : BI.Storable (upEmb : UEmb _ 𝕄) (payIn IP OK G d c s))
  td q d c s := match q with
    | 0 => (inferInstance : BI.Storable (upEmb : UEmb _ 𝕄) (payOut IP OK d c s))

theorem defs₀_vector (c : Fin τ.nSC) (s : Fin τ.nSub) :
    defs₀ (F := F) (.scVector c s) 1 () = SparseCore.onTile hcore1 hsub1 (fun c s => ARGS cc1_body (F := F) (coordsV c s)) ⟨⟩ c s := rfl

/-- `tile_body`, when what the arrays hold is known only to be as `OK` says. -/
theorem tile_body_ok (c : Fin 2) (s : Fin 16) (hip : ∀ p, (IP d p).toNat < 432)
    (O : CellTallies nD τ sig (HIx 1)) (W : Waits sig (HIx 1)) (hO : ∀ g, O g none = 0) :
    iprop(levAts (K (F := F)).L (K (F := F)).lev ∗ emp ∗ payIn IP OK G d c s
        ∗ scopedBufs (me d (coordsV c s)) ∗ scopedSems0 (me d (coordsV c s)) ∗ owes (me d (coordsV c s)) O W)
      ⊢ wp frame (wpE (defs₀ (F := F)) 𝒱₀ (me d (coordsV c s)) none) Set.univ (ARGS cc1_body (F := F) (coordsV c s))
          fun _ => iprop(payOut IP OK d c s ∗ scopedBufs (me d (coordsV c s)) ∗ scopedSems0 (me d (coordsV c s))
            ∗ ∃ W', ⌜∀ p ∈ W', p ∈ W ∨ p.2 = none ∨ p.2 = some (0 : Fin 1)⌝ ∗ owes (me d (coordsV c s)) O W') := by
  unfold payIn
  iintro ⟨Hl, He, ⟨%MW, %SB, %hok, Hp⟩, Hb, Hs, HO⟩
  ihave Hw := (tile_body d IP MW SB c s (G d) hip O W hO) $$ [Hl He Hp Hb Hs HO]
  · isplitl [Hl]; · iexact Hl
    isplitl [He]; · iexact He
    isplitl [Hp]; · iexact Hp
    isplitl [Hb]; · iexact Hb
    isplitl [Hs]; · iexact Hs
    iexact HO
  iapply (wp_wand (M := 𝕄) frame _ Set.univ) $$ Hw
  iintro %_ ⟨Hp, Hr⟩
  isplitl [Hp]
  · unfold payOut
    iexists MW; iexists SB
    isplitr; · ipureintro; exact hok
    iexact Hp
  iexact Hr

/-- Each tile's share of the launch. -/
theorem tileObl (hip : ∀ d p, (IP d p).toNat < 432) : (K (F := F)).TileObl (D (F := F)) 𝒱 (P IP OK G) v₀ 0 := by
  intro d c s O W hO _ _
  simp only [show (P IP OK G).ox = fun _ _ => 0 from rfl, add_zero]
  have hcs : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact tile_body_ok d IP OK G ⟨_, hcs.1⟩ ⟨_, hcs.2⟩ (hip d) O W hO

/-- What a SparseCore takes is what its tiles take, and what they hand back is what it hands back. -/
theorem vecSplit : (K (F := F)).VecSplit' (P IP OK G) 0 := by
  intro d c
  show (bigSep Finset.univ fun s : Fin 16 => payIn IP OK G d c s) ⊢ |={Set.univ}=> iprop(
      (bigSep Finset.univ fun s : Fin 16 => payIn IP OK G d c s)
      ∗ ((bigSep Finset.univ fun s : Fin 16 => payOut IP OK d c s)
          -∗ bigSep Finset.univ fun s : Fin 16 => payOut IP OK d c s))
  iintro H; imodintro
  isplitl [H]; · iexact H
  iintro H; iexact H

theorem none_eq {I : Type} (s : Finset I) : (bigSep s fun _ => iprop(emp)) = (iprop(emp) : sProp 𝕄) := bigSep_emp_const s

/-- The launch's resource: the handshakes' rounds, and those of the blocks' transfers. -/
def u₀ : UU := (initOf (K (F := F)).hsCells (K (F := F)).hsToks, (initOf (Pipeline.cells cfgs cellOf_inj) (Pipeline.launchToks cfgs cellOf_inj), 1))

/-- What the launch deals each TensorCore for the blocks' transfers. -/
abbrev dealt (d : Dev nD) : sProp 𝕄 := iprop(Pipeline.cellsGhost cfgs (EP (F := F)) 0 d ∗ Pipeline.toksInit cfgs (EP (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => dealt (F := F) d)
        ∗ bigSep Finset.univ fun thr : Thread nD τ => bigSep Finset.univ fun q : Fin 1 => (P IP OK G).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H2 := (own_pair_emb (embR : Emb (UP × Counters) (MT nD τ sig (HIx 1) (Elt F) ℕ UU ℕ))
    (initOf (Pipeline.cells cfgs cellOf_inj) (Pipeline.launchToks cfgs cellOf_inj)) (1 : Counters)) $$ HR
  icases H2 with ⟨HP, -⟩
  imod (Pipeline.fund_ghost cfgs (EP (F := F)) cellOf_inj) $$ HP with ⟨Hg, Ht⟩
  imodintro
  isplitl [HH]; · iexact HH
  isplitl [Hg Ht]
  · rw [bigSep_sep']
    isplitl [Hg]
    · rw [show (bigSep Finset.univ fun d : Dev nD => Pipeline.cellsGhost cfgs (EP (F := F)) 0 d)
        = bigSep Finset.univ fun d : Dev nD => bigSep Finset.univ fun p => Pipeline.cellsGhost cfgs (EP (F := F)) p d from
        bigSep_congr fun _ _ => by rw [bigSep_univ_of_subsingleton (0 : Fin 1)]]
      iexact Hg
    · rw [show (bigSep Finset.univ fun d : Dev nD => Pipeline.toksInit cfgs (EP (F := F)) 0 d)
        = bigSep Finset.univ fun d : Dev nD => bigSep Finset.univ fun p => Pipeline.toksInit cfgs (EP (F := F)) p d from
        bigSep_congr fun _ _ => by rw [bigSep_univ_of_subsingleton (0 : Fin 1)]]
      iexact Ht
  rw [show (bigSep Finset.univ fun thr : Thread nD τ => bigSep Finset.univ fun q : Fin 1 => (P IP OK G).x q thr) = bigSep Finset.univ fun _ => iprop(emp) from
    bigSep_congr fun _ _ => bigSep_univ_of_subsingleton (0 : Fin 1), none_eq]
  iempintro

/-- What the TensorCore keeps of the arrays that the tiles read. -/
abbrev kept (d : Dev nD) : sProp 𝕄 :=
  iprop((mwLoc d ↦{Transfers.shareDrop fullShare 32} MW) ∗ (ipLoc d ↦{Transfers.shareDrop fullShare 32} IP d) ∗ (sbLoc d ↦{Transfers.shareDrop fullShare 32} SB))

/-- An array's whole share is what the TensorCore keeps and one share for each tile. -/
theorem deal (ℓ : Loc nD τ sig) (f : Buf (Elt F) ℓ) :
    (ℓ ↦{fullShare} f : sProp 𝕄) = iprop((ℓ ↦{Transfers.shareDrop fullShare 32} f) ∗ bigSep Finset.univ fun c : Fin 2 => bigSep Finset.univ fun s : Fin 16 => ℓ ↦{qOf c s} f) := by
  have h := Transfers.pointsTo_toks (Ix := HIx 1) (Name := ℕ) (U := UU) (Lvl := ℕ) (ℓ := ℓ) (S := Finset.univ) (f := f) fullShare 32
  rw [BI.equiv_iff.mp ⟨h.1, h.2⟩]
  refine congrArg (fun A : sProp 𝕄 => iprop((ℓ ↦{Transfers.shareDrop fullShare 32} f) ∗ A)) ?_
  rw [bigSep_univ_equiv (finProdFinEquiv (m := 2) (n := 16)), bigSep_univ_prod]

theorem regroup (a a' b b' c c' o : sProp 𝕄) : iprop((a ∗ a') ∗ (b ∗ b') ∗ (c ∗ c') ∗ o) = iprop((a ∗ b ∗ c) ∗ a' ∗ b' ∗ c' ∗ o) := by
  have h1 : iprop((a ∗ a') ∗ (b ∗ b') ∗ (c ∗ c') ∗ o) ⊢ iprop((a ∗ b ∗ c) ∗ a' ∗ b' ∗ c' ∗ o) := by
    iintro ⟨⟨Ha, Ha'⟩, ⟨Hb, Hb'⟩, ⟨Hc, Hc'⟩, Ho⟩
    isplitl [Ha Hb Hc]
    · isplitl [Ha]; · iexact Ha
      isplitl [Hb] <;> iassumption
    isplitl [Ha']; · iexact Ha'
    isplitl [Hb']; · iexact Hb'
    isplitl [Hc'] <;> iassumption
  have h2 : iprop((a ∗ b ∗ c) ∗ a' ∗ b' ∗ c' ∗ o) ⊢ iprop((a ∗ a') ∗ (b ∗ b') ∗ (c ∗ c') ∗ o) := by
    iintro ⟨⟨Ha, Hb, Hc⟩, Ha', Hb', Hc', Ho⟩
    isplitl [Ha Ha']; · isplitl [Ha] <;> iassumption
    isplitl [Hb Hb']; · isplitl [Hb] <;> iassumption
    isplitl [Hc Hc']; · isplitl [Hc] <;> iassumption
    iexact Ho
  exact BI.equiv_iff.mp ⟨h1, h2⟩

/-- The four arrays are what the tiles take and what the TensorCore keeps. -/
theorem deal_all (d : Dev nD) (g : S2x64x496x432.Idx → F .f32) :
    (iprop((mwLoc d ↦{fullShare} MW) ∗ (ipLoc d ↦{fullShare} IP d) ∗ (sbLoc d ↦{fullShare} SB) ∗ oLoc d ↦{fullShare} g) : sProp 𝕄)
      = iprop(kept IP MW SB d ∗ bigSep Finset.univ fun c : Fin 2 => bigSep Finset.univ fun s : Fin 16 => tilePay IP MW SB d c s g) := by
  rw [deal (mwLoc d), deal (ipLoc d), deal (sbLoc d), out_split]
  refine (regroup _ _ _ _ _ _ _).trans (congrArg (fun A : sProp 𝕄 => iprop(kept IP MW SB d ∗ A)) ?_)
  rw [← bigSep_sep', ← bigSep_sep', ← bigSep_sep']
  refine bigSep_congr fun c _ => ?_
  rw [← bigSep_sep', ← bigSep_sep', ← bigSep_sep']

/-- A separating product, each factor changed beside something that stays. -/
theorem bigSep_beside {I : Type} [DecidableEq I] (R : sProp 𝕄) (A : Finset I) {Φ Ψ : I → sProp 𝕄} (h : ∀ i ∈ A, iprop(R ∗ Φ i) ⊢ iprop(R ∗ Ψ i)) :
    iprop(R ∗ bigSep A Φ) ⊢ iprop(R ∗ bigSep A Ψ) := by
  induction A using Finset.induction_on with
  | empty => exact BI.Entails.refl _
  | insert a A ha ih =>
    rw [SparseCore.bigSep_insert' ha, SparseCore.bigSep_insert' ha]
    iintro ⟨HR, Ha, HA⟩
    ihave H1 := (h a (Finset.mem_insert_self _ _)) $$ [HR Ha]
    · isplitl [HR] <;> iassumption
    icases H1 with ⟨HR, Ha⟩
    ihave H2 := (ih fun i hi => h i (Finset.mem_insert_of_mem hi)) $$ [HR HA]
    · isplitl [HR] <;> iassumption
    icases H2 with ⟨HR, HA⟩
    isplitl [HR]; · iexact HR
    isplitl [Ha] <;> iassumption

/-- Before the call a tile's known share is a share known to be as `OK` says. -/
theorem pay_in (h : OK d MW SB) (c : Fin 2) (s : Fin 16) : tilePay IP MW SB d c s (G d) ⊢ payIn IP OK G d c s := by
  unfold payIn
  iintro H
  iexists MW; iexists SB
  isplitr; · ipureintro; exact h
  iexact H

/-- After the call, the arrays that a tile hands back hold what the TensorCore's kept shares say. -/
theorem pay_out (c : Fin 2) (s : Fin 16) : iprop(kept IP MW SB d ∗ payOut IP OK d c s)
    ⊢ iprop(kept IP MW SB d ∗ tilePay IP MW SB d c s (outOf IP MW SB d)) := by
  unfold payOut
  iintro ⟨⟨Ka, Kb, Kc⟩, %MW', %SB', -, Ha, Hb, Hc, Ho⟩
  ihave #Hm := (pointsTo_agree (ℓ := mwLoc d) (I := Finset.univ) (J := Finset.univ) (q₁ := Transfers.shareDrop fullShare 32) (q₂ := qOf c s) (f := MW) (g := MW')) $$ [Ka Ha]
  · isplitl [Ka] <;> iassumption
  icases Hm with %hm
  ihave #Hs := (pointsTo_agree (ℓ := sbLoc d) (I := Finset.univ) (J := Finset.univ) (q₁ := Transfers.shareDrop fullShare 32) (q₂ := qOf c s) (f := SB) (g := SB')) $$ [Kc Hc]
  · isplitl [Kc] <;> iassumption
  icases Hs with %hs
  obtain rfl : MW = MW' := funext fun i => (hm i (by simp)).1
  obtain rfl : SB = SB' := funext fun i => (hs i (by simp)).1
  isplitl [Ka Kb Kc]
  · isplitl [Ka]; · iexact Ka
    isplitl [Kb] <;> iassumption
  isplitl [Ha]; · iexact Ha
  isplitl [Hb]; · iexact Hb
  isplitl [Hc] <;> iassumption

theorem gather_all : iprop(kept IP MW SB d ∗ bigSep Finset.univ fun c : Fin 2 => bigSep Finset.univ fun s : Fin 16 => payOut IP OK d c s)
    ⊢ iprop(kept IP MW SB d ∗ bigSep Finset.univ fun c : Fin 2 => bigSep Finset.univ fun s : Fin 16 => tilePay IP MW SB d c s (outOf IP MW SB d)) :=
  bigSep_beside (kept IP MW SB d) Finset.univ fun c _ => bigSep_beside (kept IP MW SB d) Finset.univ fun s _ => pay_out d IP MW SB OK c s

theorem scatter_all (h : OK d MW SB) : (bigSep Finset.univ fun c : Fin 2 => bigSep Finset.univ fun s : Fin 16 => tilePay IP MW SB d c s (G d))
    ⊢ bigSep Finset.univ fun c : Fin 2 => bigSep Finset.univ fun s : Fin 16 => payIn IP OK G d c s :=
  bigSep_mono fun c _ => bigSep_mono fun s _ => pay_in d IP MW SB OK G h c s

end Payloads

end Cert.KernelIdeal.Tile

end
-- ==== Proof.BlockIdeal.lean ====
/-
  One block of the first call: what its body computes from the block's points and the weights, and its run.
-/
module

public import proofs.«01_k».proof.Proof.LaunchIdeal
public import Idealize.ShloMosaic.Lib.Pipeline.FrameBody
public import Idealize.ShloMosaic.Lib.VecWindow

@[expose] public section

noncomputable section

namespace Cert.KernelIdeal.Tile

open Cert.KernelIdeal Cert.KernelIdeal.Gen Cert.Scatter

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F]

/-! ## One block of the first call

A block is the points of 1024 pillars. What the call leaves of it: the largest projection of each pillar on each of the 64
channels, and what it adds to the moments. -/

/-- The block's four quarters. -/
abbrev quarter0 (X : S1x4x1024x100.Idx → F .f32) : Vec F S1x4x256x100 .f32 :=
  View.ld X (Rect.unit (s := S1x4x1024x100) ![0, 0, 0, 0] S1x4x256x100.size inb_S1x4x1024x100_S1x4x256x100_0_0_0_0)
abbrev quarter1 (X : S1x4x1024x100.Idx → F .f32) : Vec F S1x4x256x100 .f32 :=
  View.ld X (Rect.unit (s := S1x4x1024x100) ![0, 0, 256, 0] S1x4x256x100.size inb_S1x4x1024x100_S1x4x256x100_0_0_256_0)
abbrev quarter2 (X : S1x4x1024x100.Idx → F .f32) : Vec F S1x4x256x100 .f32 :=
  View.ld X (Rect.unit (s := S1x4x1024x100) ![0, 0, 512, 0] S1x4x256x100.size inb_S1x4x1024x100_S1x4x256x100_0_0_512_0)
abbrev quarter3 (X : S1x4x1024x100.Idx → F .f32) : Vec F S1x4x256x100 .f32 :=
  View.ld X (Rect.unit (s := S1x4x1024x100) ![0, 0, 768, 0] S1x4x256x100.size inb_S1x4x1024x100_S1x4x256x100_0_0_768_0)

/-- The largest projections. -/
def blockMax (X : S1x4x1024x100.Idx → F .f32) (Wt : S64x4.Idx → F .f32) : S1x64x8x128.Idx → F .f32 :=
  k0_pay23 (k0_pay4 (quarter0 X) Wt) (k0_pay10 (quarter1 X) Wt) (k0_pay15 (quarter2 X) Wt) (k0_pay20 (k0_pay18 (quarter3 X)) Wt)

/-- The moments, at the block numbered `a` in its half. -/
def blockMom (a : BitVec 32) (X : S1x4x1024x100.Idx → F .f32) : S5x5.Idx → F .f32 :=
  k0_pay22 (k0_pay17 (k0_pay13 a (k0_pay8 a (k0_pay3 (quarter0 X)) (iota .tc S4x32768 32 [1] iota_S4x32768_d1_w32) k0_pay5 k0_pay6 k0_pay7)
      (k0_pay9 (quarter1 X)) (iota .tc S4x32768 32 [1] iota_S4x32768_d1_w32) k0_pay11 k0_pay12)
    (k0_pay14 (quarter2 X)) (iota .tc S4x32768 32 [1] iota_S4x32768_d1_w32) k0_pay16 (Scalar.muli a 1024#32))
    (k0_pay19 (k0_pay18 (quarter3 X))) (iota .tc S4x32768 32 [1] iota_S4x32768_d1_w32) k0_pay21 (Scalar.addi (Scalar.muli a 1024#32) 768#32) 128#32

/-- Whether the block is the first of all. -/
def isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

instance (i : grid0.Coords) : Decidable (isFirst i) := by unfold isFirst; infer_instance

/-- The moments so far, with the block's. -/
def blockAcc (i : grid0.Coords) (X : S1x4x1024x100.Idx → F .f32) (Y : S8x128.Idx → F .f32) : S8x128.Idx → F .f32 :=
  k0_pay2 (blockMom (BitVec.ofNat 32 (i 1).val) X) (if isFirst i then k0_pay1 else Y)

set_option maxHeartbeats 2000000 in
/-- The body on one block. -/
theorem block_run (d : Dev nD) (i : grid0.Coords) (arg2 : Memref sig .tc .vmem S1x4x1024x100 .f32) (harg2 : arg2.IsWhole) (arg3 : Memref sig .tc .vmem S64x4 .f32) (harg3 : arg3.IsWhole)
    (arg4 : Memref sig .tc .vmem S1x64x8x128 .f32) (harg4 : arg4.IsWhole) (arg5 : Memref sig .tc .vmem S8x128 .f32) (harg5 : arg5.IsWhole)
    (X : S1x4x1024x100.Idx → F .f32) (Wt : S64x4.Idx → F .f32) (Z : S1x64x8x128.Idx → F .f32) (Y : S8x128.Idx → F .f32) (Q : PUnit → sProp 𝕄) :
    iprop(owns (d : Thread nD τ) arg2 fullShare X ∗ owns (d : Thread nD τ) arg3 fullShare Wt ∗ owns (d : Thread nD τ) arg4 fullShare Z ∗ owns (d : Thread nD τ) arg5 fullShare Y
        ∗ (iprop(owns (d : Thread nD τ) arg2 fullShare X ∗ owns (d : Thread nD τ) arg3 fullShare Wt
            ∗ owns (d : Thread nD τ) arg4 fullShare (blockMax X Wt) ∗ owns (d : Thread nD τ) arg5 fullShare (blockAcc i X Y)) -∗ Q ⟨⟩))
      ⊢ wp frame (wpE (defs₀ (F := F)) 𝒱₀ d none) Set.univ (cc0__stage1_body i arg2 harg2 arg3 harg3 arg4 harg4 arg5 harg5) Q := by
  rw [cc0__stage1_body_eq_skeleton]; unfold cc0__stage1_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  by_cases h : isFirst i
  · have h' := h
    unfold isFirst at h'
    iintro ⟨⟨%f2, %e2, H2⟩, ⟨%f3, %e3, H3⟩, ⟨%f4, -, H4⟩, ⟨%f5, %e5, H5⟩, Hk⟩
    subst e2 e3 e5
    sl_exec
    sl_step
    iapply Hk
    isplitl [H2]
    · iexists f2; isplitr; · ipureintro; rfl
      iexact H2
    isplitl [H3]
    · iexists f3; isplitr; · ipureintro; rfl
      iexact H3
    isplitl [H4]
    · iexists _; isplitr; swap; · iexact H4
      ipureintro
      refine (View.read_writes_full arg4.view f4 _ _ _).trans ?_
      rw [← View.readAt_full arg3.view f3 inb_S64x4_S64x4_0_0]
      rfl
    · iexists _; isplitr; swap; · iexact H5
      ipureintro
      refine (View.read_writes_full arg5.view f5 _ _ _).trans ?_
      unfold blockAcc
      rw [if_pos h]
      exact congrArg (k0_pay2 _) (View.readCov_full (Val := Elt F) arg5.view inb_S8x128_S8x128_0_0 inb_S8x128_S8x128_0_0 (k0_pay1 (F := F)) [])
  · have h' := h
    unfold isFirst at h'
    iintro ⟨⟨%f2, %e2, H2⟩, ⟨%f3, %e3, H3⟩, ⟨%f4, -, H4⟩, ⟨%f5, %e5, H5⟩, Hk⟩
    subst e2 e3 e5
    sl_exec
    sl_step
    iapply Hk
    isplitl [H2]
    · iexists f2; isplitr; · ipureintro; rfl
      iexact H2
    isplitl [H3]
    · iexists f3; isplitr; · ipureintro; rfl
      iexact H3
    isplitl [H4]
    · iexists _; isplitr; swap; · iexact H4
      ipureintro
      refine (View.read_writes_full arg4.view f4 _ _ _).trans ?_
      rw [← View.readAt_full arg3.view f3 inb_S64x4_S64x4_0_0]
      rfl
    · iexists _; isplitr; swap; · iexact H5
      ipureintro
      refine (View.read_writes_full arg5.view f5 _ _ _).trans ?_
      unfold blockAcc
      rw [if_neg h, ← View.readAt_full arg5.view f5 inb_S8x128_S8x128_0_0]
      rfl

end Cert.KernelIdeal.Tile

end
-- ==== Proof.RegionIdeal.lean ====
/-
  The first call as a whole, all blocks of its grid: what the arrays hold when it ends.
-/
module

public import proofs.«01_k».proof.Proof.BlockIdeal
public import Idealize.ShloMosaic.Lib.Pipeline.RegionArrays
public import Idealize.ShloMosaic.Lib.Pipeline.ArrRel

@[expose] public section

noncomputable section

namespace Cert.KernelIdeal.Tile

open Cert.KernelIdeal Cert.KernelIdeal.Gen Cert.Scatter

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F]

/-! ## The first call: its 24 blocks -/

variable (m : (ℓ : Loc nD τ sig) → Buf (Elt F) ℓ)

/-- What array `w` of the call holds when it starts. -/
abbrev entry (d : Dev nD) (w : Fin cfg0.W) : Buf (Elt F) ((cfg0.win w).arr.view.loc (d.tc : Thread nD τ)) := m _

/-- The points of block `t` as the call finds them: the array's, and `dj` where the block passes the array's end. -/
def xBlk (d : Dev nD) (t : Fin cfg0.N) (dj : S1x4x1024x100.Idx → F .f32) : S1x4x1024x100.Idx → F .f32 :=
  (cfg0.win 0).fill (cfg0.grid.coords t) dj (((cfg0.win 0).blk t).view.read (Elt F) (entry m d 0))

/-- The weights as the call finds them. -/
def wBlk (d : Dev nD) (dw : S64x4.Idx → F .f32) : S64x4.Idx → F .f32 :=
  (cfg0.win 1).fill (cfg0.grid.coords (0 : Fin 24)) dw (((cfg0.win 1).blk (0 : Fin 24)).view.read (Elt F) (entry m d 1))

variable (b : ℕ)

/-- What the body leaves of each block, beside what it found. -/
def rd (d : Dev nD) : Pipeline.RDat τ (Elt F) (HIx 1) ℕ UU ℕ cfg0 d where
  A := entry m d
  after := fun
    | 0 => fun _ Y X => X = Y
    | 1 => fun _ Y X => X = Y
    | 2 => fun t _ X => ∃ dj dw, X = blockMax (xBlk m d t dj) (wBlk m d dw)
    | 3 => fun t Y X => ∃ dj, X = blockAcc (grid0.coords t) (xBlk m d t dj) Y
    | ⟨_ + 4, h⟩ => absurd h (Nat.not_lt.2 (Nat.le_add_left _ _))
  Φ := fun _ => iprop(emp)
  q := fun _ => fullShare
  owed := fun _ => (K (F := F)).Otc d 0
  recorded := fun _ => {p | (K (F := F)).lev (SparseCore.T d, p.1) p.2 ≤ b}

theorem finds_x (d : Dev nD) (t : Fin cfg0.N) (X) (h : (rd m b d).Finds 0 t X) : ∃ dj, X = xBlk m d t dj :=
  ((rd m b d).finds_of_fetch (fetch0_0 t) X).mp h

theorem flush0_1 : ∀ t : Fin cfg0.N, (cfg0.win 1).flush t = false :=
  (by decide : ∀ t : Fin grid0.N, win0_1.flush t = false)

theorem finds_w (d : Dev nD) : ∀ (n : ℕ) (hn : n < cfg0.N) (X), (rd m b d).Finds 1 ⟨n, hn⟩ X → ∃ dw, X = wBlk m d dw := by
  intro n
  induction n with
  | zero => exact fun hn X h => ((rd m b d).finds_of_fetch ((fetch0_1 ⟨0, hn⟩).mpr rfl) X).mp h
  | succ n ih =>
    intro hn X h
    have hf : (cfg0.win 1).fetch ⟨n + 1, hn⟩ = false := by
      rw [← Bool.not_eq_true, fetch0_1]
      have : n + 1 < 24 := lt_of_lt_of_eq hn N_0
      show ¬ (n + 1) % 24 = 0
      omega
    rcases ((rd m b d).finds_of_pos hf (Nat.succ_ne_zero n) X).mp h with h | ⟨Y, hY, e⟩
    · exact absurd ((flush0_1 _).symm.trans h) Bool.false_ne_true
    · obtain ⟨dw, rfl⟩ := ih (Nat.lt_of_succ_lt hn) Y hY
      exact ⟨dw, e⟩

theorem hbody (d : Dev nD) : (rd m b d).BodyObligation (defs₀ (F := F)) 𝒱₀ (none : HIx 1) Set.univ := by
  intro t Y hY
  obtain ⟨dj, e0⟩ := finds_x m b d t (Y 0) (hY 0)
  obtain ⟨dw, e1⟩ := finds_w m b d t.val t.isLt (Y 1) (hY 1)
  rw [bigSep_W0, bigSep_W0]
  have hrun := block_run (F := F) d (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3)) (Y 0) (Y 1) (Y 2) (Y 3)
  show _ ⊢ wp frame (wpE (defs₀ (F := F)) 𝒱₀ d none) Set.univ (bodyAt0 t) _
  iintro ⟨-, HO, H0, H1, H2, H3⟩
  iapply (hrun _) $$ [HO H0 H1 H2 H3]
  isplitl [H0]; · iexact H0
  isplitl [H1]; · iexact H1
  isplitl [H2]; · iexact H2
  isplitl [H3]; · iexact H3
  iintro ⟨H0, H1, H2, H3⟩
  isplitr; · iempintro
  isplitl [HO]; · iexact HO
  isplitl [H0]
  · iexists (Y 0); isplitr; · ipureintro; rfl
    iexact H0
  isplitl [H1]
  · iexists (Y 1); isplitr; · ipureintro; rfl
    iexact H1
  isplitl [H2]
  · iexists _; isplitr; swap; · iexact H2
    ipureintro; exact ⟨dj, dw, by rw [e0, e1]⟩
  · iexists _; isplitr; swap; · iexact H3
    ipureintro; exact ⟨dj, by rw [e0]⟩

theorem Otc_none (d : Dev nD) (n : ℕ) (g : GSem nD τ sig) : (K (F := F)).Otc d n g none = 0 := by
  rcases Nat.eq_zero_or_pos ((K (F := F)).Otc d n g none) with h | h
  · exact h
  · exact absurd ((K (F := F)).lev_of_Otc_pos h) (by simp)

abbrev rds : (p : Fin 1) → (d : Dev nD) → Pipeline.RDat τ (Elt F) (HIx 1) ℕ UU ℕ (Pipeline.pin (pcfgs (F := F)) (fun p => (cfgs p).toPCfg_adm) p) d :=
  fun | 0 => rd m b | ⟨_ + 1, h⟩ => absurd h (Nat.not_lt.2 (Nat.le_add_left _ _))

/-- What the TensorCore owes and has waited for. -/
abbrev owedT (d : Dev nD) : sProp 𝕄 := iprop(∃ W, ⌜(K (F := F)).WBelow (SparseCore.T d) W b⌝ ∗ owes (SparseCore.T d) ((K (F := F)).Otc d 0) W)

theorem owesAt_of (d : Dev nD) (t : Fin (cfg0.N + 1)) : owedT (F := F) b d ⊢ (rd m b d).owesAt none t := by
  unfold Pipeline.RDat.owesAt Pipeline.owesWithin Pipeline.RDat.bound
  iintro ⟨%W, %hW, HO⟩
  iexists W; isplitr
  · ipureintro; exact fun p hp => Or.inl (hW p hp)
  iexact HO

theorem of_owesAt (d : Dev nD) (t : Fin (cfg0.N + 1)) : (rd m b d).owesAt none t ⊢ owedT (F := F) b d := by
  unfold Pipeline.RDat.owesAt Pipeline.owesWithin Pipeline.RDat.bound
  iintro ⟨%W, %hW, HO⟩
  iexists W; isplitr
  · ipureintro
    intro p hp
    rcases hW hp with h | ⟨w, s, rfl⟩
    · exact h
    · exact Nat.zero_le b
  iexact HO

/-- The call, from its four arrays. -/
def region : Pipeline.RDat.RegionSeg (pcfgs (F := F)) (fun p => (cfgs p).toPCfg_adm) (rds m b) (none : HIx 1) (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody := hbody m b
  hwaits d := Pipeline.RDat.cellsWaits_intro _ _ _ _ _ fun w s t => (K (F := F)).mayWait_none _ (Otc_none d 0)
  pre d := iprop((rd m b d).arrays (rd m b d).A ∗ owedT b d)
  post d := iprop((rd m b d).arraysAt cfg0.N ∗ owedT b d)
  X _ := iprop(emp)
  Y _ := iprop(emp)
  Z _ := iprop(emp)
  hentry d := by
    rw [Pipeline.ownSems0_none, Pipeline.prefHeld_of_none _ rfl]
    iintro ⟨⟨Ha, HO⟩, -, -⟩
    imodintro
    isplitl [Ha]; · iexact Ha
    isplitr; · iempintro
    isplitl [HO]
    · iapply (owesAt_of m b d 0); iexact HO
    isplitr <;> iempintro
  hin d := by
    show _ ⊢ iprop(emp)
    iintro -
    iempintro
  hout d := by
    rw [Pipeline.ownSems0_none]
    show _ ⊢ iprop(emp ∗ emp ∗ Pipeline.scopedRest spec0 d)
    rw [scopedRest0_eq]
    iintro -
    isplitr; · iempintro
    isplitr <;> iempintro
  hexit d := by
    iintro ⟨Ha, HO, -, -⟩
    imodintro
    isplitl [Ha]; · iexact Ha
    iapply (of_owesAt m b d _); iexact HO

end Cert.KernelIdeal.Tile

end
-- ==== Proof.MainIdeal.lean ====
/-
  The run of the whole program: the first call, the host code, and the scatter on all tiles.
-/
module

public import proofs.«01_k».proof.Proof.RegionIdeal

@[expose] public section

noncomputable section

namespace Cert.KernelIdeal.Tile

open Cert.KernelIdeal Cert.KernelIdeal.Gen Cert.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held)

variable {F : FTy → Type}

local notation "mwM" => (Memref.whole Cert.KernelIdeal.main_v0_0_scv : Memref Cert.KernelIdeal.sig Kind.scVector Space.hbm Cert.KernelIdeal.S2x64x96x128 EltTy.f32)
local notation "ipM" => (Memref.whole Cert.KernelIdeal.main_v23_scv : Memref Cert.KernelIdeal.sig Kind.scVector Space.hbm Cert.KernelIdeal.S2x2x96x128 EltTy.i32)
local notation "sbM" => (Memref.whole Cert.KernelIdeal.main_v20_scv : Memref Cert.KernelIdeal.sig Kind.scVector Space.hbm Cert.KernelIdeal.S128 EltTy.f32)
local notation "outM" => (Memref.whole Cert.KernelIdeal.main_v24_scv : Memref Cert.KernelIdeal.sig Kind.scVector Space.hbm Cert.KernelIdeal.S2x64x496x432 EltTy.f32)
local notation "rowM" => (Memref.whole Cert.KernelIdeal.cc1_scratch0 : Memref Cert.KernelIdeal.sig Kind.scVector Space.vmem Cert.KernelIdeal.S96x128 EltTy.i32)
local notation "colM" => (Memref.whole Cert.KernelIdeal.cc1_scratch1 : Memref Cert.KernelIdeal.sig Kind.scVector Space.vmem Cert.KernelIdeal.S96x128 EltTy.i32)
local notation "canM" => (Memref.whole Cert.KernelIdeal.cc1_scratch2 : Memref Cert.KernelIdeal.sig Kind.scVector Space.vmem Cert.KernelIdeal.S144x432 EltTy.f32)
local notation "valM" => (Memref.whole Cert.KernelIdeal.cc1_scratch3 : Memref Cert.KernelIdeal.sig Kind.scVector Space.vmem Cert.KernelIdeal.S96x128 EltTy.f32)
local notation "tabM" => (Memref.whole Cert.KernelIdeal.cc1_scratch4 : Memref Cert.KernelIdeal.sig Kind.scVector Space.vmem Cert.KernelIdeal.S128 EltTy.f32)
local notation "flgM" => (Memref.whole Cert.KernelIdeal.cc1_scratch5 : Memref Cert.KernelIdeal.sig Kind.scVector Space.smem Cert.KernelIdeal.S96 EltTy.i32)

local notation "ARGS" x => x mwM (Memref.isWhole_whole _) ipM (Memref.isWhole_whole _) sbM (Memref.isWhole_whole _) outM (Memref.isWhole_whole _) rowM (Memref.isWhole_whole _) colM (Memref.isWhole_whole _) canM (Memref.isWhole_whole _) valM (Memref.isWhole_whole _) tabM (Memref.isWhole_whole _) flgM (Memref.isWhole_whole _) cc1_scoped0 cc1_scoped1 cc1_scoped2 cc1_scoped3 cc1_scoped4 cc1_scoped5

local notation "𝕄" => MT nD τ sig (HIx 1) (Elt F) ℕ UU ℕ

variable [FloatOps F] {d : Dev nD} {i : grid1.Coords}

/-! ## The host's operations between the two calls -/

/-- The operations, in order. -/
def hostOps : List (HloOp τ sig (Elt F)) :=
  [StableHlo.unary main_v0_1 main_v1 ((extractStridedSlice S4x4 ![0, 0] · slices_S8x128_S4x4_0_0) : (⟨S8x128, .f32⟩ : BufTy).Contents (Elt F) → (⟨S4x4, .f32⟩ : BufTy).Contents (Elt F)),
   StableHlo.nullary main_cst (constant S_ .f32 0x4A127C00#32),
   StableHlo.unary main_cst main_v2 (broadcastInDim S4x4 ![] bcast_S_S4x4 : (⟨S_, .f32⟩ : BufTy).Contents (Elt F) → (⟨S4x4, .f32⟩ : BufTy).Contents (Elt F)),
   StableHlo.binary main_v1 main_v2 main_v3 (Host.divf : (⟨S4x4, .f32⟩ : BufTy).Contents (Elt F) → (⟨S4x4, .f32⟩ : BufTy).Contents (Elt F) → (⟨S4x4, .f32⟩ : BufTy).Contents (Elt F)),
   StableHlo.unary main_v0_1 main_v4 ((extractStridedSlice S1x4 ![4, 0] · slices_S8x128_S1x4_4_0) : (⟨S8x128, .f32⟩ : BufTy).Contents (Elt F) → (⟨S1x4, .f32⟩ : BufTy).Contents (Elt F)),
   StableHlo.reshape main_v4 main_v5 (rfl : (.f32 : EltTy) = .f32) shapeCasts_S1x4_S4,
   StableHlo.nullary main_cst_0 (constant S_ .f32 0x4A127C00#32),
   StableHlo.unary main_cst_0 main_v6 (broadcastInDim S4 ![] bcast_S_S4 : (⟨S_, .f32⟩ : BufTy).Contents (Elt F) → (⟨S4, .f32⟩ : BufTy).Contents (Elt F)),
   StableHlo.binary main_v5 main_v6 main_v7 (Host.divf : (⟨S4, .f32⟩ : BufTy).Contents (Elt F) → (⟨S4, .f32⟩ : BufTy).Contents (Elt F) → (⟨S4, .f32⟩ : BufTy).Contents (Elt F)),
   StableHlo.binary main_arg2 main_v7 main_v8 ((fun l r => Host.dotGeneral dot_S64x4_S4_S64_1_0_0_n_n_n none l r) : (⟨S64x4, .f32⟩ : BufTy).Contents (Elt F) → (⟨S4, .f32⟩ : BufTy).Contents (Elt F) → (⟨S64, .f32⟩ : BufTy).Contents (Elt F)),
   StableHlo.binary main_arg2 main_v3 main_v9 ((fun l r => Host.dotGeneral dot_S64x4_S4x4_S64x4_1_0_0_1_n_n none l r) : (⟨S64x4, .f32⟩ : BufTy).Contents (Elt F) → (⟨S4x4, .f32⟩ : BufTy).Contents (Elt F) → (⟨S64x4, .f32⟩ : BufTy).Contents (Elt F)),
   StableHlo.binary main_v9 main_arg2 main_v10 (mulf : (⟨S64x4, .f32⟩ : BufTy).Contents (Elt F) → (⟨S64x4, .f32⟩ : BufTy).Contents (Elt F) → (⟨S64x4, .f32⟩ : BufTy).Contents (Elt F)),
   StableHlo.nullary main_cst_1 (constant S_ .f32 0x00000000#32),
   StableHlo.binary main_v10 main_cst_1 main_v11 ((fun x v => Host.reduceAdd x v reducesTo_S64x4_S64_d1 h_S_) : (⟨S64x4, .f32⟩ : BufTy).Contents (Elt F) → (⟨S_, .f32⟩ : BufTy).Contents (Elt F) → (⟨S64, .f32⟩ : BufTy).Contents (Elt F)),
   StableHlo.binary main_v8 main_v8 main_v12 (mulf : (⟨S64, .f32⟩ : BufTy).Contents (Elt F) → (⟨S64, .f32⟩ : BufTy).Contents (Elt F) → (⟨S64, .f32⟩ : BufTy).Contents (Elt F)),
   StableHlo.binary main_v11 main_v12 main_v13 (subf : (⟨S64, .f32⟩ : BufTy).Contents (Elt F) → (⟨S64, .f32⟩ : BufTy).Contents (Elt F) → (⟨S64, .f32⟩ : BufTy).Contents (Elt F)),
   StableHlo.nullary main_cst_2 (constant S_ .f32 0x3727C5AC#32),
   StableHlo.unary main_cst_2 main_v14 (broadcastInDim S64 ![] bcast_S_S64 : (⟨S_, .f32⟩ : BufTy).Contents (Elt F) → (⟨S64, .f32⟩ : BufTy).Contents (Elt F)),
   StableHlo.binary main_v13 main_v14 main_v15 (addf : (⟨S64, .f32⟩ : BufTy).Contents (Elt F) → (⟨S64, .f32⟩ : BufTy).Contents (Elt F) → (⟨S64, .f32⟩ : BufTy).Contents (Elt F)),
   StableHlo.unary main_v15 main_v16 (Host.rsqrt : (⟨S64, .f32⟩ : BufTy).Contents (Elt F) → (⟨S64, .f32⟩ : BufTy).Contents (Elt F)),
   StableHlo.binary main_arg3 main_v16 main_v17 (mulf : (⟨S64, .f32⟩ : BufTy).Contents (Elt F) → (⟨S64, .f32⟩ : BufTy).Contents (Elt F) → (⟨S64, .f32⟩ : BufTy).Contents (Elt F)),
   StableHlo.binary main_v8 main_v17 main_v18 (mulf : (⟨S64, .f32⟩ : BufTy).Contents (Elt F) → (⟨S64, .f32⟩ : BufTy).Contents (Elt F) → (⟨S64, .f32⟩ : BufTy).Contents (Elt F)),
   StableHlo.binary main_arg4 main_v18 main_v19 (subf : (⟨S64, .f32⟩ : BufTy).Contents (Elt F) → (⟨S64, .f32⟩ : BufTy).Contents (Elt F) → (⟨S64, .f32⟩ : BufTy).Contents (Elt F)),
   StableHlo.binary main_v17 main_v19 main_v20 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
   StableHlo.unary main_arg1 main_v21 ((transpose S2x2x12000 [0, 2, 1] · transposes_S2x12000x2_S2x2x12000_0_2_1) : (⟨S2x12000x2, .i32⟩ : BufTy).Contents (Elt F) → (⟨S2x2x12000, .i32⟩ : BufTy).Contents (Elt F)),
   StableHlo.nullary main_c (constantI S_ 32 0#32),
   StableHlo.TRef.unary (.of main_c : StableHlo.TRef sig ⟨S_, .i32⟩) main_call0.v0 id,
   StableHlo.TRef.binary (.of main_v21 : StableHlo.TRef sig ⟨S2x2x12000, .i32⟩) main_call0.v0 main_call0.v1 (fun x v => pad S2x2x12288 ![0, 0, 0] ![0, 0, 288] ![0, 0, 0] x v pads_S2x2x12000_S2x2x12288_000_000_02880 h_S_),
   StableHlo.reshape main_v22 main_v23 (rfl : (.i32 : EltTy) = .i32) shapeCasts_S2x2x12288_S2x2x96x128]

/-- The first call. -/
abbrev firstCall : Prog (TpuEff nD τ sig (Elt F) (ΛP (F := F)) .tc) PUnit :=
  .op (.customCall (Pipeline.entry (Λ₀ := Λ₀) (P := Fin 1) (A := fun p => (pcfgs (F := F) p).Adm) 0) ()) fun x => .ret x

theorem main_eq (d : Dev nD) : main (F := F) d = (SparseCore.liftProg (firstCall (F := F)) >>= fun _ => (StableHlo.seq (hostOps (F := F)) >>= fun _ => (sc (F := F)).run d 0)) := rfl

/-! ## What the host hands the tiles -/

/-- The pillars' numbers as the tiles read them, from the argument: rows first, columns second, 12288 of them, by 96 rows of 128. -/
def hostIP (idx : S2x12000x2.Idx → BitVec 32) : S2x2x96x128.Idx → BitVec 32 :=
  shapeCast S2x2x96x128 (pad S2x2x12288 ![0, 0, 0] ![0, 0, 288] ![0, 0, 0] (transpose S2x2x12000 [0, 2, 1] idx transposes_S2x12000x2_S2x2x12000_0_2_1)
    (constantI S_ 32 0#32) pads_S2x2x12000_S2x2x12288_000_000_02880 h_S_) shapeCasts_S2x2x12288_S2x2x96x128

/-- The mean of each channel, from the moments and the weights. -/
def hostMean (st : S8x128.Idx → F .f32) (w : S64x4.Idx → F .f32) : S64.Idx → F .f32 :=
  Host.dotGeneral dot_S64x4_S4_S64_1_0_0_n_n_n none w
    (Host.divf (shapeCast S4 (extractStridedSlice S1x4 ![4, 0] st slices_S8x128_S1x4_4_0) shapeCasts_S1x4_S4) (broadcastInDim S4 ![] bcast_S_S4 (constant S_ .f32 0x4A127C00#32)))

/-- The mean of each channel's square. -/
def hostSq (st : S8x128.Idx → F .f32) (w : S64x4.Idx → F .f32) : S64.Idx → F .f32 :=
  Host.reduceAdd (mulf (Host.dotGeneral dot_S64x4_S4x4_S64x4_1_0_0_1_n_n none w
      (Host.divf (extractStridedSlice S4x4 ![0, 0] st slices_S8x128_S4x4_0_0) (broadcastInDim S4x4 ![] bcast_S_S4x4 (constant S_ .f32 0x4A127C00#32)))) w)
    (constant S_ .f32 0x00000000#32) reducesTo_S64x4_S64_d1 h_S_

/-- The variance of each channel. -/
def hostVar (st : S8x128.Idx → F .f32) (w : S64x4.Idx → F .f32) : S64.Idx → F .f32 :=
  subf (hostSq st w) (mulf (hostMean st w) (hostMean st w))

/-- The 64 scales. -/
def hostScale (var gamma : S64.Idx → F .f32) : S64.Idx → F .f32 :=
  mulf gamma (Host.rsqrt (addf var (broadcastInDim S64 ![] bcast_S_S64 (constant S_ .f32 0x3727C5AC#32))))

/-- The table of 64 scales and 64 shifts. -/
def hostSB (st : S8x128.Idx → F .f32) (w : S64x4.Idx → F .f32) (gamma beta : S64.Idx → F .f32) : S128.Idx → F .f32 :=
  concatenate S128 0 [⟨S64, hostScale (hostVar st w) gamma⟩, ⟨S64, subf beta (mulf (hostMean st w) (hostScale (hostVar st w) gamma))⟩] concatenates_S64_S64_S128_d0

abbrev dref (r : Ref sig .tc) : DevRef τ sig := Proc.devRef .tc r

theorem after_ip (V : Valuation τ sig (Elt F)) : StableHlo.after (hostOps (F := F)) V (dref main_v23) = hostIP (V (dref main_arg1)) := by
  unfold hostOps
  after_results
  rfl
theorem after_sb (V : Valuation τ sig (Elt F)) : StableHlo.after (hostOps (F := F)) V (dref main_v20)
    = hostSB (V (dref main_v0_1)) (V (dref main_arg2)) (V (dref main_arg3)) (V (dref main_arg4)) := by
  unfold hostOps
  after_results
  rfl
theorem after_mw (V : Valuation τ sig (Elt F)) : StableHlo.after (hostOps (F := F)) V (dref main_v0_0) = V (dref main_v0_0) := by unfold hostOps; after_results
theorem after_out (V : Valuation τ sig (Elt F)) : StableHlo.after (hostOps (F := F)) V (dref main_v24) = V (dref main_v24) := by unfold hostOps; after_results
theorem after_arg0 (V : Valuation τ sig (Elt F)) : StableHlo.after (hostOps (F := F)) V (dref main_arg0) = V (dref main_arg0) := by unfold hostOps; after_results
theorem after_arg1 (V : Valuation τ sig (Elt F)) : StableHlo.after (hostOps (F := F)) V (dref main_arg1) = V (dref main_arg1) := by unfold hostOps; after_results
theorem after_arg2 (V : Valuation τ sig (Elt F)) : StableHlo.after (hostOps (F := F)) V (dref main_arg2) = V (dref main_arg2) := by unfold hostOps; after_results
theorem after_arg3 (V : Valuation τ sig (Elt F)) : StableHlo.after (hostOps (F := F)) V (dref main_arg3) = V (dref main_arg3) := by unfold hostOps; after_results
theorem after_arg4 (V : Valuation τ sig (Elt F)) : StableHlo.after (hostOps (F := F)) V (dref main_arg4) = V (dref main_arg4) := by unfold hostOps; after_results

/-! ## The arrays -/

variable (m : (ℓ : Loc nD τ sig) → Buf (Elt F) ℓ) (ρ : Dev nD → PrngReg)

abbrev argX (d : Dev nD) : S2x4x12000x100.Idx → F .f32 := m ((SparseCore.T d).loc main_arg0)
abbrev argIdx (d : Dev nD) : S2x12000x2.Idx → BitVec 32 := m ((SparseCore.T d).loc main_arg1)
abbrev argW (d : Dev nD) : S64x4.Idx → F .f32 := m ((SparseCore.T d).loc main_arg2)
abbrev argGamma (d : Dev nD) : S64.Idx → F .f32 := m ((SparseCore.T d).loc main_arg3)
abbrev argBeta (d : Dev nD) : S64.Idx → F .f32 := m ((SparseCore.T d).loc main_arg4)

/-- What the first call may leave: the pillars' largest projections and the moments. -/
def Leaves (d : Dev nD) (MW : S2x64x96x128.Idx → F .f32) (ST : S8x128.Idx → F .f32) : Prop :=
  (rd m 0 d).ArrAt 2 cfg0.N MW ∧ (rd m 0 d).ArrAt 3 cfg0.N ST

variable (MW : S2x64x96x128.Idx → F .f32) (ST : S8x128.Idx → F .f32)

/-- The arrays after the first call, -/
def V0 (d : Dev nD) : Valuation τ sig (Elt F) := Function.update (Function.update (fun b => m (d, b)) (dref main_v0_0) MW) (dref main_v0_1) ST
/-- after the host's operations, -/
def V1 (d : Dev nD) : Valuation τ sig (Elt F) := StableHlo.after (hostOps (F := F)) (V0 m MW ST d)

theorem V0_st (d : Dev nD) : V0 m MW ST d (dref main_v0_1) = ST := Function.update_self _ _ _
theorem V0_mw (d : Dev nD) : V0 m MW ST d (dref main_v0_0) = MW := (Function.update_of_ne (by decide) _ _).trans (Function.update_self _ _ _)
theorem V0_ne (d : Dev nD) {b : DevRef τ sig} (h : b ≠ dref main_v0_0) (h' : b ≠ dref main_v0_1) : V0 m MW ST d b = m (d, b) :=
  (Function.update_of_ne h' _ _).trans (Function.update_of_ne h _ _)

abbrev IPm (d : Dev nD) : S2x2x96x128.Idx → BitVec 32 := hostIP (argIdx m d)
abbrev SBm (d : Dev nD) : S128.Idx → F .f32 := hostSB ST (argW m d) (argGamma m d) (argBeta m d)
abbrev Gm (d : Dev nD) : S2x64x496x432.Idx → F .f32 := m (oLoc d)
/-- What the tiles know of the two float arrays that they read. -/
def OKm (d : Dev nD) (MW : S2x64x96x128.Idx → F .f32) (SB : S128.Idx → F .f32) : Prop := ∃ ST, Leaves m d MW ST ∧ SB = SBm m ST d

/-- The result, from the arguments and what the first call leaves. -/
abbrev resultOf (d : Dev nD) : S2x64x496x432.Idx → F .f32 := outOf (IPm m) MW (SBm m ST d) d

/-- and when the second call has ended. -/
def V2 (d : Dev nD) : Valuation τ sig (Elt F) := Function.update (V1 m MW ST d) (dref main_v24) (resultOf m MW ST d)

theorem V1_ip (d : Dev nD) : V1 m MW ST d (dref main_v23) = IPm m d := (after_ip _).trans (congrArg hostIP (V0_ne m MW ST d (by decide) (by decide)))
theorem V1_sb (d : Dev nD) : V1 m MW ST d (dref main_v20) = SBm m ST d := by
  unfold V1
  rw [after_sb, V0_st, V0_ne m MW ST d (by decide) (by decide), V0_ne m MW ST d (by decide) (by decide), V0_ne m MW ST d (by decide) (by decide)]
theorem V1_mw (d : Dev nD) : V1 m MW ST d (dref main_v0_0) = MW := (after_mw _).trans (V0_mw m MW ST d)
theorem V1_out (d : Dev nD) : V1 m MW ST d (dref main_v24) = Gm m d := (after_out _).trans (V0_ne m MW ST d (by decide) (by decide))
theorem V1_arg0 (d : Dev nD) : V1 m MW ST d (dref main_arg0) = m (d, dref main_arg0) := (after_arg0 _).trans (V0_ne m MW ST d (by decide) (by decide))
theorem V1_arg1 (d : Dev nD) : V1 m MW ST d (dref main_arg1) = m (d, dref main_arg1) := (after_arg1 _).trans (V0_ne m MW ST d (by decide) (by decide))
theorem V1_arg2 (d : Dev nD) : V1 m MW ST d (dref main_arg2) = m (d, dref main_arg2) := (after_arg2 _).trans (V0_ne m MW ST d (by decide) (by decide))
theorem V1_arg3 (d : Dev nD) : V1 m MW ST d (dref main_arg3) = m (d, dref main_arg3) := (after_arg3 _).trans (V0_ne m MW ST d (by decide) (by decide))
theorem V1_arg4 (d : Dev nD) : V1 m MW ST d (dref main_arg4) = m (d, dref main_arg4) := (after_arg4 _).trans (V0_ne m MW ST d (by decide) (by decide))

abbrev Pm : (K (F := F)).Pay (nD := nD) (Val := Elt F) (Name := ℕ) (U := UU) := P (IPm m) (OKm m) (Gm m)

/-- The TensorCore's arrays. -/
abbrev SS : Finset (DevRef τ sig) := Pipeline.ucRefs τ sig
/-- The arrays of the first call, -/
abbrev S0 : Finset (DevRef τ sig) := {dref main_arg0, dref main_arg2, dref main_v0_0, dref main_v0_1}
/-- and of the second. -/
abbrev S4 : Finset (DevRef τ sig) := {dref main_v0_0, dref main_v23, dref main_v20, dref main_v24}

theorem mem_SS (r : Ref sig .tc) (hr : (dref r).isScoped = false) : dref r ∈ SS :=
  Finset.mem_filter.mpr ⟨StableHlo.devRef_mem_tcRefs r, by rw [hr]; exact Bool.false_ne_true⟩
theorem S0_sub : S0 ⊆ SS := fun b hb => by
  simp only [S0, Finset.mem_insert, Finset.mem_singleton] at hb
  rcases hb with rfl | rfl | rfl | rfl <;> exact mem_SS _ rfl
theorem S4_sub : S4 ⊆ SS := fun b hb => by
  simp only [S4, Finset.mem_insert, Finset.mem_singleton] at hb
  rcases hb with rfl | rfl | rfl | rfl <;> exact mem_SS _ rfl

theorem V2_out (d : Dev nD) : V2 m MW ST d (dref main_v24) = resultOf m MW ST d := Function.update_self _ _ _
theorem V2_ne (d : Dev nD) {b : DevRef τ sig} (h : b ≠ dref main_v24) : V2 m MW ST d b = V1 m MW ST d b := Function.update_of_ne h _ _

theorem held_S4 (d : Dev nD) (W : Valuation τ sig (Elt F)) :
    (held (T d) S4 W : sProp 𝕄) = iprop((mwLoc d ↦{fullShare} W (dref main_v0_0)) ∗ (ipLoc d ↦{fullShare} W (dref main_v23))
      ∗ (sbLoc d ↦{fullShare} W (dref main_v20)) ∗ oLoc d ↦{fullShare} W (dref main_v24)) := by
  unfold held S4
  rw [SparseCore.bigSep_insert' (by decide), SparseCore.bigSep_insert' (by decide), SparseCore.bigSep_insert' (by decide), bigSep_singleton]

theorem held_S0 (d : Dev nD) (W : Valuation τ sig (Elt F)) :
    (held (T d) S0 W : sProp 𝕄) = iprop(((SparseCore.T d).loc main_arg0 ↦{fullShare} W (dref main_arg0)) ∗ ((SparseCore.T d).loc main_arg2 ↦{fullShare} W (dref main_arg2))
      ∗ ((SparseCore.T d).loc main_v0_0 ↦{fullShare} W (dref main_v0_0)) ∗ (SparseCore.T d).loc main_v0_1 ↦{fullShare} W (dref main_v0_1)) := by
  unfold held S0
  rw [SparseCore.bigSep_insert' (by decide), SparseCore.bigSep_insert' (by decide), SparseCore.bigSep_insert' (by decide), bigSep_singleton]

/-- The first call's arrays as it starts, -/
theorem arrays_start (d : Dev nD) : ((rd m 0 d).arrays (rd m 0 d).A : sProp 𝕄) = held (T d) S0 (fun b => m (d, b)) := by
  rw [held_S0]
  unfold Pipeline.RDat.arrays
  rw [bigSep_W0]
  simp only [(arr_whole0 0).set_eq_univ, (arr_whole0 1).set_eq_univ, (arr_whole0 2).set_eq_univ, (arr_whole0 3).set_eq_univ]
  rfl

/-- and as it ends. -/
theorem arrays_end (d : Dev nD) : ((rd m 0 d).arraysAt cfg0.N : sProp 𝕄) ⊢ iprop(∃ MW ST, ⌜Leaves m d MW ST⌝ ∗ held (T d) S0 (V0 m MW ST d)) := by
  unfold Pipeline.RDat.arraysAt
  rw [bigSep_W0, Pipeline.RDat.ArrAt_in _ 0 rfl, Pipeline.RDat.ArrAt_in _ 1 rfl]
  iintro ⟨⟨%f0, %h0, H0⟩, ⟨%f1, %h1, H1⟩, ⟨%MW, %h2, H2⟩, ⟨%ST, %h3, H3⟩⟩
  iexists MW; iexists ST
  isplitr; · ipureintro; exact ⟨h2, h3⟩
  rw [held_S0, V0_st, V0_mw, V0_ne m MW ST d (by decide) (by decide), V0_ne m MW ST d (by decide) (by decide)]
  subst h0 h1
  simp only [(arr_whole0 0).set_eq_univ, (arr_whole0 1).set_eq_univ, (arr_whole0 2).set_eq_univ, (arr_whole0 3).set_eq_univ]
  isplitl [H0]; · iexact H0
  isplitl [H1]; · iexact H1
  isplitl [H2]; · iexact H2
  iexact H3

theorem held_rest (d : Dev nD) : (held (T d) (SS \ S0) (fun b => m (d, b)) : sProp 𝕄) = held (T d) (SS \ S0) (V0 m MW ST d) :=
  StableHlo.held_congr (T d) fun b hb => (V0_ne m MW ST d (fun e => (Finset.mem_sdiff.mp hb).2 (by rw [e]; decide)) (fun e => (Finset.mem_sdiff.mp hb).2 (by rw [e]; decide))).symm

theorem rejoin (d : Dev nD) : iprop(held (T d) S0 (V0 m MW ST d) ∗ held (T d) (SS \ S0) (fun b => m (d, b))) ⊢ (held (T d) SS (V0 m MW ST d) : sProp 𝕄) := by
  rw [held_rest m MW ST d]
  exact Entails.of_eq (StableHlo.held_sub_split (T d) S0_sub _).symm

/-- The arrays before the second call are what the tiles take, what the TensorCore keeps of those, and the other arrays. -/
theorem held_before (d : Dev nD) :
    (held (T d) SS (V1 m MW ST d) : sProp 𝕄) = iprop((kept (IPm m) MW (SBm m ST d) d
      ∗ bigSep Finset.univ fun c : Fin 2 => bigSep Finset.univ fun s : Fin 16 => tilePay (IPm m) MW (SBm m ST d) d c s (Gm m d)) ∗ held (T d) (SS \ S4) (V1 m MW ST d)) := by
  rw [StableHlo.held_sub_split (T d) S4_sub, held_S4, V1_ip, V1_sb, V1_mw, V1_out]
  exact congrArg (fun A : sProp 𝕄 => iprop(A ∗ held (T d) (SS \ S4) (V1 m MW ST d))) (deal_all (IPm m) MW (SBm m ST d) d (Gm m d))

theorem held_after (d : Dev nD) :
    (held (T d) SS (V2 m MW ST d) : sProp 𝕄) = iprop((kept (IPm m) MW (SBm m ST d) d
      ∗ bigSep Finset.univ fun c : Fin 2 => bigSep Finset.univ fun s : Fin 16 => tilePay (IPm m) MW (SBm m ST d) d c s (resultOf m MW ST d)) ∗ held (T d) (SS \ S4) (V1 m MW ST d)) := by
  rw [StableHlo.held_sub_split (T d) S4_sub, held_S4, V2_out, V2_ne m MW ST d (by decide), V2_ne m MW ST d (by decide), V2_ne m MW ST d (by decide), V1_ip, V1_sb, V1_mw]
  rw [StableHlo.held_congr (T d) (S := SS \ S4) (V := V2 m MW ST d) (V' := V1 m MW ST d) fun b hb => V2_ne m MW ST d fun e => (Finset.mem_sdiff.mp hb).2 (by rw [e]; decide)]
  exact congrArg (fun A : sProp 𝕄 => iprop(A ∗ held (T d) (SS \ S4) (V1 m MW ST d))) (deal_all (IPm m) MW (SBm m ST d) d (resultOf m MW ST d))

/-! ## @main on the TensorCore -/

omit MW ST in
abbrev FIN (d : Dev nD) : sProp 𝕄 := iprop(∃ MW ST, ⌜Leaves m d MW ST⌝ ∗ held (T d) SS (V2 m MW ST d))

set_option maxHeartbeats 2000000 in
theorem hostOps_sub : ∀ op ∈ hostOps (F := F), op.bufs ⊆ SS := fun op h => Pipeline.sub_ucRefs op (by
  simp only [hostOps, List.mem_cons, List.not_mem_nil, or_false] at h
  rcases h with rfl | rfl | rfl | rfl | rfl | rfl | rfl | rfl | rfl | rfl | rfl | rfl | rfl | rfl | rfl | rfl | rfl | rfl | rfl | rfl | rfl | rfl | rfl | rfl | rfl | rfl | rfl | rfl | rfl <;>
    first
    | exact StableHlo.nullary_bufs_sub ..
    | exact StableHlo.unary_bufs_sub ..
    | exact StableHlo.binary_bufs_sub ..
    | exact StableHlo.reshape_bufs_sub ..)
theorem hostOps_fresh : ∀ op ∈ hostOps (F := F), op.fresh = ∅ := fun op h => by
  simp only [hostOps, List.mem_cons, List.not_mem_nil, or_false] at h
  rcases h with rfl | rfl | rfl | rfl | rfl | rfl | rfl | rfl | rfl | rfl | rfl | rfl | rfl | rfl | rfl | rfl | rfl | rfl | rfl | rfl | rfl | rfl | rfl | rfl | rfl | rfl | rfl | rfl | rfl <;> rfl

/-- The first call on a device's TensorCore. -/
theorem first_run (d : Dev nD) (Q : PUnit → sProp 𝕄) :
    iprop((iprop(boundary (SparseCore.T d) ∗ (∃ MW ST, ⌜Leaves m d MW ST⌝ ∗ held (T d) S0 (V0 m MW ST d)) ∗ owedT (F := F) 0 d) -∗ Q ⟨⟩)
        ∗ boundary (SparseCore.T d) ∗ held (T d) S0 (fun b => m (d, b)) ∗ owedT (F := F) 0 d ∗ levAts (K (F := F)).L (K (F := F)).lev ∗ dealt (F := F) d)
      ⊢ wp frame (wpE ((K (F := F)).defs (D (F := F))) 𝒱 (SparseCore.T d) none) Set.univ (SparseCore.liftProg (firstCall (F := F))) Q := by
  refine BIBase.Entails.trans ?_ ((K (F := F)).wp_liftProg (D (F := F)) 𝒱 (SparseCore.T d) Set.univ none (firstCall (F := F)) Q)
  refine BIBase.Entails.trans ?_ (Pipeline.RDat.RegionSeg.wp (pcfgs (F := F)) (fun p => (cfgs p).toPCfg_adm) (rds m 0) (none : HIx 1) cellOf_inj (EP (F := F)) (defs₀ (F := F)) 𝒱₀
    (K (F := F)).L (K (F := F)).lev (region m 0) d none (fun _ h => nomatch h) _ Q)
  rw [← arrays_start, show (region m 0).pre d = iprop((rd m 0 d).arrays (rd m 0 d).A ∗ owedT (F := F) 0 d) from rfl,
    show (region m 0).post d = iprop((rd m 0 d).arraysAt cfg0.N ∗ owedT (F := F) 0 d) from rfl]
  iintro ⟨Hk, Hb, Ha, HO, Hl, Hg, Ht⟩
  isplitl [Hk]
  · iintro ⟨Hb, Ha, HO⟩
    iapply (le_wp_ret _ _)
    iapply Hk
    isplitl [Hb]; · iexact Hb
    isplitl [Ha]; · iapply (arrays_end m d); iexact Ha
    iexact HO
  isplitl [Hb]; · iexact Hb
  isplitl [Ha HO]
  · isplitl [Ha]; · iexact Ha
    iexact HO
  isplitl [Hl]; · iexact Hl
  isplitl [Hg]; · iexact Hg
  iexact Ht

/-- @main on a device's TensorCore: the first call, the host's operations, then the second call. -/
theorem hmain (κ : GSem nD τ sig → ℕ) (d : Dev nD) :
    iprop((K (F := F)).ctx EH (Pm m) κ ∗ (K (F := F)).tcSt EH d 0 ∗ (K (F := F)).tcRes m ρ d ∗ dealt (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) SS (fun b => m (d, b)) from
    Pipeline.unscopedBufs_held d (fun b => m (d, b)), main_eq, wp_bind, StableHlo.held_sub_split (T d) S0_sub]
  iintro ⟨#Hctx, Hst, ⟨Hb, ⟨Hheld, Hrest⟩, Hts, -⟩, Hd⟩
  ihave Hlev := (SparseCore.Cfg.ctx_levAts κ) $$ Hctx
  ihave Hst' := (show (K (F := F)).tcSt EH d 0 ⊢ iprop(owedT (F := F) 0 d ∗ (owedT (F := F) 0 d -∗ (K (F := F)).tcSt EH d 0)) from by
    unfold SparseCore.Cfg.tcSt
    iintro ⟨HO, Hr⟩
    isplitl [HO]; · iexact HO
    iintro HO
    isplitl [HO]; · iexact HO
    iexact Hr) $$ Hst
  icases Hst' with ⟨HO, Hst⟩
  iapply (first_run m d _)
  isplitr [Hb Hheld HO Hlev Hd]
  swap
  · isplitl [Hb]; · iexact Hb
    isplitl [Hheld]; · iexact Hheld
    isplitl [HO]; · iexact HO
    isplitl [Hlev]; · iexact Hlev
    iexact Hd
  iintro ⟨Hb, ⟨%MW, %ST, %hL, Hheld⟩, HO⟩
  ihave Hst := Hst $$ HO
  ihave Hheld := (rejoin m MW ST d) $$ [Hheld Hrest]
  · isplitl [Hheld] <;> iassumption
  iapply (StableHlo.wp_seq 𝒱 none Set.univ d SS (fun _ => (sc (F := F)).run d 0) hostOps hostOps_sub hostOps_fresh (V0 m MW ST d)) $$ [Hb Hheld]
  · isplitl [Hb] <;> iassumption
  iintro ⟨Hb, Hheld⟩
  ihave Hh := (show (held (d.tc : Thread nD τ) SS (StableHlo.after (hostOps (F := F)) (V0 m MW ST d)) : sProp 𝕄) ⊢ _ from Entails.of_eq (held_before m MW ST d)) $$ Hheld
  icases Hh with ⟨⟨Hk, Hp⟩, Hr⟩
  ihave Hp := (scatter_all d (IPm m) MW (SBm m ST d) (OKm m) (Gm m) ⟨ST, hL, rfl⟩) $$ Hp
  iapply ((K (F := F)).wp_run (D (F := F)) 𝒱 (EH := EH) (P := Pm m) κ d 0) $$ [Hst Hp Hk Hr Hb Hts]
  isplitr; · iexact Hctx
  isplitl [Hst]; · iexact Hst
  isplitl [Hp]; · iexact Hp
  iintro ⟨Hst, Hdn⟩
  ihave Hg := (gather_all d (IPm m) MW (SBm m ST d) (OKm m)) $$ [Hk Hdn]
  · isplitl [Hk]; · iexact Hk
    iexact Hdn
  isplitl [Hst]; · iexact Hst
  isplitr [Hb Hts]
  · iexists MW; iexists ST
    isplitr; · ipureintro; exact hL
    rw [held_after m MW ST d]
    isplitr [Hr]; · iexact Hg
    iexact Hr
  isplitl [Hb] <;> iassumption

/-! ## The program's run -/

/-- At the end the arrays hold what `V2` says. -/
def fq (d : Dev nD) (s' : Phys nD τ sig (Elt F)) : Prop := ∃ MW ST, Leaves m d MW ST ∧ ∀ b ∈ SS, s'.mem.mem (d, b) = V2 m MW ST d b

theorem held_reads (d : Dev nD) (V : Valuation τ sig (Elt F)) (s' : Phys nD τ sig (Elt F)) : iprop(held (T d) SS V ∗ SI s') ⊢ (⌜∀ b ∈ SS, s'.mem.mem (d, b) = V b⌝ : sProp 𝕄) := by
  have one : ∀ b, b ∈ SS → iprop(held (T d) SS V ∗ SI s') ⊢ (⌜s'.mem.mem (d, b) = V b⌝ : sProp 𝕄) := fun b hb => by
    unfold held
    rw [SparseCore.bigSep_erase' hb]
    iintro ⟨⟨Hx, -⟩, HSI⟩
    ihave H := (SI_pointsTo_agree (st := s') (ℓ := (d, b)) (I := Finset.univ) (q := fullShare) (f := V b)) $$ [HSI Hx]
    · isplitl [HSI] <;> iassumption
    icases H with %hx
    ipureintro; exact funext fun i => hx i (Finset.mem_univ i)
  refine Entails.trans ?_ pure_forall.2
  refine forall_intro fun b => Entails.trans ?_ pure_forall.2
  exact forall_intro fun hb => one b hb

theorem hfin (d : Dev nD) (s' : Phys nD τ sig (Elt F)) : iprop(FIN m d ∗ SI s') ⊢ (⌜fq m d s'⌝ : sProp 𝕄) := by
  iintro ⟨⟨%MW, %ST, %hL, H⟩, HSI⟩
  ihave Hp := (held_reads d (V2 m MW ST d) s') $$ [H HSI]
  · isplitl [H] <;> iassumption
  icases Hp with %hp
  ipureintro; exact ⟨MW, ST, hL, hp⟩

/-- What the run leaves: the result, the arguments, and every counter at zero. -/
def QC : PUnit × MemSt nD τ sig (Elt F) → Prop := fun r =>
  (∀ d : Dev nD, ∃ MW ST, Leaves m d MW ST ∧ ∀ b ∈ SS, r.2.mem (d, b) = V2 m MW ST d b) ∧ r.2.sem = fun _ => 0

theorem run_main [∀ e, Nonempty (Elt F e)] (hip : ∀ d p, (IPm m d p).toNat < 432) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (IPm m) (OKm m) (Gm m) hip)
    (fun q _ => match q with | 0 => SparseCore.Cfg.VecSplit.of_plain (vecSplit (IPm m) (OKm m) (Gm m)))
    m ρ main (dealt (F := F)) (FIN m) (u₀ (F := F)) (sep_elim_left.trans (hu₀ (IPm m) (OKm m) (Gm m))) (hmain m ρ) (fq m) (hfin m) (QC m) (fun _ h hz => ⟨h, hz⟩)

/-- What the run leaves, array by array. -/
theorem ends {r : PUnit × MemSt nD τ sig (Elt F)} (h : QC m r) (d : Dev nD) :
    (∃ MW ST, Leaves m d MW ST ∧ r.2.mem ((d.tc : Thread nD τ).loc main_v24) = resultOf m MW ST d)
    ∧ r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4) := by
  obtain ⟨MW, ST, hL, hb⟩ := h.1 d
  exact ⟨⟨MW, ST, hL, (hb _ (mem_SS main_v24 rfl)).trans (V2_out m MW ST d)⟩,
    (hb _ (mem_SS main_arg0 rfl)).trans ((V2_ne m MW ST d (by decide)).trans (V1_arg0 m MW ST d)),
    (hb _ (mem_SS main_arg1 rfl)).trans ((V2_ne m MW ST d (by decide)).trans (V1_arg1 m MW ST d)),
    (hb _ (mem_SS main_arg2 rfl)).trans ((V2_ne m MW ST d (by decide)).trans (V1_arg2 m MW ST d)),
    (hb _ (mem_SS main_arg3 rfl)).trans ((V2_ne m MW ST d (by decide)).trans (V1_arg3 m MW ST d)),
    (hb _ (mem_SS main_arg4 rfl)).trans ((V2_ne m MW ST d (by decide)).trans (V1_arg4 m MW ST d))⟩

end Cert.KernelIdeal.Tile

end
-- ==== Proof.HostIdeal.lean ====
/-
  The host code around the call, read at an index: the padded planes of the indices.
-/
module

public import proofs.«01_k».proof.Proof.MainIdeal
public import Idealize.ShloMosaic.Lib.Pointwise

@[expose] public section

noncomputable section

namespace Cert.KernelIdeal.Tile

open Idealize.ShloMosaic Cert.KernelIdeal

/-- The planes of the indices at a place: the index of the pillar with that number, and zero behind the 12000 pillars. -/
theorem hostIP_at (idx : S2x12000x2.Idx → BitVec 32) (b k : Fin 2) (r : Fin 96) (c : Fin 128) :
    hostIP idx (ix4 b k r c) = if h : r.val * 128 + c.val < 12000 then idx (ix3 b ⟨r.val * 128 + c.val, h⟩ k) else 0#32 := by
  pointwise [hostIP]

/-- When every index is below 432, so is every word of the planes. -/
theorem hostIP_lt {idx : S2x12000x2.Idx → BitVec 32} (h : ∀ p, (idx p).toNat < 432) (p : S2x2x96x128.Idx) :
    (hostIP idx p).toNat < 432 := by
  obtain ⟨b, k, r, c, rfl⟩ : ∃ (b k : Fin 2) (r : Fin 96) (c : Fin 128), p = ix4 b k r c :=
    ⟨p 0, p 1, p 2, p 3, (ValueIdx.eq_ix4 p).trans (ix4_eq_valueIdx ..).symm⟩
  rw [hostIP_at]
  split
  · exact h _
  · decide

end Cert.KernelIdeal.Tile

end
-- ==== Proof.Padded.lean ====
/-
  A block of the first call over the extended reals: the largest projection of each pillar, and what the block adds to
  the moments.
-/
module

public import proofs.«01_k».proof.Proof.BlockIdeal
public import Idealize.ShloMosaic.Lib.Pointwise
public import Idealize.ShloMosaic.Lib.IdealHost
public import Idealize.ShloMosaic.Lib.Routing.Words
public import Idealize.ShloMosaic.Lib.StableHlo.Predicate

@[expose] public section

noncomputable section

namespace Cert.KernelIdeal.Tile

open Cert.KernelIdeal Cert.KernelIdeal.Gen Cert.Scatter

open Idealize.ShloMosaic

/-- The point that lane `l` of the padded row of a pillar holds: its own, and from lane 100 on the first ones again. -/
def laneOf (l : Fin 128) : Fin 100 := if h : l.val < 100 then ⟨l.val, h⟩ else ⟨l.val - 100, by omega⟩

/-- The padded points of a quarter of a block. -/
theorem padded_at (X : Vec Ideal S1x4x256x100 .f32) (d : Fin 4) (r : Fin 256) (l : Fin 128) :
    k0_pay3 X (ix2 d (⟨r.val * 128 + l.val, by omega⟩ : Fin 32768)) = X (ix4 0 d r (laneOf l)) := by
  pointwise [k0_pay3]
  unfold laneOf
  split <;> rfl

/-- The projections of a quarter of a block. -/
theorem proj_at (X : Vec Ideal S1x4x256x100 .f32) (Wt : Vec Ideal S64x4 .f32) (r : Fin 256) (l : Fin 128) (c : Fin 64) :
    shapeCast S256x128x64 (matmul (φ₂ := .f32) dot_S4x32768_S64x4_S32768x64_0_1_1_0_n_n none (k0_pay3 X) Wt (constant S32768x64 .f32 0x00000000#32))
      shapeCasts_S32768x64_S256x128x64 (ix3 r l c) = ∑ d : Fin 4, X (ix4 0 d r (laneOf l)) * Wt (ix2 c d) := by
  pointwise []
  exact Finset.sum_congr rfl fun d _ => congrArg (· * _) (padded_at X d r l)

/-- The maximum of the two halves of a row has the row's maximum. -/
theorem halves {K N : ℕ} (hN : N = K + K) (y : FVec Ideal ⟨3, ![256, N, 64]⟩ .f32)
    (h0 : (⟨3, ![256, N, 64]⟩ : Shape).Slices ![0, 0, 0] ⟨3, ![256, K, 64]⟩) (h1 : (⟨3, ![256, N, 64]⟩ : Shape).Slices ![0, K, 0] ⟨3, ![256, K, 64]⟩)
    (r : Fin 256) (c : Fin 64) :
    Finset.univ.sup (fun k : Fin K => maximumf (extractStridedSlice ⟨3, ![256, K, 64]⟩ ![0, 0, 0] y h0) (extractStridedSlice ⟨3, ![256, K, 64]⟩ ![0, K, 0] y h1) (ix3 r k c))
      = Finset.univ.sup (fun k : Fin N => y (ix3 r k c)) := by
  subst hN
  have e : ∀ k : Fin K, maximumf (extractStridedSlice ⟨3, ![256, K, 64]⟩ ![0, 0, 0] y h0) (extractStridedSlice ⟨3, ![256, K, 64]⟩ ![0, K, 0] y h1) (ix3 r k c)
      = max (y (ix3 r (Fin.castAdd K k) c)) (y (ix3 r (Fin.natAdd K k) c)) := fun k => by
    refine congrArg₂ max (congrArg y (funext fun a => ?_)) (congrArg y (funext fun a => ?_)) <;>
    · match a with
      | ⟨0, _⟩ => exact Fin.ext (Nat.zero_add _)
      | ⟨1, _⟩ => exact Fin.ext (by first | exact Nat.zero_add _ | rfl)
      | ⟨2, _⟩ => exact Fin.ext (Nat.zero_add _)
  apply le_antisymm
  · refine Finset.sup_le fun k _ => ?_
    rw [e]
    exact max_le (Finset.le_sup (f := fun k : Fin (K + K) => y (ix3 r k c)) (Finset.mem_univ _)) (Finset.le_sup (f := fun k : Fin (K + K) => y (ix3 r k c)) (Finset.mem_univ _))
  · refine Finset.sup_le fun k _ => ?_
    induction k using Fin.addCases with
    | left k => exact le_trans (le_trans (le_max_left _ _) (e k).ge) (Finset.le_sup (f := fun k : Fin K => maximumf (extractStridedSlice ⟨3, ![256, K, 64]⟩ ![0, 0, 0] y h0) (extractStridedSlice ⟨3, ![256, K, 64]⟩ ![0, K, 0] y h1) (ix3 r k c)) (Finset.mem_univ k))
    | right k => exact le_trans (le_trans (le_max_right _ _) (e k).ge) (Finset.le_sup (f := fun k : Fin K => maximumf (extractStridedSlice ⟨3, ![256, K, 64]⟩ ![0, 0, 0] y h0) (extractStridedSlice ⟨3, ![256, K, 64]⟩ ![0, K, 0] y h1) (ix3 r k c)) (Finset.mem_univ k))

/-- Dropping the middle axis of one element. -/
theorem drop_at (y : FVec Ideal S256x1x64 .f32) (r : Fin 256) (c : Fin 64) :
    shapeCast S256x64 y shapeCasts_S256x1x64_S256x64 (ix2 r c) = Finset.univ.sup (fun k : Fin 1 => y (ix3 r k c)) := by
  pointwise []
  exact (Finset.sup_singleton (f := fun k : Fin 1 => y (ix3 r k c)) (b := 0)).symm

/-- The largest projection of a pillar of a quarter. -/
theorem chunkMax_at (X : Vec Ideal S1x4x256x100 .f32) (Wt : Vec Ideal S64x4 .f32) (r : Fin 256) (c : Fin 64) :
    k0_pay4 X Wt (ix2 r c) = Finset.univ.sup (fun n : Fin 100 => ∑ d : Fin 4, X (ix4 0 d r n) * Wt (ix2 c d)) := by
  unfold k0_pay4
  refine (drop_at _ r c).trans ?_
  refine (halves (K := 1) (N := 2) rfl _ _ _ r c).trans ?_
  refine (halves (K := 2) (N := 4) rfl _ _ _ r c).trans ?_
  refine (halves (K := 4) (N := 8) rfl _ _ _ r c).trans ?_
  refine (halves (K := 8) (N := 16) rfl _ _ _ r c).trans ?_
  refine (halves (K := 16) (N := 32) rfl _ _ _ r c).trans ?_
  refine (halves (K := 32) (N := 64) rfl _ _ _ r c).trans ?_
  refine (halves (K := 64) (N := 128) rfl _ _ _ r c).trans ?_
  refine (Finset.sup_congr rfl fun l _ => proj_at X Wt r l c).trans ?_
  apply le_antisymm
  · exact Finset.sup_le fun l _ => Finset.le_sup (f := fun n : Fin 100 => ∑ d : Fin 4, X (ix4 0 d r n) * Wt (ix2 c d)) (Finset.mem_univ (laneOf l))
  · refine Finset.sup_le fun n _ => ?_
    have e : laneOf ⟨n.val, by omega⟩ = n := by unfold laneOf; rw [dif_pos n.isLt]
    refine le_trans (le_of_eq ?_) (Finset.le_sup (f := fun l : Fin 128 => ∑ d : Fin 4, X (ix4 0 d r (laneOf l)) * Wt (ix2 c d)) (Finset.mem_univ ⟨n.val, by omega⟩))
    rw [e]

/-- Whether a lane's point counts, in the quarter whose first pillar is `base`: it's one of the 100 and its pillar is one
    of the 12000. -/
def counts (base : BitVec 32) : IVec S4x32768 1 :=
  andi k0_pay16 (cmpi .slt (addi (broadcast S4x32768 base) (select
      (andi (cmpi .ne (subi (extui 32 (cmpi .sgt (iota .tc S4x32768 32 [1] iota_S4x32768_d1_w32) (broadcast S4x32768 0#32)) natLt_1_32)
          (extui 32 (cmpi .slt (iota .tc S4x32768 32 [1] iota_S4x32768_d1_w32) (broadcast S4x32768 0#32)) natLt_1_32))
          (broadcast S4x32768 (Scalar.subi (Scalar.extui (Scalar.cmpi .sgt 128#32 0#32)) (Scalar.extui (Scalar.cmpi .slt 128#32 0#32)))))
        (cmpi .ne (remsi (iota .tc S4x32768 32 [1] iota_S4x32768_d1_w32) (broadcast S4x32768 128#32)) (broadcast S4x32768 0#32)))
      (subi (divsi (iota .tc S4x32768 32 [1] iota_S4x32768_d1_w32) (broadcast S4x32768 128#32)) (broadcast S4x32768 1#32))
      (divsi (iota .tc S4x32768 32 [1] iota_S4x32768_d1_w32) (broadcast S4x32768 128#32)))) (broadcast S4x32768 12000#32))

/-- The points that count with a row of ones, and zero elsewhere. -/
def ones (base : BitVec 32) (v : FVec Ideal S4x32768 .f32) : FVec Ideal S5x32768 .f32 :=
  concatenate S5x32768 0 [⟨S4x32768, select (counts base) v (broadcast S4x32768 (Scalar.ofBits .f32 0x00000000#32))⟩,
    ⟨S1x32768, select (extractStridedSlice S1x32768 ![0, 0] (counts base) slices_S4x32768_o0_0_S1x32768)
      (broadcast S1x32768 (Scalar.ofBits .f32 0x3F800000#32)) (broadcast S1x32768 (Scalar.ofBits .f32 0x00000000#32))⟩] concatenates_S4x32768_S1x32768_S5x32768_d0

/-- What a quarter adds to the moments. -/
def gram (base : BitVec 32) (v : FVec Ideal S4x32768 .f32) : FVec Ideal S5x5 .f32 :=
  matmul dot_S5x32768_S5x32768_S5x5_1_1_0_0_n_n (some .fp32) (ones base v) (ones base v) (constant S5x5 .f32 0x00000000#32)

/-- The block's moments, quarter by quarter. -/
theorem blockMom_eq (a : BitVec 32) (X : S1x4x1024x100.Idx → Ideal .f32) :
    blockMom a X = addf (addf (addf (gram (a * 1024#32 + 0#32) (k0_pay3 (quarter0 X))) (gram (a * 1024#32 + 256#32) (k0_pay3 (quarter1 X))))
      (gram (a * 1024#32 + 512#32) (k0_pay3 (quarter2 X)))) (gram (a * 1024#32 + 768#32) (k0_pay3 (quarter3 X))) := by
  rfl

/-- The block's largest projections, quarter by quarter. -/
theorem blockMax_eq (X : S1x4x1024x100.Idx → Ideal .f32) (Wt : S64x4.Idx → Ideal .f32) :
    blockMax X Wt = k0_pay23 (k0_pay4 (quarter0 X) Wt) (k0_pay4 (quarter1 X) Wt) (k0_pay4 (quarter2 X) Wt) (k0_pay4 (quarter3 X) Wt) := rfl

/-- The remainder of a lane's number. -/
theorem rem_word {q : ℕ} (h : q < 32768) : IntOp.remsi .vector (BitVec.ofNat 32 q) 128#32 = BitVec.ofNat 32 (q % 128) :=
  Routing.remsi_word .vector (by omega) (by decide) (by decide)

/-- The quotient of a lane's number. -/
theorem div_word {q : ℕ} (h : q < 32768) : IntOp.divsi .vector (BitVec.ofNat 32 q) 128#32 = BitVec.ofNat 32 (q / 128) :=
  Routing.divsi_word .vector (by omega) (by decide) (by decide)

/-- The sign that a floored quotient corrects for isn't there: lane numbers are not negative. -/
theorem sign_word {q : ℕ} (h : q < 32768) {l : ℕ} (hl : q % 128 = l) (x y : BitVec 32) :
    Scalar.select (IntOp.andi (IntOp.cmpi .ne (IntOp.subi (BitVec.setWidth 32 (IntOp.cmpi .sgt (BitVec.ofNat 32 q) 0#32))
        (BitVec.setWidth 32 (IntOp.cmpi .slt (BitVec.ofNat 32 q) 0#32)))
        (Scalar.subi (Scalar.extui (Scalar.cmpi .sgt 128#32 0#32)) (Scalar.extui (Scalar.cmpi .slt 128#32 0#32))))
      (IntOp.cmpi .ne (BitVec.ofNat 32 l) 0#32)) x y = y := by
  have e : ∀ c : BitVec 1, c = 0#1 → Scalar.select c x y = y := fun c h => by subst h; rfl
  apply e
  by_cases h0 : q = 0
  · subst h0; subst hl; decide
  · have hn : (BitVec.ofNat 32 q).toNat = q := by rw [BitVec.toNat_ofNat]; omega
    have h1 : IntOp.cmpi .sgt (BitVec.ofNat 32 q) 0#32 = 1#1 := (StableHlo.Predicate.sgt_iff_toNat (by omega) (by decide)).2 (by rw [hn]; show 0 < q; omega)
    have h2 : IntOp.cmpi .slt (BitVec.ofNat 32 q) 0#32 = 0#1 := by
      have : ¬ IntOp.cmpi .slt (BitVec.ofNat 32 q) 0#32 = 1#1 := fun h => Nat.not_lt_zero _ ((StableHlo.Predicate.slt_iff_toNat (by omega) (by decide)).1 h)
      generalize IntOp.cmpi .slt (BitVec.ofNat 32 q) 0#32 = c at this
      revert c; decide
    rw [h1, h2]
    generalize IntOp.cmpi .ne (BitVec.ofNat 32 l) 0#32 = c
    revert c; decide

/-- Whether a lane of a row is one of the 100. -/
theorem lane_word : ∀ l : Fin 128,
    IntOp.cmpi .slt (Scalar.select (IntOp.andi (IntOp.xori (IntOp.cmpi .slt (BitVec.ofNat 32 l.val) 0#32) (Scalar.cmpi .slt 128#32 0#32))
      (IntOp.cmpi .ne (BitVec.ofNat 32 l.val) 0#32)) (IntOp.addi (BitVec.ofNat 32 l.val) 128#32) (BitVec.ofNat 32 l.val)) 100#32
      = BitVec.ofBool (decide (l.val < 100)) := by decide

/-- Which points count. -/
theorem counts_at (base : BitVec 32) (hb : base.toNat < 12288) (d : Fin 4) (r : Fin 256) (l : Fin 128) :
    counts base (ix2 d (⟨r.val * 128 + l.val, by omega⟩ : Fin 32768)) = BitVec.ofBool (decide (l.val < 100 ∧ base.toNat + r.val < 12000)) := by
  pointwise [counts, k0_pay16]
  have hq : r.val * 128 + l.val < 32768 := by omega
  have hm : (r.val * 128 + l.val) % 128 = l.val := by omega
  have hd : (r.val * 128 + l.val) / 128 = r.val := by omega
  have e128 : Scalar.select (Scalar.cmpi .eq 128#32 0#32) 1#32 128#32 = 128#32 := by decide
  rw [e128, rem_word hq, div_word hq, hm, hd]
  rw [sign_word hq hm, lane_word l]
  have hs : (base + BitVec.ofNat 32 r.val).toNat = base.toNat + r.val := by
    rw [BitVec.toNat_add, BitVec.toNat_ofNat]; omega
  have h2 : IntOp.cmpi .slt (IntOp.addi base (BitVec.ofNat 32 r.val)) 12000#32 = BitVec.ofBool (decide (base.toNat + r.val < 12000)) := by
    show BitVec.ofBool (BitVec.slt (base + BitVec.ofNat 32 r.val) 12000#32) = _
    refine congrArg BitVec.ofBool (Bool.eq_iff_iff.2 ?_)
    rw [decide_eq_true_eq, ← hs]
    exact (StableHlo.Predicate.ofBool_eq_one_iff _).symm.trans (StableHlo.Predicate.slt_bool_iff_toNat (b := 12000#32) (by rw [hs]; omega) (by decide))
  rw [h2]
  by_cases h3 : l.val < 100 <;> by_cases h4 : base.toNat + r.val < 12000 <;> simp [h3, h4, IntOp.andi]

/-- Row `a` of the points with the row of ones, at a point of the quarter. -/
def rowOf (X : S1x4x256x100.Idx → EReal) (a : Fin 5) (r : Fin 256) (n : Fin 100) : EReal := if h : a.val < 4 then X (ix4 0 ⟨a.val, h⟩ r n) else 1

/-- That row at a lane: its point if it counts, else zero. -/
theorem ones_at (base : BitVec 32) (hb : base.toNat < 12288) (X : Vec Ideal S1x4x256x100 .f32) (a : Fin 5) (r : Fin 256) (l : Fin 128) :
    ones base (k0_pay3 X) (ix2 a (⟨r.val * 128 + l.val, by omega⟩ : Fin 32768))
      = if l.val < 100 ∧ base.toNat + r.val < 12000 then rowOf X a r (laneOf l) else 0 := by
  have e : ∀ (P : Prop) [Decidable P] (x : EReal), Scalar.select (BitVec.ofBool (decide P)) x 0 = if P then x else 0 := fun P _ x => by
    by_cases h : P <;> simp [h, Scalar.select]
  pointwise [ones]
  unfold rowOf
  split
  · rw [counts_at base hb, e, padded_at]
  · rw [counts_at base hb, e]

/-- A quarter's moments as sums over the lanes. -/
theorem gram_eq (base : BitVec 32) (v : FVec Ideal S4x32768 .f32) (a b : Fin 5) :
    gram base v (ix2 a b) = ∑ q : Fin 32768, ones base v (ix2 a q) * ones base v (ix2 b q) := by
  pointwise [gram]

/-- A sum over the lanes is one over the pillars and the lanes of each. -/
theorem sum_lanes (f : Fin 32768 → EReal) : ∑ q, f q = ∑ r : Fin 256, ∑ l : Fin 128, f ⟨r.val * 128 + l.val, by omega⟩ := by
  rw [← Fintype.sum_prod_type']
  refine (Fintype.sum_equiv (finProdFinEquiv (m := 256) (n := 128)) _ _ fun p => ?_).symm
  exact congrArg f (Fin.ext (by show p.1.val * 128 + p.2.val = p.2.val + 128 * p.1.val; omega))

/-- What a quarter adds to the moments. -/
theorem gram_at (base : BitVec 32) (hb : base.toNat < 12288) (X : Vec Ideal S1x4x256x100 .f32) (a b : Fin 5) :
    gram base (k0_pay3 X) (ix2 a b)
      = ∑ r : Fin 256, if base.toNat + r.val < 12000 then ∑ n : Fin 100, rowOf X a r n * rowOf X b r n else 0 := by
  rw [gram_eq, sum_lanes]
  refine Finset.sum_congr rfl fun r _ => ?_
  simp only [ones_at base hb]
  by_cases h : base.toNat + r.val < 12000
  · rw [if_pos h]
    simp only [h, and_true]
    rw [Fin.sum_univ_add (a := 100) (b := 28) (fun l : Fin 128 => (if l.val < 100 then rowOf X a r (laneOf l) else 0) * (if l.val < 100 then rowOf X b r (laneOf l) else 0))]
    rw [Finset.sum_eq_zero (s := Finset.univ (α := Fin 28)) (fun l _ => by
      rw [if_neg (by show ¬ 100 + l.val < 100; omega), zero_mul]), add_zero]
    refine Finset.sum_congr rfl fun n _ => ?_
    have hn : (Fin.castAdd 28 n).val < 100 := n.isLt
    have e : laneOf (Fin.castAdd 28 n : Fin 128) = n := by unfold laneOf; rw [dif_pos hn]; rfl
    rw [if_pos hn, if_pos hn, e]
  · rw [if_neg h]
    simp only [h, and_false, if_false, zero_mul, Finset.sum_const_zero]

/-- The pillars of the four quarters of a block. -/
theorem quarter0_at (X : S1x4x1024x100.Idx → EReal) (d : Fin 4) (r : Fin 256) (n : Fin 100) :
    quarter0 (F := Ideal) X (ix4 0 d r n) = X (ix4 0 d (⟨0 + r.val, by omega⟩ : Fin 1024) n) :=
  congrArg X (funext fun a => match a with
    | ⟨0, _⟩ => rfl | ⟨1, _⟩ => Fin.ext (by show 0 + 1 * d.val = d.val; omega) | ⟨2, _⟩ => Fin.ext (by show 0 + 1 * r.val = 0 + r.val; omega) | ⟨3, _⟩ => Fin.ext (by show 0 + 1 * n.val = n.val; omega))
@[inherit_doc quarter0_at] theorem quarter1_at (X : S1x4x1024x100.Idx → EReal) (d : Fin 4) (r : Fin 256) (n : Fin 100) :
    quarter1 (F := Ideal) X (ix4 0 d r n) = X (ix4 0 d (⟨256 + r.val, by omega⟩ : Fin 1024) n) :=
  congrArg X (funext fun a => match a with
    | ⟨0, _⟩ => rfl | ⟨1, _⟩ => Fin.ext (by show 0 + 1 * d.val = d.val; omega) | ⟨2, _⟩ => Fin.ext (by show 256 + 1 * r.val = 256 + r.val; omega) | ⟨3, _⟩ => Fin.ext (by show 0 + 1 * n.val = n.val; omega))
@[inherit_doc quarter0_at] theorem quarter2_at (X : S1x4x1024x100.Idx → EReal) (d : Fin 4) (r : Fin 256) (n : Fin 100) :
    quarter2 (F := Ideal) X (ix4 0 d r n) = X (ix4 0 d (⟨512 + r.val, by omega⟩ : Fin 1024) n) :=
  congrArg X (funext fun a => match a with
    | ⟨0, _⟩ => rfl | ⟨1, _⟩ => Fin.ext (by show 0 + 1 * d.val = d.val; omega) | ⟨2, _⟩ => Fin.ext (by show 512 + 1 * r.val = 512 + r.val; omega) | ⟨3, _⟩ => Fin.ext (by show 0 + 1 * n.val = n.val; omega))
@[inherit_doc quarter0_at] theorem quarter3_at (X : S1x4x1024x100.Idx → EReal) (d : Fin 4) (r : Fin 256) (n : Fin 100) :
    quarter3 (F := Ideal) X (ix4 0 d r n) = X (ix4 0 d (⟨768 + r.val, by omega⟩ : Fin 1024) n) :=
  congrArg X (funext fun a => match a with
    | ⟨0, _⟩ => rfl | ⟨1, _⟩ => Fin.ext (by show 0 + 1 * d.val = d.val; omega) | ⟨2, _⟩ => Fin.ext (by show 768 + 1 * r.val = 768 + r.val; omega) | ⟨3, _⟩ => Fin.ext (by show 0 + 1 * n.val = n.val; omega))

/-- Row `a` of the points with the row of ones, at a point of the block. -/
def rowB (X : S1x4x1024x100.Idx → EReal) (a : Fin 5) (r : Fin 1024) (n : Fin 100) : EReal := if h : a.val < 4 then X (ix4 0 ⟨a.val, h⟩ r n) else 1

/-- A sum over a block's pillars is the sum of the sums over its quarters'. -/
theorem sum_quarters (f : Fin 1024 → EReal) :
    ∑ r, f r = (∑ r : Fin 256, f ⟨0 + r.val, by omega⟩) + (∑ r : Fin 256, f ⟨256 + r.val, by omega⟩) + (∑ r : Fin 256, f ⟨512 + r.val, by omega⟩)
      + ∑ r : Fin 256, f ⟨768 + r.val, by omega⟩ := by
  rw [Fin.sum_univ_add (a := 768) (b := 256) f, Fin.sum_univ_add (a := 512) (b := 256) (fun r : Fin 768 => f (Fin.castAdd 256 r)),
    Fin.sum_univ_add (a := 256) (b := 256) (fun r : Fin 512 => f (Fin.castAdd 256 (Fin.castAdd 256 r : Fin 768)))]
  refine congrArg₂ (· + ·) (congrArg₂ (· + ·) (congrArg₂ (· + ·) ?_ rfl) rfl) rfl
  exact Finset.sum_congr rfl fun r _ => congrArg f (Fin.ext (Nat.zero_add _).symm)

/-- A block's moments: the sum over the block's pillars that are among the 12000 and over their points. -/
theorem blockMom_at (j : Fin 12) (X : S1x4x1024x100.Idx → EReal) (a b : Fin 5) :
    blockMom (F := Ideal) (BitVec.ofNat 32 j.val) X (ix2 a b)
      = ∑ r : Fin 1024, if j.val * 1024 + r.val < 12000 then ∑ n : Fin 100, rowB X a r n * rowB X b r n else 0 := by
  have hn : ∀ k : ℕ, k ≤ 768 → (BitVec.ofNat 32 j.val * 1024#32 + BitVec.ofNat 32 k).toNat = j.val * 1024 + k := fun k hk => by
    simp only [BitVec.toNat_add, BitVec.toNat_mul, BitVec.toNat_ofNat]
    omega
  rw [blockMom_eq, sum_quarters]
  show gram _ _ (ix2 a b) + gram _ _ (ix2 a b) + gram _ _ (ix2 a b) + gram _ _ (ix2 a b) = _
  rw [gram_at _ (by rw [hn 0 (by omega)]; omega), gram_at _ (by rw [hn 256 (by omega)]; omega), gram_at _ (by rw [hn 512 (by omega)]; omega),
    gram_at _ (by rw [hn 768 (by omega)]; omega), hn 0 (by omega), hn 256 (by omega), hn 512 (by omega), hn 768 (by omega)]
  have key : ∀ (k : ℕ) (hk : k ≤ 768) (Q : S1x4x256x100.Idx → EReal) (_ : ∀ d r n, Q (ix4 0 d r n) = X (ix4 0 d (⟨k + r.val, by omega⟩ : Fin 1024) n)),
      (∑ r : Fin 256, if j.val * 1024 + k + r.val < 12000 then ∑ n : Fin 100, rowOf Q a r n * rowOf Q b r n else 0)
        = ∑ r : Fin 256, if j.val * 1024 + (k + r.val) < 12000 then ∑ n : Fin 100, rowB X a ⟨k + r.val, by omega⟩ n * rowB X b ⟨k + r.val, by omega⟩ n else 0 := by
    intro k hk Q hQ
    have hr : ∀ a r n, rowOf Q a r n = rowB X a ⟨k + r.val, by omega⟩ n := fun a r n => by
      unfold rowOf rowB
      split
      · exact hQ ..
      · rfl
    refine Finset.sum_congr rfl fun r _ => ?_
    rw [Nat.add_assoc]
    simp only [hr]
  rw [key 0 (by omega) _ (quarter0_at X), key 256 (by omega) _ (quarter1_at X), key 512 (by omega) _ (quarter2_at X), key 768 (by omega) _ (quarter3_at X)]

/-- A block's largest projections. -/
theorem blockMax_at (X : S1x4x1024x100.Idx → EReal) (Wt : S64x4.Idx → EReal) (c : Fin 64) (i : Fin 8) (l : Fin 128) :
    blockMax (F := Ideal) X Wt (ix4 0 c i l)
      = Finset.univ.sup (fun n : Fin 100 => ∑ d : Fin 4, X (ix4 0 d (⟨i.val * 128 + l.val, by omega⟩ : Fin 1024) n) * Wt (ix2 c d)) := by
  rw [blockMax_eq]
  have key : ∀ (k : ℕ) (Q : S1x4x256x100.Idx → EReal) (hk : k ≤ 768) (_ : ∀ d r n, Q (ix4 0 d r n) = X (ix4 0 d (⟨k + r.val, by omega⟩ : Fin 1024) n))
      (r : Fin 256) (_ : k + r.val = i.val * 128 + l.val),
      k0_pay4 (F := Ideal) Q Wt (ix2 r c) = Finset.univ.sup (fun n : Fin 100 => ∑ d : Fin 4, X (ix4 0 d (⟨i.val * 128 + l.val, by omega⟩ : Fin 1024) n) * Wt (ix2 c d)) := by
    intro k Q hk hQ r hr
    rw [chunkMax_at]
    have e : (⟨k + r.val, by omega⟩ : Fin 1024) = ⟨i.val * 128 + l.val, by omega⟩ := Fin.ext hr
    simp only [hQ, e]
  pointwise [k0_pay23]
  split
  · exact key 0 _ (by omega) (quarter0_at X) _ (Nat.zero_add _)
  split
  · exact key 256 _ (by omega) (quarter1_at X) _ (by show 256 + (i.val * 128 + l.val - 256) = _; omega)
  split
  · exact key 512 _ (by omega) (quarter2_at X) _ (by show 512 + (i.val * 128 + l.val - 256 - 256) = _; omega)
  · exact key 768 _ (by omega) (quarter3_at X) _ (by show 768 + (i.val * 128 + l.val - 256 - 256 - 256) = _; omega)

/-- The padded moments of a block, within the 5 by 5. -/
theorem accum_at (v : FVec Ideal S5x5 .f32) (Y : Vec Ideal S8x128 .f32) (a b : Fin 5) :
    k0_pay2 v Y (ix2 (⟨a.val, by omega⟩ : Fin 8) (⟨b.val, by omega⟩ : Fin 128)) = Y (ix2 (⟨a.val, by omega⟩ : Fin 8) (⟨b.val, by omega⟩ : Fin 128)) + v (ix2 a b) := by
  pointwise [k0_pay2]

end Cert.KernelIdeal.Tile

end
-- ==== Proof.Values.lean ====
/-
  What the first call leaves over the extended reals: the largest projection of every pillar, and the moments of all the points.
-/
module

public import proofs.«01_k».proof.Proof.MainIdeal
public import proofs.«01_k».proof.Proof.Padded

@[expose] public section

noncomputable section

namespace Cert.KernelIdeal.Tile

open Cert.KernelIdeal Cert.KernelIdeal.Gen Cert.Scatter
open Idealize.ShloMosaic Idealize.ShloMosaic.TcCoe Idealize.ShloMosaic.Tactic Idealize.ShloMosaic.Pipeline

variable (m : (ℓ : Loc nD τ sig) → Buf (Elt Ideal) ℓ)

/-! ## What the first call leaves -/

theorem index_x : ∀ t : Fin cfg0.N, win0_0.index t = ![t.val / 12, 0, t.val % 12, 0] :=
  (by decide +kernel : ∀ t : Fin grid0.N, win0_0.index t = ![t.val / 12, 0, t.val % 12, 0])

theorem index_mw : ∀ t : Fin cfg0.N, win0_2.index t = ![t.val / 12, 0, t.val % 12, 0] :=
  (by decide +kernel : ∀ t : Fin grid0.N, win0_2.index t = ![t.val / 12, 0, t.val % 12, 0])

theorem index_w : ∀ t : Fin cfg0.N, win0_1.index t = ![0, 0] :=
  (by decide +kernel : ∀ t : Fin grid0.N, win0_1.index t = ![0, 0])

theorem coords_1 : ∀ t : Fin cfg0.N, (grid0.coords t 1).val = t.val % 12 :=
  (by decide +kernel : ∀ t : Fin grid0.N, (grid0.coords t 1).val = t.val % 12)

theorem first_iff : ∀ t : Fin cfg0.N, isFirst (grid0.coords t) ↔ t.val = 0 :=
  (by decide +kernel : ∀ t : Fin grid0.N, isFirst (grid0.coords t) ↔ t.val = 0)

theorem xsize_x : ∀ (t : Fin cfg0.N) a, win0_0.xsize (grid0.coords t) a = ![1, 4, min 1024 (12000 - t.val % 12 * 1024), 100] a :=
  (by decide +kernel : ∀ (t : Fin grid0.N) (a : Fin 4), win0_0.xsize (grid0.coords t) a = ![1, 4, min 1024 (12000 - t.val % 12 * 1024), 100] a)

theorem covers_mw : (cfg0.win 2).Covers := by decide +kernel

theorem whole_st : (cfg0.win 3).WholeAt (⟨23, lt_of_lt_of_eq (by decide) N_0.symm⟩ : Fin cfg0.N) := by
  show win0_3.WholeAt (⟨23, by decide +kernel⟩ : Fin grid0.N)
  decide +kernel

theorem lt_24 (t : Fin cfg0.N) : t.val < 24 := lt_of_lt_of_eq t.isLt N_0

theorem xBlk_at (d : Dev nD) (t : Fin cfg0.N) (dj : S1x4x1024x100.Idx → Ideal .f32) (k : Fin 4) (r : Fin 1024) (n : Fin 100)
    (h : t.val % 12 * 1024 + r.val < 12000) :
    xBlk m d t dj (ix4 0 k r n) = argX m d (ix4 ⟨t.val / 12, by have := lt_24 t; omega⟩ k ⟨t.val % 12 * 1024 + r.val, h⟩ n) := by
  have hm : (cfg0.win 0).moved (cfg0.grid.coords t) (ix4 (0 : Fin 1) k r n) = true := by
    rw [Window.moved_iff]
    intro a
    show _ < win0_0.xsize (grid0.coords t) a
    rw [xsize_x t a]
    fin_cases a
    · exact Nat.zero_lt_one
    · exact k.isLt
    · exact Nat.lt_min.mpr ⟨r.isLt, by show r.val < 12000 - t.val % 12 * 1024; omega⟩
    · exact n.isLt
  unfold xBlk Window.fill
  rw [dif_pos hm]
  blk_simp
  show argX m d _ = _
  refine congrArg _ ?_
  blk_ext [index_x]

theorem wBlk_at (d : Dev nD) (dw : S64x4.Idx → Ideal .f32) (c : Fin 64) (k : Fin 4) : wBlk m d dw (ix2 c k) = argW m d (ix2 c k) := by
  unfold wBlk Window.fill
  rw [dif_pos (by rfl)]
  blk_simp
  show argW m d _ = _
  refine congrArg _ ?_
  blk_ext [index_w]
  · have e : win0_1.index (0 : Fin 24) 0 = 0 := congrFun (index_w _) 0
    rw [e, Nat.zero_mul, Nat.zero_add]
  · have e : win0_1.index (0 : Fin 24) 1 = 0 := congrFun (index_w _) 1
    rw [e, Nat.zero_mul, Nat.zero_add]

/-- A pillar's largest projection. -/
def best (x : S2x4x12000x100.Idx → Ideal .f32) (W : S64x4.Idx → Ideal .f32) (b : Fin 2) (c : Fin 64) (p : Fin 12000) : Ideal .f32 :=
  Finset.univ.sup (fun n : Fin 100 => ∑ k : Fin 4, x (ix4 b k p n) * W (ix2 c k))

theorem block_best (d : Dev nD) (t : Fin cfg0.N) (dj : S1x4x1024x100.Idx → Ideal .f32) (dw : S64x4.Idx → Ideal .f32) (c : Fin 64) (r : Fin 8) (l : Fin 128)
    (hp : (t.val % 12 * 8 + r.val) * 128 + l.val < 12000) :
    blockMax (xBlk m d t dj) (wBlk m d dw) (ix4 0 c r l)
      = best (argX m d) (argW m d) ⟨t.val / 12, by have := lt_24 t; omega⟩ c ⟨(t.val % 12 * 8 + r.val) * 128 + l.val, hp⟩ := by
  rw [blockMax_at]
  unfold best
  refine Finset.sup_congr rfl fun n _ => Finset.sum_congr rfl fun k _ => ?_
  rw [wBlk_at]
  refine congrArg (· * _) ?_
  refine (xBlk_at m d t dj k ⟨r.val * 128 + l.val, by omega⟩ n (by show t.val % 12 * 1024 + (r.val * 128 + l.val) < 12000; omega)).trans ?_
  exact congrArg (fun q => argX m d (ix4 _ k q n)) (Fin.ext (by show t.val % 12 * 1024 + (r.val * 128 + l.val) = _; ring))

theorem mw_all (d : Dev nD) (MW : S2x64x96x128.Idx → Ideal .f32) (h : (rd m 0 d).ArrAt 2 cfg0.N MW) (i : S2x64x96x128.Idx)
    (hp : (i 2).val * 128 + (i 3).val < 12000) : MW i = best (argX m d) (argW m d) (i 0) (i 1) ⟨(i 2).val * 128 + (i 3).val, hp⟩ := by
  obtain ⟨X, hX, hA⟩ := h.exists_exact
  rw [hA (Function.update (fun _ _ _ => Classical.arbitrary _) 2 X) fun u _ _ => by rw [Function.update_self]]
  revert hp
  have key := Dat.arrAt_forall_of_covers ((rd m 0 d).withAfter (Function.update (fun _ _ _ => Classical.arbitrary _) 2 X)) 2
    (fun (i : S2x64x96x128.Idx) (v : Ideal .f32) => ∀ hp : (i 2).val * 128 + (i 3).val < 12000, v = best (argX m d) (argW m d) (i 0) (i 1) ⟨(i 2).val * 128 + (i 3).val, hp⟩)
    covers_mw
  refine key ?_ i
  intro t hf y hp
  obtain ⟨_, -, dj, dw, e⟩ := hX t t.isLt hf
  rw [Pipeline.RDat.withAfter_after, Function.update_self, e]
  have hp' : (t.val % 12 * 8 + (y 2).val) * 128 + (y 3).val < 12000 := by
    blk_simp [index_mw] at hp
    exact hp
  have e0 : ((win0_2.blk t).view.emb y 0 : Fin 2) = (⟨t.val / 12, by have := lt_24 t; omega⟩ : Fin 2) := Fin.ext (by blk_simp [index_mw])
  have e1 : ((win0_2.blk t).view.emb y 1 : Fin 64) = y 1 := Fin.ext (by blk_simp [index_mw])
  have e2 : (⟨(win0_2.blk t).view.emb y 2 * 128 + (win0_2.blk t).view.emb y 3, hp⟩ : Fin 12000) = ⟨(t.val % 12 * 8 + (y 2).val) * 128 + (y 3).val, hp'⟩ :=
    Fin.ext (by blk_simp [index_mw])
  refine Eq.trans ?_ ((block_best m d t dj dw (y 1) (y 2) (y 3) hp').trans (congr (congr (congrArg (best _ _) e0.symm) e1.symm) e2.symm))
  refine congrArg (blockMax (xBlk m d t dj) (wBlk m d dw)) (funext fun a => Fin.ext ?_)
  fin_cases a
  · exact Nat.lt_one_iff.mp (y 0).isLt
  · rfl
  · rfl
  · rfl

/-- Row `a` of what the moments are of: a feature, or ones. -/
def row (x : S2x4x12000x100.Idx → Ideal .f32) (a : Fin 5) (b : Fin 2) (p : Fin 12000) (n : Fin 100) : Ideal .f32 :=
  if h : a.val < 4 then x (ix4 b ⟨a.val, h⟩ p n) else (1 : EReal)

/-- What a pillar adds to a moment. -/
def pillarMom (x : S2x4x12000x100.Idx → Ideal .f32) (a a' : Fin 5) (b : Fin 2) (p : ℕ) : EReal :=
  if h : p < 12000 then ∑ n : Fin 100, (row x a b ⟨p, h⟩ n * row x a' b ⟨p, h⟩ n : EReal) else 0

theorem block_mom (d : Dev nD) (t : Fin cfg0.N) (dj : S1x4x1024x100.Idx → Ideal .f32) (a a' : Fin 5) :
    blockMom (BitVec.ofNat 32 (grid0.coords t 1).val) (xBlk m d t dj) (ix2 a a')
      = ∑ r : Fin 1024, pillarMom (argX m d) a a' ⟨t.val / 12, by have := lt_24 t; omega⟩ (t.val % 12 * 1024 + r.val) := by
  rw [coords_1]
  refine (blockMom_at ⟨t.val % 12, Nat.mod_lt _ (by decide)⟩ _ a a').trans (Finset.sum_congr rfl fun r _ => ?_)
  unfold pillarMom
  by_cases h : t.val % 12 * 1024 + r.val < 12000
  · rw [if_pos h, dif_pos h]
    refine Finset.sum_congr rfl fun n _ => ?_
    have key : ∀ a : Fin 5, rowB (xBlk m d t dj) a r n = row (argX m d) a ⟨t.val / 12, by have := lt_24 t; omega⟩ ⟨t.val % 12 * 1024 + r.val, h⟩ n := fun a => by
      unfold rowB row
      by_cases ha : a.val < 4
      · rw [dif_pos ha, dif_pos ha]
        exact xBlk_at m d t dj ⟨a.val, ha⟩ r n h
      · rw [dif_neg ha, dif_neg ha]
    rw [key a, key a']
  · rw [if_neg h, dif_neg h]

/-- What the blocks up to `n` add. -/
def momTo (x : S2x4x12000x100.Idx → Ideal .f32) (a a' : Fin 5) (n : ℕ) : EReal :=
  ∑ t ∈ Finset.range n, if h : t < 24 then ∑ r : Fin 1024, pillarMom x a a' ⟨t / 12, by omega⟩ (t % 12 * 1024 + r.val) else 0

theorem st_leaves (d : Dev nD) (a a' : Fin 5) : ∀ (n : ℕ) (hn : n < cfg0.N) (X : S8x128.Idx → Ideal .f32), (rd m 0 d).Leaves 3 ⟨n, hn⟩ X →
    X (ix2 (⟨a.val, by omega⟩ : Fin 8) (⟨a'.val, by omega⟩ : Fin 128)) = momTo (argX m d) a a' (n + 1) := by
  intro n
  induction n with
  | zero =>
    rintro hn X ⟨Y, -, dj, rfl⟩
    unfold blockAcc
    rw [if_pos ((first_iff ⟨0, hn⟩).mpr rfl), accum_at, block_mom]
    unfold momTo
    rw [Finset.sum_range_succ, Finset.sum_range_zero, dif_pos (by decide)]
    refine congrArg (· + _) ?_
    pointwise [k0_pay1]
  | succ n ih =>
    rintro hn X ⟨Y, hY, dj, rfl⟩
    have hn' : n + 1 < 24 := lt_of_lt_of_eq hn N_0
    have hf : (cfg0.win 3).fetch ⟨n + 1, hn⟩ = false := rfl
    rcases ((rd m 0 d).finds_of_pos hf (Nat.succ_ne_zero n) Y).mp hY with h | h
    · have := (flush0_3 _).mp h
      change n % 24 = 23 at this
      omega
    unfold blockAcc
    rw [if_neg (fun h => absurd ((first_iff ⟨n + 1, hn⟩).mp h) (Nat.succ_ne_zero n)), accum_at, block_mom, ih (Nat.lt_of_succ_lt hn) Y h]
    unfold momTo
    rw [Finset.sum_range_succ _ (n + 1), dif_pos hn']

theorem st_all (d : Dev nD) (ST : S8x128.Idx → Ideal .f32) (h : (rd m 0 d).ArrAt 3 cfg0.N ST) (a a' : Fin 5) :
    ST (ix2 (⟨a.val, by omega⟩ : Fin 8) (⟨a'.val, by omega⟩ : Fin 128)) = momTo (argX m d) a a' 24 := by
  obtain ⟨X, hX, hG⟩ := RDat.ArrAt.emb_eq_of_wholeAt h whole_st
  refine Eq.trans ?_ (st_leaves m d a a' 23 (lt_of_lt_of_eq (by decide) N_0.symm) X hX)
  exact hG (ix2 (⟨a.val, by omega⟩ : Fin 8) (⟨a'.val, by omega⟩ : Fin 128))

/-- A moment over every point: what the blocks add together. -/
def moment (x : S2x4x12000x100.Idx → Ideal .f32) (a a' : Fin 5) : EReal :=
  ∑ b : Fin 2, ∑ p : Fin 12000, ∑ n : Fin 100, (row x a b p n * row x a' b p n : EReal)

theorem sum_cut (R C : ℕ) (f : ℕ → EReal) : ∑ j : Fin R, ∑ r : Fin C, f (j.val * C + r.val) = ∑ q : Fin (R * C), f q.val := by
  rw [← Fintype.sum_prod_type']
  refine Fintype.sum_equiv (finProdFinEquiv (m := R) (n := C)) _ _ fun p => ?_
  exact congrArg f (by show p.1.val * C + p.2.val = p.2.val + C * p.1.val; ring)

theorem sum_blocks (f : ℕ → EReal) (h : ∀ q, 12000 ≤ q → f q = 0) :
    ∑ j : Fin 12, ∑ r : Fin 1024, f (j.val * 1024 + r.val) = ∑ p : Fin 12000, f p.val := by
  rw [sum_cut 12 1024 f]
  refine (Fin.sum_univ_add (a := 12000) (b := 288) (fun q => f q.val)).trans ?_
  rw [Finset.sum_eq_zero (s := Finset.univ) (f := fun i : Fin 288 => f (Fin.natAdd 12000 i).val) fun i _ => h _ (Nat.le_add_right _ _), add_zero]
  rfl

theorem momTo_24 (x : S2x4x12000x100.Idx → Ideal .f32) (a a' : Fin 5) : momTo x a a' 24 = moment x a a' := by
  unfold momTo moment
  rw [Finset.sum_range, ← sum_cut 2 12 fun t => if h : t < 24 then ∑ r : Fin 1024, pillarMom x a a' ⟨t / 12, by omega⟩ (t % 12 * 1024 + r.val) else 0]
  refine Finset.sum_congr rfl fun b _ => ?_
  have e : ∀ j : Fin 12, (if h : b.val * 12 + j.val < 24 then ∑ r : Fin 1024, pillarMom x a a' ⟨(b.val * 12 + j.val) / 12, by omega⟩ ((b.val * 12 + j.val) % 12 * 1024 + r.val) else 0)
      = ∑ r : Fin 1024, pillarMom x a a' b (j.val * 1024 + r.val) := fun j => by
    rw [dif_pos (by omega)]
    have e0 : (⟨(b.val * 12 + j.val) / 12, by omega⟩ : Fin 2) = b := Fin.ext (by show (b.val * 12 + j.val) / 12 = b.val; omega)
    have e1 : (b.val * 12 + j.val) % 12 = j.val := by omega
    rw [e0, e1]
  rw [Finset.sum_congr rfl fun j _ => e j, sum_blocks (pillarMom x a a' b) fun q hq => by unfold pillarMom; rw [dif_neg (by omega)]]
  refine Finset.sum_congr rfl fun p _ => ?_
  unfold pillarMom
  rw [dif_pos p.isLt]

/-- WHAT THE FIRST CALL LEAVES: the largest projections of the pillars, -/
theorem leaves_mw (d : Dev nD) (MW : S2x64x96x128.Idx → Ideal .f32) (ST : S8x128.Idx → Ideal .f32) (h : Leaves m d MW ST) (b : Fin 2) (c : Fin 64) (p : Fin 12000) :
    MW (ix4 b c ⟨p.val / 128, by omega⟩ ⟨p.val % 128, Nat.mod_lt _ (by decide)⟩) = best (argX m d) (argW m d) b c p := by
  have e : p.val / 128 * 128 + p.val % 128 = p.val := by omega
  refine (mw_all m d MW h.1 _ (by show p.val / 128 * 128 + p.val % 128 < 12000; omega)).trans ?_
  exact congrArg (best (argX m d) (argW m d) b c) (Fin.ext e)

/-- and the moments. -/
theorem leaves_st (d : Dev nD) (MW : S2x64x96x128.Idx → Ideal .f32) (ST : S8x128.Idx → Ideal .f32) (h : Leaves m d MW ST) (a a' : Fin 5) :
    ST (ix2 (⟨a.val, by omega⟩ : Fin 8) (⟨a'.val, by omega⟩ : Fin 128)) = moment (argX m d) a a' :=
  (st_all m d ST h.2 a a').trans (momTo_24 _ a a')

end Cert.KernelIdeal.Tile
-- ==== Proof.Pre.lean ====
/-
  What the two preconditions say of the arguments: every index lies in the grid, and, for the second, that the points, the
  weights and the scale factor gamma are finite and gamma is not negative.
-/
module

public import proofs.«01_k».proof.Proof.Gen.Pre_in_grid
public import proofs.«01_k».proof.Proof.Gen.Pre_in_grid_bn
public import Idealize.ShloMosaic.Lib.Pointwise
public import Idealize.ShloMosaic.Lib.ReduceAll
public import Idealize.ShloMosaic.Lib.StableHlo.Predicate

@[expose] public section

noncomputable section

namespace Cert.Scatter

open Idealize.ShloMosaic

instance : Subsingleton (⟨0, ![]⟩ : Shape).Idx := ⟨fun a b => funext fun i => i.elim0⟩

/-- A word that is at least 0 and below 432, read signed, is below 432. -/
theorem word_lt {v : BitVec 32} (h : IntOp.andi (IntOp.cmpi .sge v 0#32) (IntOp.cmpi .slt v 432#32) = 1#1) : v.toNat < 432 := by
  simp only [IntOp.cmpi, IntOp.andi_eq_one, StableHlo.Predicate.ofBool_eq_one_iff, BitVec.sle_eq_decide,
    BitVec.slt_eq_decide, decide_eq_true_eq, BitVec.toInt_eq_toNat_cond, BitVec.toNat_ofNat, Nat.reducePow, Nat.reduceMod] at h
  omega

section
variable {F : FTy → Type} [FloatOps F]

variable {a0 : FVec F ⟨4, ![2, 4, 12000, 100]⟩ .f32} {a1 : IVec ⟨3, ![2, 12000, 2]⟩ 32} {a2 : FVec F ⟨2, ![64, 4]⟩ .f32} {a3 a4 : FVec F ⟨1, ![64]⟩ .f32}

/-- The first precondition: every index is below 432. -/
theorem in_grid_lt (h : Cert.Pre_in_grid.fn (F := F) a0 a1 a2 a3 a4 = fun _ => 1#1) (p : (⟨3, ![2, 12000, 2]⟩ : Shape).Idx) :
    (a1 p).toNat < 432 :=
  word_lt (Host.reduce_andi_all _ _ _ _ ix0 (congrFun h ix0) p)

/-- The second precondition, part by part. -/
theorem in_grid_bn_parts (h : Cert.Pre_in_grid_bn.fn (F := F) a0 a1 a2 a3 a4 = fun _ => 1#1) :
    (∀ p, (a1 p).toNat < 432)
    ∧ (∀ i, FloatOps.cmpf .olt (FloatOps.hostAbsf (a0 i)) (Scalar.ofBits .f32 0x7F800000#32 : F .f32) = 1#1)
    ∧ (∀ i, FloatOps.cmpf .olt (FloatOps.hostAbsf (a2 i)) (Scalar.ofBits .f32 0x7F800000#32 : F .f32) = 1#1)
    ∧ (∀ i, FloatOps.cmpf .olt (FloatOps.hostAbsf (a3 i)) (Scalar.ofBits .f32 0x7F800000#32 : F .f32) = 1#1)
    ∧ ∀ i, FloatOps.cmpf .oge (a3 i) (Scalar.ofBits .f32 0x00000000#32 : F .f32) = 1#1 := by
  have h0 := congrFun h ix0
  obtain ⟨h1, hp⟩ := IntOp.andi_eq_one.1 h0
  obtain ⟨h2, hg⟩ := IntOp.andi_eq_one.1 h1
  obtain ⟨h3, hw⟩ := IntOp.andi_eq_one.1 h2
  obtain ⟨hi, hx⟩ := IntOp.andi_eq_one.1 h3
  exact ⟨fun p => word_lt (Host.reduce_andi_all _ _ _ _ ix0 hi p), Host.reduce_andi_all _ _ _ _ ix0 hx, Host.reduce_andi_all _ _ _ _ ix0 hw,
    Host.reduce_andi_all _ _ _ _ ix0 hg, Host.reduce_andi_all _ _ _ _ ix0 hp⟩

end

end Cert.Scatter

end
-- ==== Proof.Norm.lean ====
/-
  Batch normalization of one value, in the kernel's two ways of writing it, over the extended reals.
-/
module

public import proofs.«01_k».proof.Proof.Pre
public import Idealize.ShloMosaic.Lib.IdealHost

@[expose] public section

noncomputable section

namespace Cert.Scatter

open Idealize.ShloMosaic

/-- The constant that is added to the variance. -/
abbrev eps : EReal := Ideal.ofBits .f32 0x3727C5AC#32

/-- That constant is a positive real. -/
theorem eps_eq : ∃ e : ℝ, 0 < e ∧ eps = (e : EReal) := by
  refine ⟨_, ?_, by simp [eps, Ideal.ofBits, Ideal.ieee]; rfl⟩
  positivity

/-- The infinity's bit pattern. -/
theorem ofBits_inf : Ideal.ofBits .f32 0x7F800000#32 = ⊤ := by simp [Ideal.ofBits, Ideal.ieee]

/-- A value whose absolute value is below the infinity is a real. -/
theorem real_of_lt {x : EReal} (h : Ideal.cmp .olt (max x (-x)) (Ideal.ofBits .f32 0x7F800000#32) = 1#1) :
    ∃ r : ℝ, x = (r : EReal) := by
  rw [ofBits_inf] at h
  have h' : max x (-x) < ⊤ := of_decide_eq_true ((StableHlo.Predicate.ofBool_eq_one_iff _).1 h)
  induction x using EReal.rec with
  | bot => simp at h'
  | coe r => exact ⟨r, rfl⟩
  | top => simp at h'

/-- A value that compares at least zero is at least zero. -/
theorem nonneg_of_ge {x : EReal} (h : Ideal.cmp .oge x (Ideal.ofBits .f32 0x00000000#32) = 1#1) : 0 ≤ x := by
  rw [Ideal.ofBits_zero_f32] at h
  exact of_decide_eq_true ((StableHlo.Predicate.ofBool_eq_one_iff _).1 h)

/-- Dividing by the root of a variance with the constant added is multiplying by a real, the reciprocal root. -/
theorem div_root {v : EReal} (hv : 0 ≤ v) :
    ∃ r : ℝ, Ideal.rsqrt (v + eps) = (r : EReal) ∧ ∀ x, Ideal.div x (Ideal.sqrt (v + eps)) = x * (r : EReal) := by
  obtain ⟨e, he, hee⟩ := eps_eq
  rw [hee]
  induction v using EReal.rec with
  | bot => simp at hv
  | coe r =>
    have hr : 0 ≤ r := EReal.coe_nonneg.1 hv
    have hp : 0 < r + e := by linarith
    have hs : 0 < Real.sqrt (r + e) := Real.sqrt_pos.2 hp
    rw [← EReal.coe_add]
    refine ⟨(Real.sqrt (r + e))⁻¹, ?_, fun x => ?_⟩
    · show (if r + e < 0 then (⊥ : EReal) else if r + e = 0 then ⊤ else _) = _
      rw [if_neg (not_lt.2 hp.le), if_neg hp.ne']
    · show Ideal.div x (if r + e < 0 then (⊥ : EReal) else _) = _
      rw [if_neg (not_lt.2 hp.le), Ideal.div, if_neg (by exact_mod_cast hs.ne'), EReal.coe_inv]
  | top =>
    refine ⟨0, ?_, fun x => ?_⟩
    · rw [EReal.top_add_coe]; rfl
    · rw [EReal.top_add_coe]
      show Ideal.div x ⊤ = _
      simp [Ideal.div]

/-- The reciprocal root is not negative. -/
theorem rsqrt_nonneg {v : EReal} (hv : 0 ≤ v) : 0 ≤ Ideal.rsqrt (v + eps) := by
  obtain ⟨e, he, hee⟩ := eps_eq
  rw [hee]
  induction v using EReal.rec with
  | bot => simp at hv
  | coe r =>
    have hp : 0 < r + e := by linarith [EReal.coe_nonneg.1 hv]
    rw [← EReal.coe_add]
    show 0 ≤ (if r + e < 0 then (⊥ : EReal) else if r + e = 0 then ⊤ else _)
    rw [if_neg (not_lt.2 hp.le), if_neg hp.ne']
    exact EReal.coe_nonneg.2 (inv_nonneg.2 (Real.sqrt_nonneg _))
  | top =>
    rw [EReal.top_add_coe]
    exact le_refl (0 : EReal)

/-- Subtracting a real, then scaling by one, is scaling and subtracting the scaled real. -/
theorem sub_mul_real (y : EReal) (m s : ℝ) : (y - (m : EReal)) * (s : EReal) = y * s - ((m * s : ℝ) : EReal) := by
  induction y using EReal.rec with
  | bot =>
    rw [EReal.bot_sub]
    rcases lt_trichotomy s 0 with h | h | h
    · rw [EReal.bot_mul_coe_of_neg h, EReal.top_sub_coe]
    · subst h; simp
    · rw [EReal.bot_mul_coe_of_pos h, EReal.bot_sub]
  | coe r => norm_cast; ring
  | top =>
    rw [EReal.top_sub_coe]
    rcases lt_trichotomy s 0 with h | h | h
    · rw [EReal.top_mul_coe_of_neg h, EReal.bot_sub]
    · subst h; simp
    · rw [EReal.top_mul_coe_of_pos h, EReal.top_sub_coe]

/-- Normalizing, scaling by gamma and shifting by beta is one multiplication by the scale and one addition of the bias. -/
theorem norm_eq {y mean var gamma beta : EReal} (hm : ∃ r : ℝ, mean = (r : EReal)) (hg : ∃ r : ℝ, gamma = (r : EReal))
    (hv : 0 ≤ var) :
    Ideal.div (y - mean) (Ideal.sqrt (var + eps)) * gamma + beta
      = y * (gamma * Ideal.rsqrt (var + eps)) + (beta - mean * (gamma * Ideal.rsqrt (var + eps))) := by
  obtain ⟨m, rfl⟩ := hm
  obtain ⟨g, rfl⟩ := hg
  obtain ⟨r, hr, hd⟩ := div_root hv
  rw [hd, hr, mul_assoc, ← EReal.coe_mul, ← EReal.coe_mul, mul_comm r g, sub_mul_real, ← EReal.coe_mul,
    sub_eq_add_neg, sub_eq_add_neg, add_assoc, add_comm (-_) beta]

end Cert.Scatter

end
-- ==== Proof.Stats.lean ====
/-
  The statistics of a channel: the mean and the variance of its projections, from the moments of the points and from the
  projections themselves, over the reals; and what commutes with the maximum over a pillar's points.
-/
module

public import proofs.«01_k».proof.Proof.Norm

@[expose] public section

noncomputable section

namespace Cert.Scatter

open Idealize.ShloMosaic

/-! ## Over the reals -/

section
variable {I K : Type} [Fintype I] [Fintype K] (w : K → ℝ) (x : K → I → ℝ) (N : ℝ)

/-- A point's projection. -/
def projR (i : I) : ℝ := ∑ k, x k i * w k

/-- The mean of the projections. -/
def meanR : ℝ := (∑ i, projR w x i) / N

/-- The variance of the projections. -/
def varR : ℝ := (∑ i, (projR w x i - meanR w x N) * (projR w x i - meanR w x N)) / N

/-- The mean from the sums of the points. -/
theorem mean_moments : ∑ k, w k * ((∑ i, 1 * x k i) / N) = meanR w x N := by
  unfold meanR projR
  rw [Finset.sum_comm, Finset.sum_div]
  refine Finset.sum_congr rfl fun k _ => ?_
  rw [← Finset.sum_mul]
  simp only [one_mul]
  ring

/-- The mean square from the products of the points. -/
theorem sq_moments : ∑ k, (∑ l, w l * ((∑ i, x l i * x k i) / N)) * w k = (∑ i, projR w x i * projR w x i) / N := by
  unfold projR
  have e : ∀ i, (∑ k, x k i * w k) * (∑ k, x k i * w k) = ∑ k, ∑ l, w l * (x l i * x k i) * w k := fun i => by
    rw [Finset.sum_mul_sum, Finset.sum_comm]
    exact Finset.sum_congr rfl fun k _ => Finset.sum_congr rfl fun l _ => by ring
  rw [Finset.sum_congr rfl fun i _ => e i, Finset.sum_comm, Finset.sum_div]
  refine Finset.sum_congr rfl fun k _ => ?_
  rw [Finset.sum_comm, Finset.sum_mul, Finset.sum_div]
  refine Finset.sum_congr rfl fun l _ => ?_
  rw [← Finset.sum_mul, ← Finset.mul_sum]
  ring

/-- The variance is the mean square less the mean's square. -/
theorem var_eq (hN : (Fintype.card I : ℝ) = N) (h0 : N ≠ 0) :
    (∑ i, projR w x i * projR w x i) / N - meanR w x N * meanR w x N = varR w x N := by
  unfold varR
  have e : ∀ i, (projR w x i - meanR w x N) * (projR w x i - meanR w x N)
      = projR w x i * projR w x i - 2 * meanR w x N * projR w x i + meanR w x N * meanR w x N := fun i => by ring
  rw [Finset.sum_congr rfl fun i _ => e i, Finset.sum_add_distrib, Finset.sum_sub_distrib, ← Finset.mul_sum, Finset.sum_const,
    Finset.card_univ, nsmul_eq_mul, hN]
  have hs : ∑ i, projR w x i = meanR w x N * N := by unfold meanR; field_simp
  rw [hs]
  field_simp
  ring

theorem varR_nonneg (h0 : 0 ≤ N) : 0 ≤ varR w x N :=
  div_nonneg (Finset.sum_nonneg fun _ _ => mul_self_nonneg _) h0

end

/-! ## Over the extended reals -/

/-- A sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of points that a channel's statistics are over. -/
abbrev count : EReal := Ideal.ofBits .f32 0x4A127C00#32

theorem count_eq : count = ((2400000 : ℝ) : EReal) := by
  simp [count, Ideal.ofBits, Ideal.ieee]
  rw [← EReal.coe_mul]
  norm_num

theorem div_count (a : ℝ) : Ideal.div (a : EReal) count = ((a / 2400000 : ℝ) : EReal) := by
  rw [count_eq, Ideal.div, if_neg (by exact_mod_cast (by norm_num : (2400000 : ℝ) ≠ 0))]
  rw [← EReal.coe_inv, ← EReal.coe_mul, div_eq_mul_inv]

/-- Scaling by a real that is not negative, shifting, and cutting below at zero commute with the maximum. -/
theorem sup_affine {n : ℕ} [NeZero n] (y : Fin n → EReal) {s : EReal} (hs : 0 ≤ s) (b : EReal) :
    Finset.univ.sup (fun i => max (y i * s + b) 0) = max (Finset.univ.sup y * s + b) 0 := by
  have hm : Monotone fun t : EReal => max (t * s + b) 0 := fun t u h =>
    max_le_max (add_le_add_left (mul_le_mul_of_nonneg_right h hs) b) le_rfl
  have hne : (Finset.univ : Finset (Fin n)).Nonempty := Finset.univ_nonempty
  rw [← Finset.sup'_eq_sup hne, ← Finset.sup'_eq_sup hne]
  exact (Finset.comp_sup'_eq_sup'_comp hne (fun t : EReal => max (t * s + b) 0) fun t u => hm.map_sup t u).symm

end Cert.Scatter

end
-- ==== Proof.Ref.lean ====
/-
  The reference's result, read at an index: the sum of the values of the pillars whose flat index is the cell's.
-/
module

public import proofs.«01_k».proof.Proof.Stats
public import proofs.«01_k».proof.Proof.Gen.ReferenceIdeal
public import proofs.«01_k».proof.Proof.Gen.ReferenceIdeal.Run

@[expose] public section

noncomputable section

namespace Cert.ReferenceIdeal.Value

open Cert.ReferenceIdeal Cert.ReferenceIdeal.Gen Idealize.ShloMosaic Idealize.ShloMosaic.TcCoe Idealize.SL.Sem

/-- The dimension numbers of the reference's scatter: one index word a pillar, whole rows of 64 channels added. -/
abbrev dims : ScatterDims S214272x64 S12000x1 S12000x64 := scatter_S214272x64_S12000x1_S12000x64_1_0_0_1

/-- The channel `k` of pillar `t` is added at row `r`, channel `c`, exactly when the pillar's word is `r` and `k` is `c`. -/
theorem lands (v : IVec S12000x1 32) (t : Fin 12000) (k c : Fin 64) (r : Fin 214272) :
    dims.resultIdx? (ix2 t k) v = some (ix2 r c) ↔ (v (ix2 t (0 : Fin 1))).toInt = (r.val : Int) ∧ k = c := by
  have w0 : dims.window (ix2 t k) 0 = 0 := rfl
  have w1 : dims.window (ix2 t k) 1 = k.val := rfl
  have s1 : dims.start (ix2 t k) v 1 = 0 := rfl
  have s0 : dims.start (ix2 t k) v 0 = (v (ix2 t (0 : Fin 1))).toInt := by
    show (v _).toInt = _
    congr 2
    funext b
    match b with
    | ⟨0, _⟩ => rfl
    | ⟨1, _⟩ => rfl
  have hr := r.isLt
  have hk := k.isLt
  unfold ScatterDims.resultIdx?
  split
  · next h =>
    rw [Option.some.injEq]
    have h0 := h 0
    rw [s0, w0] at h0
    constructor
    · intro e
      have e0 : (dims.start (ix2 t k) v 0 + (dims.window (ix2 t k) 0 : Int)).toNat = r.val := congrArg Fin.val (congrFun e 0)
      have e1 : (dims.start (ix2 t k) v 1 + (dims.window (ix2 t k) 1 : Int)).toNat = c.val := congrArg Fin.val (congrFun e 1)
      rw [s0, w0] at e0
      rw [s1, w1] at e1
      exact ⟨by omega, Fin.ext (by omega)⟩
    · rintro ⟨e, rfl⟩
      funext a
      apply Fin.ext
      match a with
      | ⟨0, _⟩ =>
        show (dims.start (ix2 t k) v 0 + (dims.window (ix2 t k) 0 : Int)).toNat = r.val
        rw [s0, w0]; omega
      | ⟨1, _⟩ =>
        show (dims.start (ix2 t k) v 1 + (dims.window (ix2 t k) 1 : Int)).toNat = k.val
        rw [s1, w1]; omega
  · next h =>
    refine ⟨(by intro e; cases e), ?_⟩
    rintro ⟨e, rfl⟩
    refine (h fun a => ?_).elim
    match a with
    | ⟨0, _⟩ =>
      show 0 ≤ dims.start (ix2 t k) v 0 + (dims.window (ix2 t k) 0 : Int) ∧ dims.start (ix2 t k) v 0 + (dims.window (ix2 t k) 0 : Int) < (214272 : Int)
      rw [s0, w0]; omega
    | ⟨1, _⟩ =>
      show 0 ≤ dims.start (ix2 t k) v 1 + (dims.window (ix2 t k) 1 : Int) ∧ dims.start (ix2 t k) v 1 + (dims.window (ix2 t k) 1 : Int) < (64 : Int)
      rw [s1, w1]; omega

/-- A sum over the updates of a rectangle that are in column `c` and in a row with property `P` is a sum over rows. -/
theorem sum_rows {N C : ℕ} (u : (⟨2, ![N, C]⟩ : Shape).Idx → EReal) (Q : (⟨2, ![N, C]⟩ : Shape).Idx → Prop) [DecidablePred Q]
    (P : Fin N → Prop) [DecidablePred P] (c : Fin C) (h : ∀ t k, Q (ix2 t k) ↔ P t ∧ k = c) :
    ∑ j ∈ Finset.univ.filter Q, u j = ∑ t : Fin N, if P t then u (ix2 t c) else 0 := by
  rw [← Finset.sum_filter]
  symm
  refine Finset.sum_bij (fun t _ => ix2 t c) (fun t ht => ?_) (fun a _ b _ h => ?_) (fun j hj => ?_) (fun _ _ => rfl)
  · exact Finset.mem_filter.2 ⟨Finset.mem_univ _, (h t c).2 ⟨(Finset.mem_filter.1 ht).2, rfl⟩⟩
  · exact congrFun h 0
  · obtain ⟨t, k, rfl⟩ : ∃ (t : Fin N) (k : Fin C), j = ix2 t k := ⟨j 0, j 1, by
      funext i; match i with | ⟨0, _⟩ => rfl | ⟨1, _⟩ => rfl⟩
    obtain ⟨hP, rfl⟩ := (h t k).1 (Finset.mem_filter.1 hj).2
    exact ⟨t, Finset.mem_filter.2 ⟨Finset.mem_univ _, hP⟩, rfl⟩

/-- The reference's scatter-add at a cell: the sum of the rows of the pillars whose word is the cell's row. -/
theorem scatter_at (x : FVec Ideal S214272x64 .f32) (v : IVec S12000x1 32) (u : FVec Ideal S12000x64 .f32) (r : Fin 214272) (c : Fin 64) :
    Host.scatterAdd dims x v u (ix2 r c)
      = x (ix2 r c) + ∑ t : Fin 12000, if (v (ix2 t (0 : Fin 1))).toInt = (r.val : Int) then u (ix2 t c) else 0 :=
  congrArg (x (ix2 r c) + ·) (sum_rows u _ _ c fun t k => lands v t k c r)

variable {F : FTy → Type} [FloatOps F]

/-- The flat index of every pillar: 432 times its row plus its column. -/
def flat (a5 : IVec S2x12000x2 32) : IVec S2x12000 32 :=
  addi (muli (shapeCast _ (extractStridedSlice S2x12000x1 ![0, 0, 0] a5 slices_S2x12000x2_S2x12000x1_0_0_0) shapeCasts_S2x12000x1_S2x12000)
    (broadcastInDim S2x12000 ![] bcast_S_S2x12000 (constantI S_ 32 432#32)))
    (shapeCast _ (extractStridedSlice S2x12000x1 ![0, 0, 1] a5 slices_S2x12000x2_S2x12000x1_0_0_1) shapeCasts_S2x12000x1_S2x12000)

/-- The projections of every point, channels first. -/
def projs (x : FVec F S2x4x12000x100 .f32) (w : FVec F S64x4 .f32) : FVec F S2x64x12000x100 .f32 :=
  transpose S2x64x12000x100 [1, 0, 2, 3] (Host.dotGeneral dot_S64x4_S2x4x12000x100_S64x2x12000x100_1_1_0_023_n_n none w x) transposes_S64x2x12000x100_S2x64x12000x100_1_0_2_3

/-- The mean of each channel. -/
def means (y : FVec F S2x64x12000x100 .f32) : FVec F S1x64x1x1 .f32 :=
  Host.divf (broadcastInDim S1x64x1x1 ![1] bcast_S64_S1x64x1x1_1 (Host.reduceAdd y (constant S_ .f32 0x00000000#32) reducesTo_S2x64x12000x100_S64_d0_2_3 h_S_))
    (broadcastInDim S1x64x1x1 ![] bcast_S_S1x64x1x1 (constant S_ .f32 0x4A127C00#32))

/-- The projections less their channel's mean. -/
def centred (y : FVec F S2x64x12000x100 .f32) : FVec F S2x64x12000x100 .f32 :=
  subf y (broadcastInDim S2x64x12000x100 ![0, 1, 2, 3] bcast_S1x64x1x1_S2x64x12000x100_0_1_2_3 (means y))

/-- The variance of each channel, where there are points to take it over. -/
def vars (y : FVec F S2x64x12000x100 .f32) : FVec F S1x64x1x1 .f32 :=
  select (broadcastInDim S1x64x1x1 ![] bcast_S_S1x64x1x1 (cmpf .ogt (subf (constant S_ .f32 0x4A127C00#32) (sitofp .f32 (constantI S_ 32 0#32)) : FVec F S_ .f32) (constant S_ .f32 0x00000000#32)))
    (Host.divf (broadcastInDim S1x64x1x1 ![1] bcast_S64_S1x64x1x1_1 (Host.reduceAdd (mulf (centred y) (centred y)) (constant S_ .f32 0x00000000#32) reducesTo_S2x64x12000x100_S64_d0_2_3 h_S_))
      (broadcastInDim S1x64x1x1 ![] bcast_S_S1x64x1x1 (subf (constant S_ .f32 0x4A127C00#32) (sitofp .f32 (constantI S_ 32 0#32)))))
    (broadcastInDim S1x64x1x1 ![] bcast_S_S1x64x1x1 (constant S_ .f32 0x7FC00000#32))

/-- The normalized values of every point, cut below at zero. -/
def normed (y : FVec F S2x64x12000x100 .f32) (gamma beta : FVec F S64 .f32) : FVec F S2x64x12000x100 .f32 :=
  maximumf (addf (mulf (Host.divf (centred y)
    (broadcastInDim S2x64x12000x100 ![0, 1, 2, 3] bcast_S1x64x1x1_S2x64x12000x100_0_1_2_3 (Host.sqrt (addf (vars y) (broadcastInDim S1x64x1x1 ![] bcast_S_S1x64x1x1 (constant S_ .f32 0x3727C5AC#32))))))
    (broadcastInDim S2x64x12000x100 ![0, 1, 2, 3] bcast_S1x64x1x1_S2x64x12000x100_0_1_2_3 (shapeCast _ gamma shapeCasts_S64_S1x64x1x1)))
    (broadcastInDim S2x64x12000x100 ![0, 1, 2, 3] bcast_S1x64x1x1_S2x64x12000x100_0_1_2_3 (shapeCast _ beta shapeCasts_S64_S1x64x1x1)))
    (broadcastInDim S2x64x12000x100 ![] bcast_S_S2x64x12000x100 (constant S_ .f32 0x00000000#32))

/-- The values of every pillar, channels first: the largest of its points'. -/
def feats (x : FVec F S2x4x12000x100 .f32) (w : FVec F S64x4 .f32) (gamma beta : FVec F S64 .f32) : FVec F S2x64x12000 .f32 :=
  Host.reduce FloatOps.maximumf (normed (projs x w) gamma beta) (constant S_ .f32 0xFF800000#32) reducesTo_S2x64x12000x100_S2x64x12000_d3 h_S_

/-- The index words of one batch as the scatter reads them: a negative one counts from the end. -/
def words (w : IVec S12000 32) : IVec S12000x1 32 :=
  broadcastInDim S12000x1 ![0] bcast_S12000_S12000x1_0 (select (cmpi .slt w (broadcastInDim S12000 ![] bcast_S_S12000 (constantI S_ 32 0#32)))
    (addi w (broadcastInDim S12000 ![] bcast_S_S12000 (constantI S_ 32 214272#32))) w)

/-- One batch's canvas. -/
def canvas (w : IVec S12000 32) (u : FVec F S12000x64 .f32) : FVec F S214272x64 .f32 :=
  Host.scatterAdd dims (broadcastInDim S214272x64 ![] bcast_S_S214272x64 (constant S_ .f32 0x00000000#32)) (words w) u

/-- The first batch's flat indices and values, and the second's. -/
def flat0 (a5 : IVec S2x12000x2 32) : IVec S12000 32 :=
  shapeCast _ (extractStridedSlice S1x12000 ![0, 0] (flat a5) slices_S2x12000_S1x12000_0_0) shapeCasts_S1x12000_S12000
@[inherit_doc flat0] def flat1 (a5 : IVec S2x12000x2 32) : IVec S12000 32 :=
  shapeCast _ (extractStridedSlice S1x12000 ![1, 0] (flat a5) slices_S2x12000_S1x12000_1_0) shapeCasts_S1x12000_S12000
@[inherit_doc flat0] def rows0 (f : FVec F S2x64x12000 .f32) : FVec F S12000x64 .f32 :=
  shapeCast _ (extractStridedSlice S1x12000x64 ![0, 0, 0] (transpose S2x12000x64 [0, 2, 1] f transposes_S2x64x12000_S2x12000x64_0_2_1) slices_S2x12000x64_S1x12000x64_0_0_0) shapeCasts_S1x12000x64_S12000x64
@[inherit_doc flat0] def rows1 (f : FVec F S2x64x12000 .f32) : FVec F S12000x64 .f32 :=
  shapeCast _ (extractStridedSlice S1x12000x64 ![1, 0, 0] (transpose S2x12000x64 [0, 2, 1] f transposes_S2x64x12000_S2x12000x64_0_2_1) slices_S2x12000x64_S1x12000x64_1_0_0) shapeCasts_S1x12000x64_S12000x64

/-- The two canvases stacked and brought to the result's layout. -/
def stacked (c0 c1 : FVec F S214272x64 .f32) : FVec F S2x64x496x432 .f32 :=
  transpose S2x64x496x432 [0, 3, 1, 2] (shapeCast S2x496x432x64 (concatenate S2x214272x64 0
    [⟨S1x214272x64, broadcastInDim S1x214272x64 ![1, 2] bcast_S214272x64_S1x214272x64_1_2 c0⟩,
     ⟨S1x214272x64, broadcastInDim S1x214272x64 ![1, 2] bcast_S214272x64_S1x214272x64_1_2 c1⟩]
    concatenates_S1x214272x64_S1x214272x64_S2x214272x64_d0) shapeCasts_S2x214272x64_S2x496x432x64) transposes_S2x496x432x64_S2x64x496x432_0_3_1_2

/-- The reference's result in those pieces. -/
theorem res_eq (m : (ℓ : Loc nD τ sig) → Buf (Elt F) ℓ) (c : Dev nD) :
    res_main_v58 m c = stacked
      (canvas (flat0 (m ((c.tc : Thread nD τ).loc main_arg1))) (rows0 (feats (m ((c.tc : Thread nD τ).loc main_arg0)) (m ((c.tc : Thread nD τ).loc main_arg2))
        (m ((c.tc : Thread nD τ).loc main_arg3)) (m ((c.tc : Thread nD τ).loc main_arg4)))))
      (canvas (flat1 (m ((c.tc : Thread nD τ).loc main_arg1))) (rows1 (feats (m ((c.tc : Thread nD τ).loc main_arg0)) (m ((c.tc : Thread nD τ).loc main_arg2))
        (m ((c.tc : Thread nD τ).loc main_arg3)) (m ((c.tc : Thread nD τ).loc main_arg4))))) := rfl

/-- The stack of the two canvases, at a batch: that batch's canvas. -/
theorem cat_at (c0 c1 : FVec F S214272x64 .f32) (b : Fin 2) (r : Fin 214272) (ch : Fin 64) :
    concatenate S2x214272x64 0
      [⟨S1x214272x64, broadcastInDim S1x214272x64 ![1, 2] bcast_S214272x64_S1x214272x64_1_2 c0⟩,
       ⟨S1x214272x64, broadcastInDim S1x214272x64 ![1, 2] bcast_S214272x64_S1x214272x64_1_2 c1⟩]
      concatenates_S1x214272x64_S1x214272x64_S2x214272x64_d0 (ix3 b r ch) = (if b.val = 0 then c0 else c1) (ix2 r ch) := by
  pointwise []
  match b with
  | 0 => rfl
  | 1 => rfl

/-- The result's layout: row `r`, column `c` of a canvas is its entry `432 r + c`. -/
theorem layout_at (x : FVec F S2x214272x64 .f32) (b : Fin 2) (ch : Fin 64) (i : Fin 496) (j : Fin 432) :
    transpose S2x64x496x432 [0, 3, 1, 2] (shapeCast S2x496x432x64 x shapeCasts_S2x214272x64_S2x496x432x64)
      transposes_S2x496x432x64_S2x64x496x432_0_3_1_2 (ix4 b ch i j) = x (ix3 b ⟨i.val * 432 + j.val, by omega⟩ ch) := by
  pointwise []

/-- The result at a cell. -/
theorem stacked_at (c0 c1 : FVec F S214272x64 .f32) (b : Fin 2) (ch : Fin 64) (i : Fin 496) (j : Fin 432) :
    stacked c0 c1 (ix4 b ch i j) = (if b.val = 0 then c0 else c1) (ix2 ⟨i.val * 432 + j.val, by omega⟩ ch) :=
  (layout_at _ b ch i j).trans (cat_at c0 c1 b _ ch)

/-- The flat index of a pillar of the first batch. -/
theorem flat0_at (a5 : IVec S2x12000x2 32) (t : Fin 12000) :
    flat0 a5 (ix1 t) = a5 (ix3 0 t 0) * 432#32 + a5 (ix3 0 t 1) := by
  pointwise [flat0, flat]
  rfl

/-- The flat index of a pillar of the second batch. -/
theorem flat1_at (a5 : IVec S2x12000x2 32) (t : Fin 12000) :
    flat1 a5 (ix1 t) = a5 (ix3 1 t 0) * 432#32 + a5 (ix3 1 t 1) := by
  pointwise [flat1, flat]
  rfl

/-- The rows of the first batch: its values, channels last. -/
theorem rows0_at (f : FVec F S2x64x12000 .f32) (t : Fin 12000) (ch : Fin 64) : rows0 f (ix2 t ch) = f (ix3 0 ch t) := by
  pointwise [rows0]

/-- The rows of the second batch: its values, channels last. -/
theorem rows1_at (f : FVec F S2x64x12000 .f32) (t : Fin 12000) (ch : Fin 64) : rows1 f (ix2 t ch) = f (ix3 1 ch t) := by
  pointwise [rows1]

/-- A projection. -/
theorem projs_at (x : FVec Ideal S2x4x12000x100 .f32) (w : FVec Ideal S64x4 .f32) (b : Fin 2) (c : Fin 64) (p : Fin 12000) (n : Fin 100) :
    projs x w (ix4 b c p n) = ∑ k : Fin 4, w (ix2 c k) * x (ix4 b k p n) := by
  pointwise [projs]

/-- The positions that a sum over the first, the third and the fourth axis brings together. -/
theorem sum_axes {A B C D : ℕ} (u : (⟨4, ![A, B, C, D]⟩ : Shape).Idx → EReal) (Q : (⟨4, ![A, B, C, D]⟩ : Shape).Idx → Prop) [DecidablePred Q]
    (c : Fin B) (h : ∀ a b p n, Q (ix4 a b p n) ↔ b = c) :
    ∑ j ∈ Finset.univ.filter Q, u j = ∑ i : Fin A × Fin C × Fin D, u (ix4 i.1 c i.2.1 i.2.2) := by
  symm
  refine Finset.sum_bij (fun i _ => ix4 i.1 c i.2.1 i.2.2) (fun i _ => ?_) (fun i _ j _ e => ?_) (fun j hj => ?_) (fun _ _ => rfl)
  · exact Finset.mem_filter.2 ⟨Finset.mem_univ _, (h _ _ _ _).2 rfl⟩
  · exact Prod.ext (congrFun e 0) (Prod.ext (congrFun e 2) (congrFun e 3))
  · obtain ⟨a, b, p, n, rfl⟩ : ∃ (a : Fin A) (b : Fin B) (p : Fin C) (n : Fin D), j = ix4 a b p n := ⟨j 0, j 1, j 2, j 3, by
      funext i; match i with | ⟨0, _⟩ => rfl | ⟨1, _⟩ => rfl | ⟨2, _⟩ => rfl | ⟨3, _⟩ => rfl⟩
    obtain rfl := (h a b p n).1 (Finset.mem_filter.1 hj).2
    exact ⟨(a, p, n), Finset.mem_univ _, rfl⟩

/-- A channel's sum over every point. -/
theorem total_at (y : FVec Ideal S2x64x12000x100 .f32) (c : Fin 64) :
    Host.reduceAdd y (constant S_ .f32 0x00000000#32) reducesTo_S2x64x12000x100_S64_d0_2_3 h_S_ (ix1 c)
      = ∑ i : Fin 2 × Fin 12000 × Fin 100, y (ix4 i.1 c i.2.1 i.2.2) := by
  have h0 : (constant (F := Ideal) S_ .f32 0x00000000#32) (Shape.Idx.first h_S_) = (0 : EReal) := Ideal.ofBits_zero_f32
  show Ideal.hostReduceAdd reducesTo_S2x64x12000x100_S64_d0_2_3 y ((constant (F := Ideal) S_ .f32 0x00000000#32) (Shape.Idx.first h_S_)) (ix1 c) = _
  rw [h0]
  refine (zero_add _).trans (sum_axes (A := 2) (B := 64) (C := 12000) (D := 100) y _ c fun a b p n => ⟨fun e => congrFun e 0, fun e => ?_⟩)
  subst e
  funext i
  match i with
  | ⟨0, _⟩ => rfl

/-- A channel's mean. -/
theorem means_at (y : FVec Ideal S2x64x12000x100 .f32) (c : Fin 64) :
    means y (ix4 0 c 0 0) = Ideal.div (∑ i : Fin 2 × Fin 12000 × Fin 100, y (ix4 i.1 c i.2.1 i.2.2)) Cert.Scatter.count := by
  rw [← total_at]
  pointwise [means]

/-- A projection less its channel's mean. -/
theorem centred_at (y : FVec Ideal S2x64x12000x100 .f32) (b : Fin 2) (c : Fin 64) (p : Fin 12000) (n : Fin 100) :
    centred y (ix4 b c p n) = y (ix4 b c p n) - means y (ix4 0 c 0 0) := by
  pointwise [centred]

/-- A channel's variance. -/
theorem vars_at (y : FVec Ideal S2x64x12000x100 .f32) (c : Fin 64) :
    vars y (ix4 0 c 0 0) = Ideal.div (∑ i : Fin 2 × Fin 12000 × Fin 100, centred y (ix4 i.1 c i.2.1 i.2.2) * centred y (ix4 i.1 c i.2.1 i.2.2)) Cert.Scatter.count := by
  have e := total_at (mulf (centred y) (centred y)) c
  have hc : Ideal.ofBits .f32 0x4A127C00#32 - (FloatOps.sitofp .f32 0#32 : Ideal .f32) = Cert.Scatter.count := by
    have h0 : (FloatOps.sitofp .f32 0#32 : Ideal .f32) = (0 : EReal) := by
      show (((0#32 : BitVec 32).toInt : ℝ) : EReal) = 0
      simp
    rw [h0]
    exact sub_zero _
  have hp : (0 : EReal) < Cert.Scatter.count := by
    rw [Cert.Scatter.count_eq]
    exact_mod_cast (by norm_num : (0 : ℝ) < 2400000)
  have e' : Ideal.hostReduceAdd reducesTo_S2x64x12000x100_S64_d0_2_3 (mulf (centred y) (centred y)) 0 (ix1 c)
      = ∑ i : Fin 2 × Fin 12000 × Fin 100, centred y (ix4 i.1 c i.2.1 i.2.2) * centred y (ix4 i.1 c i.2.1 i.2.2) := by
    refine Eq.trans ?_ e
    pointwise []
  pointwise [vars]
  rw [hc, if_pos hp, e']

/-- A point's normalized value. -/
theorem normed_at (y : FVec Ideal S2x64x12000x100 .f32) (gamma beta : FVec Ideal S64 .f32) (b : Fin 2) (c : Fin 64) (p : Fin 12000) (n : Fin 100) :
    normed y gamma beta (ix4 b c p n)
      = max (Ideal.div (centred y (ix4 b c p n)) (Ideal.sqrt (vars y (ix4 0 c 0 0) + Cert.Scatter.eps)) * gamma (ix1 c) + beta (ix1 c)) 0 := by
  pointwise [normed]

/-- A pillar's value. -/
theorem feats_at (x : FVec Ideal S2x4x12000x100 .f32) (w : FVec Ideal S64x4 .f32) (gamma beta : FVec Ideal S64 .f32) (b : Fin 2) (c : Fin 64) (p : Fin 12000) :
    feats x w gamma beta (ix3 b c p) = Finset.univ.sup fun n : Fin 100 => normed (projs x w) gamma beta (ix4 b c p n) := by
  have hb : Ideal.ofBits .f32 0xFF800000#32 = (⊥ : EReal) := by simp [Ideal.ofBits, Ideal.ieee]
  pointwise [feats]
  rw [hb]
  rfl

/-- A word below 2³¹ is read as it is. -/
theorem words_at (w : IVec S12000 32) (t : Fin 12000) (h : (w (ix1 t)).toNat < 2 ^ 31) : words w (ix2 t 0) = w (ix1 t) := by
  pointwise [words]
  have hn : ¬ IntOp.cmpi .slt (w (ix1 t)) 0#32 = 1#1 := by
    rw [StableHlo.Predicate.slt_iff_toNat h (by decide)]
    exact Nat.not_lt_zero _
  exact if_neg hn

/-- The flat word of a row and a column below 432. -/
theorem flat_word {r c : BitVec 32} (hr : r.toNat < 432) (hc : c.toNat < 432) : (r * 432#32 + c).toNat = r.toNat * 432 + c.toNat := by
  simp only [BitVec.toNat_add, BitVec.toNat_mul, BitVec.toNat_ofNat]
  omega

/-- A batch's canvas at a cell, when its words are the flat words of rows and columns below 432: the sum of the values of
    the pillars that lie there. -/
theorem canvas_at (w : IVec S12000 32) (u : FVec Ideal S12000x64 .f32) (r k : Fin 12000 → BitVec 32)
    (hw : ∀ t, w (ix1 t) = r t * 432#32 + k t) (hr : ∀ t, (r t).toNat < 432) (hk : ∀ t, (k t).toNat < 432)
    (i : Fin 496) (j : Fin 432) (ch : Fin 64) :
    canvas w u (ix2 ⟨i.val * 432 + j.val, by omega⟩ ch)
      = ∑ t : Fin 12000, if (r t).toNat = i.val ∧ (k t).toNat = j.val then u (ix2 t ch) else 0 := by
  have hn : ∀ t, (w (ix1 t)).toNat = (r t).toNat * 432 + (k t).toNat := fun t => by rw [hw, flat_word (hr t) (hk t)]
  have h0 : broadcastInDim S214272x64 ![] bcast_S_S214272x64 (constant (F := Ideal) S_ .f32 0x00000000#32) (ix2 ⟨i.val * 432 + j.val, by omega⟩ ch) = (0 : EReal) :=
    Ideal.ofBits_zero_f32
  unfold canvas
  rw [scatter_at, h0, zero_add]
  refine Finset.sum_congr rfl fun t _ => if_congr ?_ rfl rfl
  have := hr t
  have := hk t
  have hlt : (w (ix1 t)).toNat < 2 ^ 31 := by rw [hn]; omega
  rw [words_at w t hlt, StableHlo.Predicate.toInt_eq_toNat_of_lt hlt, hn]
  have := j.isLt
  constructor
  · intro e
    have e' : (r t).toNat * 432 + (k t).toNat = i.val * 432 + j.val := by exact_mod_cast e
    omega
  · rintro ⟨e1, e2⟩
    rw [e1, e2]

end Cert.ReferenceIdeal.Value

end
-- ==== Proof.Equation.lean ====
/-
  The kernel's canvases are the reference's, over the extended reals.
-/
module

public import proofs.«01_k».proof.Proof.HostIdeal
public import proofs.«01_k».proof.Proof.Values
public import proofs.«01_k».proof.Proof.Ref

@[expose] public section

noncomputable section

namespace Cert.Scatter

open Idealize.ShloMosaic Cert.KernelIdeal.Tile Cert.ReferenceIdeal.Value

/-- Adding values one after another, over the numbers below `n` that have a property, is their sum. -/
theorem fold_eq_sum (f : ℕ → EReal) (P : ℕ → Prop) [DecidablePred P] (n : ℕ) :
    ((List.range n).filter (fun p => decide (P p))).foldl (fun a p => a + f p) 0 = ∑ t : Fin n, if P t.val then f t.val else 0 := by
  induction n with
  | zero => rfl
  | succ n ih =>
    rw [List.range_succ, List.filter_append, List.foldl_append, ih, Fin.sum_univ_castSucc]
    by_cases h : P n <;> simp [h]

/-- Where the maximum of a pillar is, and where a moment is. -/
theorem row_lt (p : Fin 12000) : p.val / 128 < 96 := by omega
@[inherit_doc row_lt] theorem lane_lt (p : Fin 12000) : p.val % 128 < 128 := Nat.mod_lt _ (by decide)
@[inherit_doc row_lt] theorem lt_eight (a : Fin 5) : a.val < 8 := by omega
@[inherit_doc row_lt] theorem lt_lanes (a : Fin 5) : a.val < 128 := by omega

/-! ## The statistics -/

/-- The points of a batch of pillars: batch, pillar, point. -/
abbrev Pt : Type := Fin 2 × Fin 12000 × Fin 100

theorem card_pt : (Fintype.card Pt : ℝ) = 2400000 := by
  have e : Fintype.card Pt = 2400000 := by simp [Fintype.card_prod]
  rw [e]
  norm_num

section
variable (xr : (⟨4, ![2, 4, 12000, 100]⟩ : Shape).Idx → ℝ) (wr : (⟨2, ![64, 4]⟩ : Shape).Idx → ℝ)

/-- A feature at every point, and a channel's weights. -/
def featR (k : Fin 4) (i : Pt) : ℝ := xr (ix4 i.1 k i.2.1 i.2.2)
@[inherit_doc featR] def weightR (c : Fin 64) (k : Fin 4) : ℝ := wr (ix2 c k)

/-- A channel's projection, mean and variance. -/
abbrev projC (c : Fin 64) (i : Pt) : ℝ := projR (weightR wr c) (featR xr) i
@[inherit_doc projC] abbrev meanC (c : Fin 64) : ℝ := meanR (weightR wr c) (featR xr) 2400000
@[inherit_doc projC] abbrev varC (c : Fin 64) : ℝ := varR (weightR wr c) (featR xr) 2400000

variable {x : FVec Ideal ⟨4, ![2, 4, 12000, 100]⟩ .f32} {w : FVec Ideal ⟨2, ![64, 4]⟩ .f32}
  (hx : ∀ i, x i = (xr i : EReal)) (hw : ∀ i, w i = (wr i : EReal))

include hx hw

/-- The reference's projections, -/
theorem ref_proj (b : Fin 2) (c : Fin 64) (p : Fin 12000) (n : Fin 100) : projs x w (ix4 b c p n) = (projC xr wr c (b, p, n) : EReal) := by
  rw [projs_at]
  unfold projC projR
  rw [coe_sum]
  refine Finset.sum_congr rfl fun k _ => ?_
  rw [hx, hw, ← EReal.coe_mul]
  exact congrArg _ (mul_comm _ _)

/-- its means, -/
theorem ref_mean (c : Fin 64) : means (projs x w) (ix4 0 c 0 0) = (meanC xr wr c : EReal) := by
  rw [means_at, Finset.sum_congr rfl fun i _ => ref_proj xr wr hx hw i.1 c i.2.1 i.2.2, ← coe_sum, div_count]
  rfl

theorem ref_centred (b : Fin 2) (c : Fin 64) (p : Fin 12000) (n : Fin 100) :
    centred (projs x w) (ix4 b c p n) = ((projC xr wr c (b, p, n) - meanC xr wr c : ℝ) : EReal) := by
  rw [centred_at, ref_proj xr wr hx hw, ref_mean xr wr hx hw, ← EReal.coe_sub]

/-- and its variances. -/
theorem ref_var (c : Fin 64) : vars (projs x w) (ix4 0 c 0 0) = (varC xr wr c : EReal) := by
  rw [vars_at]
  simp only [ref_centred xr wr hx hw, ← EReal.coe_mul]
  rw [← coe_sum, div_count]
  rfl

/-- The kernel's largest projection of a pillar. -/
theorem best_eq (b : Fin 2) (c : Fin 64) (p : Fin 12000) : best x w b c p = Finset.univ.sup fun n : Fin 100 => (projC xr wr c (b, p, n) : EReal) := by
  unfold best
  refine Finset.sup_congr rfl fun n _ => ?_
  unfold projC projR
  rw [coe_sum]
  refine Finset.sum_congr rfl fun k _ => ?_
  rw [hx, hw, ← EReal.coe_mul]
  rfl

omit hw

/-- A moment of two features, -/
theorem moment_feat (k l : Fin 4) : moment x ⟨k.val, by omega⟩ ⟨l.val, by omega⟩ = ((∑ i : Pt, featR xr k i * featR xr l i : ℝ) : EReal) := by
  unfold moment
  rw [coe_sum, Fintype.sum_prod_type]
  refine Finset.sum_congr rfl fun b _ => ?_
  rw [Fintype.sum_prod_type]
  refine Finset.sum_congr rfl fun p _ => Finset.sum_congr rfl fun n _ => ?_
  unfold row
  rw [dif_pos k.isLt, dif_pos l.isLt, hx, hx, ← EReal.coe_mul]
  rfl

/-- and of a feature alone. -/
theorem moment_one (l : Fin 4) : moment x 4 ⟨l.val, by omega⟩ = ((∑ i : Pt, 1 * featR xr l i : ℝ) : EReal) := by
  unfold moment
  rw [coe_sum, Fintype.sum_prod_type]
  refine Finset.sum_congr rfl fun b _ => ?_
  rw [Fintype.sum_prod_type]
  refine Finset.sum_congr rfl fun p _ => Finset.sum_congr rfl fun n _ => ?_
  unfold row
  rw [dif_neg (by decide), dif_pos l.isLt, hx, EReal.coe_mul]
  rfl

variable {st : FVec Ideal ⟨2, ![8, 128]⟩ .f32}
  (hs : ∀ a b : Fin 5, st (ix2 (⟨a.val, lt_eight a⟩ : Fin 8) (⟨b.val, lt_lanes b⟩ : Fin 128)) = moment x a b)

include hw hs

/-- The kernel's means, -/
theorem host_mean (c : Fin 64) : hostMean (F := Ideal) st w (ix1 c) = (meanC xr wr c : EReal) := by
  have e : hostMean (F := Ideal) st w (ix1 c) = ∑ k : Fin 4, w (ix2 c k) * Ideal.div (st (ix2 4 (⟨k.val, by omega⟩ : Fin 128))) count := by
    pointwise [hostMean]
  rw [e, meanC, ← mean_moments, coe_sum]
  refine Finset.sum_congr rfl fun k _ => ?_
  have := hs 4 ⟨k.val, by omega⟩
  rw [show st (ix2 4 (⟨k.val, by omega⟩ : Fin 128)) = _ from this, moment_one xr hx, div_count, hw, ← EReal.coe_mul]
  rfl

/-- and its variances. -/
theorem host_var (c : Fin 64) : hostVar (F := Ideal) st w (ix1 c) = (varC xr wr c : EReal) := by
  have e : hostSq (F := Ideal) st w (ix1 c)
      = ∑ k : Fin 4, (∑ l : Fin 4, w (ix2 c l) * Ideal.div (st (ix2 (⟨l.val, by omega⟩ : Fin 8) (⟨k.val, by omega⟩ : Fin 128))) count) * w (ix2 c k) := by
    pointwise [hostSq]
  have e' : hostSq (F := Ideal) st w (ix1 c) = (((∑ i, projC xr wr c i * projC xr wr c i) / 2400000 : ℝ) : EReal) := by
    rw [e, ← sq_moments, coe_sum]
    refine Finset.sum_congr rfl fun k _ => ?_
    rw [EReal.coe_mul, coe_sum, hw]
    refine congrArg (· * _) (Finset.sum_congr rfl fun l _ => ?_)
    rw [show st (ix2 (⟨l.val, by omega⟩ : Fin 8) (⟨k.val, by omega⟩ : Fin 128)) = _ from hs ⟨l.val, by omega⟩ ⟨k.val, by omega⟩, moment_feat xr hx, div_count, hw, ← EReal.coe_mul]
    rfl
  have ev : hostVar (F := Ideal) st w (ix1 c) = hostSq (F := Ideal) st w (ix1 c) - hostMean (F := Ideal) st w (ix1 c) * hostMean (F := Ideal) st w (ix1 c) := rfl
  rw [ev, e', host_mean xr wr hx hw hs, ← EReal.coe_mul, ← EReal.coe_sub, var_eq _ _ _ card_pt (by norm_num)]

end

section
variable (st : FVec Ideal ⟨2, ![8, 128]⟩ .f32) (w : FVec Ideal ⟨2, ![64, 4]⟩ .f32) (gamma beta : FVec Ideal ⟨1, ![64]⟩ .f32)

/-- The first 64 words of the table are the scales. -/
theorem hostSB_scale (ch : Fin 64) :
    hostSB (F := Ideal) st w gamma beta (ValueIdx.ix1 ⟨ch.val, by omega⟩) = gamma (ix1 ch) * Ideal.rsqrt (hostVar (F := Ideal) st w (ix1 ch) + eps) := by
  rw [← ix1_eq_valueIdx]
  pointwise [hostSB, hostScale]

/-- The last 64 words of the table are the biases. -/
theorem hostSB_bias (ch : Fin 64) :
    hostSB (F := Ideal) st w gamma beta (ValueIdx.ix1 ⟨64 + ch.val, by omega⟩)
      = beta (ix1 ch) - hostMean (F := Ideal) st w (ix1 ch) * (gamma (ix1 ch) * Ideal.rsqrt (hostVar (F := Ideal) st w (ix1 ch) + eps)) := by
  rw [← ix1_eq_valueIdx]
  pointwise [hostSB, hostScale]

end

/-! ## The canvases -/

variable {x : FVec Ideal ⟨4, ![2, 4, 12000, 100]⟩ .f32} {idx : IVec ⟨3, ![2, 12000, 2]⟩ 32} {w : FVec Ideal ⟨2, ![64, 4]⟩ .f32}
  {gamma beta : FVec Ideal ⟨1, ![64]⟩ .f32} {mw : FVec Ideal ⟨4, ![2, 64, 96, 128]⟩ .f32} {st : FVec Ideal ⟨2, ![8, 128]⟩ .f32}

/-- The planes of the indices at a pillar: its own index. -/
theorem tabOf_pos (b k : Fin 2) (t : Fin 12000) : tabOf (hostIP idx) b k (pos t.val) = idx (ix3 b t k) := by
  have h : t.val / 128 % 96 * 128 + t.val % 128 = t.val := by omega
  refine (congrArg (hostIP idx) (ix4_eq_valueIdx b k (⟨t.val / 128 % 96, by omega⟩ : Fin 96) (⟨t.val % 128, by omega⟩ : Fin 128)).symm).trans ?_
  rw [hostIP_at, dif_pos (by show t.val / 128 % 96 * 128 + t.val % 128 < 12000; omega)]
  exact congrArg (fun q => idx (ix3 b q k)) (Fin.ext h)

section
variable (hx : ∀ i, ∃ r : ℝ, x i = (r : EReal)) (hw : ∀ i, ∃ r : ℝ, w i = (r : EReal)) (hg : ∀ i, ∃ r : ℝ, gamma i = (r : EReal)) (hp : ∀ i, 0 ≤ gamma i)
  (hm : ∀ (b : Fin 2) (c : Fin 64) (p : Fin 12000), mw (ix4 b c ⟨p.val / 128, row_lt p⟩ ⟨p.val % 128, lane_lt p⟩) = best x w b c p)
  (hs : ∀ a b : Fin 5, st (ix2 (⟨a.val, lt_eight a⟩ : Fin 8) (⟨b.val, lt_lanes b⟩ : Fin 128)) = moment x a b)

include hx hw hg hp hm hs

/-- The kernel's value of a pillar's channel is the reference's. -/
theorem chanVal_pos (b : Fin 2) (ch : Fin 64) (t : Fin 12000) :
    chanVal mw (hostSB (F := Ideal) st w gamma beta) b ch (pos t.val) = feats (F := Ideal) x w gamma beta (ix3 b ch t) := by
  choose xr hxr using hx
  choose wr hwr using hw
  have hq : ix4 b ch (⟨t.val / 128, by omega⟩ : Fin 96) (⟨t.val % 128, Nat.mod_lt _ (by decide)⟩ : Fin 128)
      = ValueIdx.ix4 b ch (⟨t.val / 128 % 96, by omega⟩ : Fin 96) (⟨t.val % 128, by omega⟩ : Fin 128) := by
    rw [ix4_eq_valueIdx]
    refine congrArg (fun q => ValueIdx.ix4 b ch q _) (Fin.ext ?_)
    show t.val / 128 = t.val / 128 % 96
    omega
  have hv0 : (0 : EReal) ≤ (varC xr wr ch : EReal) := EReal.coe_nonneg.2 (varR_nonneg _ _ _ (by norm_num))
  have hsc : (0 : EReal) ≤ gamma (ix1 ch) * Ideal.rsqrt ((varC xr wr ch : EReal) + eps) := mul_nonneg (hp _) (rsqrt_nonneg hv0)
  have hn : ∀ n : Fin 100, normed (projs x w) gamma beta (ix4 b ch t n)
      = max ((projC xr wr ch (b, t, n) : EReal) * (gamma (ix1 ch) * Ideal.rsqrt ((varC xr wr ch : EReal) + eps))
        + (beta (ix1 ch) - (meanC xr wr ch : EReal) * (gamma (ix1 ch) * Ideal.rsqrt ((varC xr wr ch : EReal) + eps)))) 0 := fun n => by
    rw [normed_at, centred_at, ref_proj xr wr hxr hwr, ref_mean xr wr hxr hwr, ref_var xr wr hxr hwr, norm_eq ⟨_, rfl⟩ (hg _) hv0]
  rw [feats_at, Finset.sup_congr rfl fun n _ => hn n, sup_affine _ hsc, ← best_eq xr wr hxr hwr, ← host_var xr wr hxr hwr hs, ← host_mean xr wr hxr hwr hs,
    ← hostSB_bias st w gamma beta ch, ← hostSB_scale st w gamma beta ch, ← hm, hq]
  exact congrArg (max _) Ideal.ofBits_zero_f32

/-- A cell of the kernel's result is the sum of the values of the pillars whose row and column are the cell's. -/
theorem outVal_at (hi : ∀ p, (idx p).toNat < 432) (b : Fin 2) (ch : Fin 64) (i : Fin 496) (j : Fin 432) :
    outVal (F := Ideal) (hostIP idx) mw (hostSB (F := Ideal) st w gamma beta) (ix4 b ch i j)
      = ∑ t : Fin 12000, if (idx (ix3 b t 0)).toNat = i.val ∧ (idx (ix3 b t 1)).toNat = j.val
          then feats (F := Ideal) x w gamma beta (ix3 b ch t) else (0 : EReal) := by
  have h0 : (zero : Ideal .f32) = (0 : EReal) := Ideal.ofBits_zero_f32
  show (if i.val < 432 then ((List.range 12000).filter (fun p => decide ((tabOf (hostIP idx) b 0 (pos p)).toNat = i.val
      ∧ (tabOf (hostIP idx) b 1 (pos p)).toNat = j.val))).foldl
      (fun (a : EReal) p => a + chanVal mw (hostSB (F := Ideal) st w gamma beta) b ch (pos p)) (zero : Ideal .f32) else (zero : Ideal .f32)) = _
  rw [h0]
  split
  · rw [fold_eq_sum (fun p => chanVal mw (hostSB (F := Ideal) st w gamma beta) b ch (pos p))]
    refine Finset.sum_congr rfl fun t _ => ?_
    rw [tabOf_pos, tabOf_pos, chanVal_pos hx hw hg hp hm hs]
  · next h =>
    symm
    refine Finset.sum_eq_zero fun t _ => if_neg fun e => ?_
    have := hi (ix3 b t 0)
    omega

end

/-- The reference's cell, likewise. -/
theorem ref_at (hi : ∀ p, (idx p).toNat < 432) (f : FVec Ideal ⟨3, ![2, 64, 12000]⟩ .f32) (b : Fin 2) (ch : Fin 64) (i : Fin 496) (j : Fin 432) :
    stacked (F := Ideal) (canvas (flat0 idx) (rows0 f)) (canvas (flat1 idx) (rows1 f)) (ix4 b ch i j)
      = ∑ t : Fin 12000, if (idx (ix3 b t 0)).toNat = i.val ∧ (idx (ix3 b t 1)).toNat = j.val then f (ix3 b ch t) else (0 : EReal) := by
  rw [stacked_at]
  match b with
  | 0 =>
    refine (canvas_at _ _ (fun t => idx (ix3 0 t 0)) (fun t => idx (ix3 0 t 1)) (flat0_at idx) (fun _ => hi _) (fun _ => hi _) i j ch).trans ?_
    exact Finset.sum_congr rfl fun t _ => if_congr Iff.rfl (rows0_at f t ch) rfl
  | 1 =>
    refine (canvas_at _ _ (fun t => idx (ix3 1 t 0)) (fun t => idx (ix3 1 t 1)) (flat1_at idx) (fun _ => hi _) (fun _ => hi _) i j ch).trans ?_
    exact Finset.sum_congr rfl fun t _ => if_congr Iff.rfl (rows1_at f t ch) rfl

/-- The kernel's result is the reference's. -/
theorem outVal_eq (hi : ∀ p, (idx p).toNat < 432) (hx : ∀ i, ∃ r : ℝ, x i = (r : EReal)) (hw : ∀ i, ∃ r : ℝ, w i = (r : EReal))
    (hg : ∀ i, ∃ r : ℝ, gamma i = (r : EReal)) (hp : ∀ i, 0 ≤ gamma i)
    (hm : ∀ (b : Fin 2) (c : Fin 64) (p : Fin 12000), mw (ix4 b c ⟨p.val / 128, row_lt p⟩ ⟨p.val % 128, lane_lt p⟩) = best x w b c p)
    (hs : ∀ a b : Fin 5, st (ix2 (⟨a.val, lt_eight a⟩ : Fin 8) (⟨b.val, lt_lanes b⟩ : Fin 128)) = moment x a b) :
    outVal (F := Ideal) (hostIP idx) mw (hostSB (F := Ideal) st w gamma beta)
      = stacked (F := Ideal) (canvas (flat0 idx) (rows0 (feats x w gamma beta))) (canvas (flat1 idx) (rows1 (feats x w gamma beta))) := by
  funext o
  obtain ⟨b, ch, i, j, rfl⟩ : ∃ (b : Fin 2) (ch : Fin 64) (i : Fin 496) (j : Fin 432), o = ix4 b ch i j :=
    ⟨o 0, o 1, o 2, o 3, (ValueIdx.eq_ix4 o).trans (ix4_eq_valueIdx ..).symm⟩
  exact (outVal_at hx hw hg hp hm hs hi b ch i j).trans (ref_at hi _ b ch i j).symm

end Cert.Scatter

end
-- ==== Proof.lean ====
/-
  The claims: the kernel runs, ends with its arguments unchanged and every counter at zero, at the machine's floats and
  over the extended reals; so does the reference; and over the extended reals the two end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_grid
public import proofs.«01_k».proof.Proof.Gen.Pre_in_grid_bn
public import proofs.«01_k».proof.Proof.Host
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs at the machine's floats, for indices in the grid. -/
theorem frame_kernel : Cert.quiescent_Kernel (hKernel := Cert.Kernel.Gen.facts) (hPre_in_grid := Cert.Pre_in_grid.Gen.facts) :=
  fun m g hp => (θ_run _ _ _).mono (fun _ h => ⟨fun c => (Cert.Kernel.Tile.ends m h c).2, h.2⟩)
    (Cert.Kernel.Tile.run_main (F := Bits) m g fun d p => Cert.Kernel.Tile.hostIP_lt (fun q => Cert.Scatter.in_grid_lt (hp d) q) p)

/-- The kernel runs over the extended reals, for indices in the grid. -/
theorem frame_ideal : Cert.quiescent_KernelIdeal (hKernelIdeal := Cert.KernelIdeal.Gen.facts) (hPre_in_grid := Cert.Pre_in_grid.Gen.facts) :=
  fun m g hp => (θ_run _ _ _).mono (fun _ h => ⟨fun c => (Cert.KernelIdeal.Tile.ends m h c).2, h.2⟩)
    (Cert.KernelIdeal.Tile.run_main (F := Ideal) m g fun d p => Cert.KernelIdeal.Tile.hostIP_lt (fun q => Cert.Scatter.in_grid_lt (hp d) q) p)

/-- The kernel runs over the extended reals, from memories with the second precondition. -/
theorem run_ideal (m : (ℓ : Loc Cert.KernelIdeal.nD Cert.KernelIdeal.τ Cert.KernelIdeal.sig) → Buf (Elt Ideal) ℓ)
    (g : Dev Cert.KernelIdeal.nD → PrngReg) (hp : Cert.Pre_KernelIdeal_in_grid_bn (hPre_in_grid_bn := Cert.Pre_in_grid_bn.Gen.facts) m) :
    θ_run (Cert.KernelIdeal.defs (F := Ideal)) (Cert.KernelIdeal.threads (F := Ideal)) ⟨m, fun _ => 0, g⟩ (Cert.KernelIdeal.Tile.QC m) :=
  Cert.KernelIdeal.Tile.run_main (F := Ideal) m g fun d p => Cert.KernelIdeal.Tile.hostIP_lt (Cert.Scatter.in_grid_bn_parts (hp d)).1 p

/-- The same frame with the second precondition. -/
theorem frame_ideal_bn : Cert.quiescent_KernelIdeal_pre_in_grid_bn (hKernelIdeal := Cert.KernelIdeal.Gen.facts) (hPre_in_grid_bn := Cert.Pre_in_grid_bn.Gen.facts) :=
  fun m g hp => (θ_run _ _ _).mono (fun _ h => ⟨fun c => (Cert.KernelIdeal.Tile.ends m h c).2, h.2⟩) (run_ideal m g hp)

/-- The reference runs. -/
theorem frame_ref : Cert.quiescent_ReferenceIdeal (hReferenceIdeal := Cert.ReferenceIdeal.Gen.facts) :=
  fun m g _ => (θ_run _ _ _).mono (fun r h => ⟨fun c => (h c).2, sem_eq_zero_of_no_sems rfl r.2⟩) (Cert.ReferenceIdeal.Value.run (F := Ideal) m g)

/-- The reference's result, of the kernel's arguments. -/
def resultR (m : (ℓ : Loc Cert.KernelIdeal.nD Cert.KernelIdeal.τ Cert.KernelIdeal.sig) → Buf (Elt Ideal) ℓ) (c : Dev Cert.KernelIdeal.nD) :
    FVec Ideal ⟨4, ![2, 64, 496, 432]⟩ .f32 :=
  let y := Cert.ReferenceIdeal.Value.feats (F := Ideal) (Cert.KernelIdeal.Tile.argX m c) (Cert.KernelIdeal.Tile.argW m c) (Cert.KernelIdeal.Tile.argGamma m c) (Cert.KernelIdeal.Tile.argBeta m c)
  Cert.ReferenceIdeal.Value.stacked (F := Ideal) (Cert.ReferenceIdeal.Value.canvas (Cert.ReferenceIdeal.Value.flat0 (Cert.KernelIdeal.Tile.argIdx m c)) (Cert.ReferenceIdeal.Value.rows0 y))
    (Cert.ReferenceIdeal.Value.canvas (Cert.ReferenceIdeal.Value.flat1 (Cert.KernelIdeal.Tile.argIdx m c)) (Cert.ReferenceIdeal.Value.rows1 y))

/-- The two results are equal over the extended reals. -/
theorem equal : Cert.algebraic_KernelIdeal_ReferenceIdeal_pre_in_grid_bn (hKernelIdeal := Cert.KernelIdeal.Gen.facts)
    (hReferenceIdeal := Cert.ReferenceIdeal.Gen.facts) (hPre_in_grid_bn := Cert.Pre_in_grid_bn.Gen.facts) := by
  intro m g m' g' hp ha
  have hr := fun c => Cert.Scatter.in_grid_bn_parts (hp c)
  refine ⟨fun c => resultR m c,
    (θ_run _ _ _).mono (fun _ h c => ?_) (run_ideal m g hp),
    (θ_run _ _ _).mono (fun _ h c => ⟨(h c).1.trans ?_, (h c).2⟩) (Cert.ReferenceIdeal.Value.run (F := Ideal) m' g')⟩
  · obtain ⟨⟨mw, st, hl, he⟩, hargs⟩ := Cert.KernelIdeal.Tile.ends m h c
    obtain ⟨hi, hx, hw, hg, hg0⟩ := hr c
    exact ⟨he.trans (Cert.Scatter.outVal_eq hi (fun i => Cert.Scatter.real_of_lt (hx i)) (fun i => Cert.Scatter.real_of_lt (hw i))
      (fun i => Cert.Scatter.real_of_lt (hg i)) (fun i => Cert.Scatter.nonneg_of_ge (hg0 i))
      (Cert.KernelIdeal.Tile.leaves_mw m c mw st hl) (Cert.KernelIdeal.Tile.leaves_st m c mw st hl)), hargs⟩
  · obtain ⟨h0, h1, h2, h3, h4⟩ := ha c
    rw [Cert.ReferenceIdeal.Value.res_eq, h0, h1, h2, h3, h4]
    rfl

/-- All the claims. -/
theorem claim : Cert.Claim := ⟨Cert.Kernel.Gen.facts, Cert.KernelIdeal.Gen.facts, Cert.ReferenceIdeal.Gen.facts, Cert.Pre_in_grid.Gen.facts, Cert.Pre_in_grid_bn.Gen.facts,
  frame_kernel, frame_ideal, frame_ideal_bn, frame_ref, fun m g _ => frame_ref m g trivial, trivial, equal⟩

end Cert.Proof

end
